-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_finite1 [hPre_finite1 : Cert.Pre_finite1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_finite1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3)) (m ((c.tc : Thread Cert.Kernel1Ideal.nD Cert.Kernel1Ideal.τ).loc Cert.Kernel1Ideal.main_arg4)) (m ((c.tc : Thread Cert.Kernel1Ideal.nD Cert.Kernel1Ideal.τ).loc Cert.Kernel1Ideal.main_arg5))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_finite1 [hPre_finite1 : Cert.Pre_finite1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_finite1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3)) (m ((c.tc : Thread Cert.Reference1Ideal.nD Cert.Reference1Ideal.τ).loc Cert.Reference1Ideal.main_arg4)) (m ((c.tc : Thread Cert.Reference1Ideal.nD Cert.Reference1Ideal.τ).loc Cert.Reference1Ideal.main_arg5))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ r.2.sem = fun _ => 0)

def quiescent_Kernel1Ideal_pre_finite1 [hKernel1Ideal : Cert.Kernel1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_finite1 m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5))
      ∧ r.2.sem = fun _ => 0)

def quiescent_Reference1Ideal_pre_finite1 [hReference1Ideal : Cert.Reference1Ideal.Facts] [hPre_finite1 : Cert.Pre_finite1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_finite1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_v14) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v2) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_v18) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v2) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_v11) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v2) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_v11) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v2) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v46) = v0 c
          ∧ r.2.mem ((c.tc : Thread Cert.Reference19Ideal.nD Cert.Reference19Ideal.τ).loc Cert.Reference19Ideal.main_v31) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v7) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v57) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel1_Kernel1Ideal : Prop :=
  IdealRules.named_const.Statement Cert.Kernel1Ideal.κ "gelu_c1" .f32 0x3D372713#32 ((8943 / 200000 : ℝ) : EReal)
  ∧ IdealRules.named_const.Statement Cert.Kernel1Ideal.κ "gelu_3c1" .f32 0x3E095D4F#32 ((26829 / 200000 : ℝ) : EReal)

def algebraic_Kernel1Ideal_Reference1Ideal_pre_finite1 [hKernel1Ideal : Cert.Kernel1Ideal.Facts] [hReference1Ideal : Cert.Reference1Ideal.Facts] [hPre_finite1 : Cert.Pre_finite1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_finite1 m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)) →
    ∃ (v0 : (c : Dev Cert.Kernel1Ideal.nD) → Buf (Elt Ideal) ((c.tc : Thread Cert.Kernel1Ideal.nD Cert.Kernel1Ideal.τ).loc Cert.Kernel1Ideal.main_v7_0)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v7_0) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v121) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4)) (v1 : (c : Dev Cert.Kernel20Ideal.nD) → Buf (Elt Ideal) ((c.tc : Thread Cert.Kernel20Ideal.nD Cert.Kernel20Ideal.τ).loc Cert.Kernel20Ideal.main_v5)) (v2 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_v5) = v1 c
          ∧ r.2.mem ((c.tc : Thread Cert.Kernel20Ideal.nD Cert.Kernel20Ideal.τ).loc Cert.Kernel20Ideal.main_v6) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v5) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4)) (v1 : (c : Dev Cert.Kernel23Ideal.nD) → Buf (Elt Ideal) ((c.tc : Thread Cert.Kernel23Ideal.nD Cert.Kernel23Ideal.τ).loc Cert.Kernel23Ideal.main_v5)) (v2 : (c : Dev Cert.Kernel23Ideal.nD) → Buf (Elt Ideal) ((c.tc : Thread Cert.Kernel23Ideal.nD Cert.Kernel23Ideal.τ).loc Cert.Kernel23Ideal.main_v6)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4) = v0 c
          ∧ r.2.mem ((c.tc : Thread Cert.Kernel23Ideal.nD Cert.Kernel23Ideal.τ).loc Cert.Kernel23Ideal.main_v5) = v1 c
          ∧ r.2.mem ((c.tc : Thread Cert.Kernel23Ideal.nD Cert.Kernel23Ideal.τ).loc Cert.Kernel23Ideal.main_v6) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v5) = v1 c
          ∧ r.2.mem ((c.tc : Thread Cert.Reference23Ideal.nD Cert.Reference23Ideal.τ).loc Cert.Reference23Ideal.main_v11) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel19 : Cert.Kernel19.Facts) (hKernel19Ideal : Cert.Kernel19Ideal.Facts) (hReference19Ideal : Cert.Reference19Ideal.Facts) (hKernel17 : Cert.Kernel17.Facts) (hKernel17Ideal : Cert.Kernel17Ideal.Facts) (hReference17Ideal : Cert.Reference17Ideal.Facts) (hKernel1 : Cert.Kernel1.Facts) (hKernel1Ideal : Cert.Kernel1Ideal.Facts) (hReference1Ideal : Cert.Reference1Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite2 : Cert.Pre_finite2.Facts) (hPre_finite1 : Cert.Pre_finite1.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel1 (hKernel1 := hKernel1)
    ∧ quiescent_Kernel1Ideal (hKernel1Ideal := hKernel1Ideal)
    ∧ quiescent_Kernel1Ideal_pre_finite1 (hKernel1Ideal := hKernel1Ideal) (hPre_finite1 := hPre_finite1)
    ∧ quiescent_Reference1Ideal (hReference1Ideal := hReference1Ideal)
    ∧ quiescent_Reference1Ideal_pre_finite1 (hReference1Ideal := hReference1Ideal) (hPre_finite1 := hPre_finite1)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel19_Kernel19Ideal
    ∧ algebraic_Kernel19Ideal_Reference19Ideal (hKernel19Ideal := hKernel19Ideal) (hReference19Ideal := hReference19Ideal)
    ∧ preserves_Kernel17_Kernel17Ideal
    ∧ algebraic_Kernel17Ideal_Reference17Ideal (hKernel17Ideal := hKernel17Ideal) (hReference17Ideal := hReference17Ideal)
    ∧ preserves_Kernel1_Kernel1Ideal
    ∧ algebraic_Kernel1Ideal_Reference1Ideal_pre_finite1 (hKernel1Ideal := hKernel1Ideal) (hReference1Ideal := hReference1Ideal) (hPre_finite1 := hPre_finite1)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite1.lean ====
abbrev S8192x1024 : Shape := ⟨2, ![8192, 1024]⟩
abbrev S1x4x128x128 : Shape := ⟨4, ![1, 4, 128, 128]⟩
abbrev S1x4x128 : Shape := ⟨3, ![1, 4, 128]⟩
abbrev S512 : Shape := ⟨1, ![512]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_
  bcast_S_S512 : S_.BroadcastsInDim S512 (![] : Fin 0 → Fin S512.rank)
  reducesTo_S512_S_d0 : S512.ReducesTo [0] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S512 .f32) (main_arg5 : FVec F S8192x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x1024 .f32) (main_arg1 : FVec F S1x4x128x128 .f32) (main_arg2 : FVec F S1x4x128 .f32) (main_arg3 : FVec F S512 .f32) (main_arg4 : FVec F S512 .f32) (main_arg5 : FVec F S8192x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x4x128x128 .f32 := Host.absf main_arg1
  let main_cst_0 : FVec F S_ .f32 := constant S_ .f32 0x7F800000#32
  let main_v5 : FVec F S1x4x128x128 .f32 := broadcastInDim S1x4x128x128 ![] bcast_S_S1x4x128x128 main_cst_0
  let main_v6 : IVec S1x4x128x128 1 := cmpf .olt main_v4 main_v5
  let main_c_1 : IVec S_ 1 := constantI S_ 1 1#1
  let main_v7 : IVec S_ 1 := (fun x v => Host.reduce IntOp.andi x v reducesTo_S1x4x128x128_S_d0_1_2_3 h_S_) main_v6 main_c_1
  let main_v8 : IVec S_ 1 := andi main_v3 main_v7
  let main_v9 : FVec F S1x4x128 .f32 := Host.absf main_arg2
  let main_cst_2 : FVec F S_ .f32 := constant S_ .f32 0x7F800000#32
  let main_v10 : FVec F S1x4x128 .f32 := broadcastInDim S1x4x128 ![] bcast_S_S1x4x128 main_cst_2
  let main_v11 : IVec S1x4x128 1 := cmpf .olt main_v9 main_v10
  let main_c_3 : IVec S_ 1 := constantI S_ 1 1#1
  let main_v12 : IVec S_ 1 := (fun x v => Host.reduce IntOp.andi x v reducesTo_S1x4x128_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Pre_finite2.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v15 : IVec S_ 1) (main_v17 : FVec F S2816x1024 .f32) : IVec S_ 1 :=
  let main_cst_4 : FVec F S_ .f32 := constant S_ .f32 0x7F800000#32
  let main_v18 : FVec F S2816x1024 .f32 := broadcastInDim S2816x1024 ![] bcast_S_S2816x1024 main_cst_4
  let main_v19 : IVec S2816x1024 1 := cmpf .olt main_v17 main_v18
  let main_c_5 : IVec S_ 1 := constantI S_ 1 1#1
  let main_v20 : IVec S_ 1 := (fun x v => Host.reduce IntOp.andi x v reducesTo_S2816x1024_S_d0_1 h_S_) main_v19 main_c_5
  let main_v21 : IVec S_ 1 := andi main_v15 main_v20
  main_v21

def fn {F : FTy → Type} [FloatOps F] (main_arg0 : FVec F S8192x1024 .f32) (main_arg1 : FVec F S8192x2816 .bf16) (main_arg2 : FVec F S8192x2816 .bf16) (main_arg3 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_c_1 : IVec S_ 1 := constantI S_ 1 1#1
  let main_v8 : IVec S_ 1 := (fun x v => Host.reduce IntOp.andi x v reducesTo_S8192x2816_S_d0_1 h_S_) main_v7 main_c_1
  let main_v9 : IVec S_ 1 := andi main_v3 main_v8
  let main_v10 : FVec F S8192x2816 .f32 := (extf .f32 · bitsLt_bf16_f32) main_arg2
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v9 main_v14
  let main_v16 : FVec F S2816x1024 .f32 := (extf .f32 · bitsLt_bf16_f32) main_arg3
  let main_v17 : FVec F S2816x1024 .f32 := Host.absf main_v16
  fn_part1 (F := F) main_v15 main_v17
-- ==== Kernel2.lean ====
abbrev S8192x1024 : Shape := ⟨2, ![8192, 1024]⟩
abbrev S8192x2816 : Shape := ⟨2, ![8192, 2816]⟩
abbrev S2816x1024 : Shape := ⟨2, ![2816, 1024]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩

abbrev nD : Nat := 1
abbrev τ : Topo := Topo.v7x

variable {F : FTy → Type} [FloatOps F]
-- ==== Kernel3.lean ====
abbrev S8192x512 : Shape := ⟨2, ![8192, 512]⟩
abbrev S8192x256 : Shape := ⟨2, ![8192, 256]⟩
abbrev S8192x1024 : Shape := ⟨2, ![8192, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S8x1024 : Shape := ⟨2, ![8, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x1024, .bf16⟩
  | .hbm, ⟨3, _⟩ => ⟨S512x1024, .bf16⟩
  | .hbm, ⟨4, _⟩ => ⟨S256x1024, .bf16⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8x1024, .f32⟩
  | .hbm, ⟨11, _⟩ => ⟨S1x1024, .f32⟩
  | .hbm, ⟨12, _⟩ => ⟨S1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_16 : BitVec 32 := 0#32
  let v17 : BitVec 1 := Scalar.cmpi .eq arg1 c0_i32_16
  let v18 : BitVec 32 := Scalar.extui v17
  let c0_i32_17 : BitVec 32 := 0#32
  let v19 : BitVec 1 := Scalar.cmpi .ne v18 c0_i32_17
  v19

def k0_cond4 (i : grid0.Coords) : BitVec 1 :=
  let arg0 : BitVec 32 := BitVec.ofNat 32 (i 0).val
  let c0_i32_34 : BitVec 32 := 0#32
  let v53 : BitVec 1 := Scalar.cmpi .eq arg0 c0_i32_34
  let v54 : BitVec 32 := Scalar.extui v53
  let c0_i32_35 : BitVec 32 := 0#32
  let v55 : BitVec 1 := Scalar.cmpi .ne v54 c0_i32_35
  v55

def k0_cond5 (i : grid0.Coords) : BitVec 1 :=
  let arg0 : BitVec 32 := BitVec.ofNat 32 (i 0).val
  let c0_i32_36 : BitVec 32 := 0#32
  let v56 : BitVec 1 := Scalar.cmpi .sgt arg0 c0_i32_36
  let v57 : BitVec 32 := Scalar.extui v56
  let c0_i32_37 : BitVec 32 := 0#32
  let v58 : BitVec 1 := Scalar.cmpi .ne v57 c0_i32_37
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S8192x512 : Shape := ⟨2, ![8192, 512]⟩
abbrev S8192x256 : Shape := ⟨2, ![8192, 256]⟩
abbrev S8192x1024 : Shape := ⟨2, ![8192, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x512 : Shape := ⟨2, ![1024, 512]⟩
abbrev S1024x256 : Shape := ⟨2, ![1024, 256]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x1024, .bf16⟩
  | .hbm, ⟨3, _⟩ => ⟨S512x1024, .bf16⟩
  | .hbm, ⟨4, _⟩ => ⟨S256x1024, .bf16⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S512x1024, .f32⟩
  | .hbm, ⟨10, _⟩ => ⟨S256x1024, .f32⟩
  | .hbm, ⟨11, _⟩ => ⟨S1024x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1024x512, .f32⟩
  | .hbm, ⟨34, _⟩ => ⟨S8192x512, .f32⟩
  | .hbm, ⟨35, _⟩ => ⟨S1024x256, .f32⟩
  | .hbm, ⟨36, _⟩ => ⟨S8192x256, .f32⟩
  | .hbm, ⟨37, _⟩ => ⟨S1024x1024, .f32⟩
  | .hbm, ⟨38, _⟩ => ⟨S8192x1024, .f32⟩
  | .hbm, ⟨39, _⟩ => ⟨S8192x512, .f32⟩
  | .hbm, ⟨40, _⟩ => ⟨S8192x256, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x2048, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_7 : BitVec 32 := 0#32
  let v11 : BitVec 1 := Scalar.cmpi .ne v10 c0_i32_7
  v11

def k0_cond2 (i : grid0.Coords) : BitVec 1 :=
  let arg1 : BitVec 32 := BitVec.ofNat 32 (i 1).val
  let c0_i32_8 : BitVec 32 := 0#32
  let v12 : BitVec 1 := Scalar.cmpi .sgt arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x2048, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_7 : BitVec 32 := 0#32
  let v10 : BitVec 1 := Scalar.cmpi .ne v9 c0_i32_7
  v10

def k0_cond2 (i : grid0.Coords) : BitVec 1 :=
  let arg1 : BitVec 32 := BitVec.ofNat 32 (i 1).val
  let c0_i32_8 : BitVec 32 := 0#32
  let v11 : BitVec 1 := Scalar.cmpi .sgt arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S8192x1024, .bf16⟩
  | .hbm, ⟨5, _⟩ => ⟨S8192x2816, .bf16⟩
  | .hbm, ⟨6, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x1024 : Shape := ⟨2, ![8192, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S2816x1024, .f32⟩
  | .hbm, ⟨23, _⟩ => ⟨S1024x2816, .f32⟩
  | .hbm, ⟨24, _⟩ => ⟨S8192x2816, .f32⟩
  | .hbm, ⟨25, _⟩ => ⟨S8192x2816, .bf16⟩
  | .hbm, ⟨26, _⟩ => ⟨S2816x1024, .f32⟩
  | .hbm, ⟨27, _⟩ => ⟨S1024x2816, .f32⟩
  | .hbm, ⟨28, _⟩ => ⟨S8192x2816, .f32⟩
  | .hbm, ⟨29, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel7.lean ====
abbrev S8192x1024 : Shape := ⟨2, ![8192, 1024]⟩
abbrev S8192x2816 : Shape := ⟨2, ![8192, 2816]⟩
abbrev S2816x1024 : Shape := ⟨2, ![2816, 1024]⟩
abbrev S1024x1024 : Shape := ⟨2, ![1024, 1024]⟩
abbrev S1024x2816 : Shape := ⟨2, ![1024, 2816]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x1024, .f32⟩
  | .hbm, ⟨18, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S8192x512 : Shape := ⟨2, ![8192, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .f32⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x1024 : Shape := ⟨2, ![8192, 1024]⟩
abbrev S1024x1024 : Shape := ⟨2, ![1024, 1024]⟩
abbrev S_ : Shape := ⟨0, ![]⟩
abbrev S8192x512 : Shape := ⟨2, ![8192, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x512, .f32⟩
  | .hbm, ⟨9, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S8192x512 : Shape := ⟨2, ![8192, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x512, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x1024 : Shape := ⟨2, ![8192, 1024]⟩
abbrev S1024x1024 : Shape := ⟨2, ![1024, 1024]⟩
abbrev S_ : Shape := ⟨0, ![]⟩
abbrev S8192x512 : Shape := ⟨2, ![8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S8192x512, .f32⟩
  | .hbm, ⟨5, _⟩ => ⟨S8192x512, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x1536 : Shape := ⟨2, ![1024, 1536]⟩
abbrev S_ : Shape := ⟨0, ![]⟩
abbrev S1x1536 : Shape := ⟨2, ![1, 1536]⟩
abbrev S8192x512 : Shape := ⟨2, ![8192, 512]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S_, .f32⟩
  | .hbm, ⟨4, _⟩ => ⟨S1x1536, .f32⟩
  | .hbm, ⟨5, _⟩ => ⟨S8192x1024, .bf16⟩
  | .hbm, ⟨6, _⟩ => ⟨S8192x512, .f32⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1x1536, .f32⟩
  | .local _ .vmem, ⟨5, _⟩ => ⟨S1024x1024, .bf16⟩
  | .local _ .vmem, ⟨6, _⟩ => ⟨S1024x1024, .bf16⟩
  | .local _ .vmem, ⟨7, _⟩ => ⟨S1024x512, .f32⟩
  | .local _ .vmem, ⟨8, _⟩ => ⟨S1024x512, .f32⟩
  | .local _ .vmem, ⟨9, _⟩ => ⟨S1024x1024, .f32⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x1024 : Shape := ⟨2, ![8192, 1024]⟩
abbrev S1x1024 : Shape := ⟨2, ![1, 1024]⟩
abbrev S1024x1536 : Shape := ⟨2, ![1024, 1536]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x1536, .f32⟩
  | .hbm, ⟨21, _⟩ => ⟨S8192x1536, .f32⟩
  | .hbm, ⟨22, _⟩ => ⟨S8192x1024, .bf16⟩
  | .hbm, ⟨23, _⟩ => ⟨S8192x512, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel12.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_7 : BitVec 32 := 0#32
  let v11 : BitVec 1 := Scalar.cmpi .ne v10 c0_i32_7
  v11

def k0_cond2 (i : grid0.Coords) : BitVec 1 :=
  let arg1 : BitVec 32 := BitVec.ofNat 32 (i 1).val
  let c0_i32_8 : BitVec 32 := 0#32
  let v12 : BitVec 1 := Scalar.cmpi .sgt arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S8192x512, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S1024x512, .f32⟩
  | .hbm, ⟨7, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_7 : BitVec 32 := 0#32
  let v10 : BitVec 1 := Scalar.cmpi .ne v9 c0_i32_7
  v10

def k0_cond2 (i : grid0.Coords) : BitVec 1 :=
  let arg1 : BitVec 32 := BitVec.ofNat 32 (i 1).val
  let c0_i32_8 : BitVec 32 := 0#32
  let v11 : BitVec 1 := Scalar.cmpi .sgt arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference13Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_7 : BitVec 32 := 0#32
  let v10 : BitVec 1 := Scalar.cmpi .ne v9 c0_i32_7
  v10

def k0_cond2 (i : grid0.Coords) : BitVec 1 :=
  let arg1 : BitVec 32 := BitVec.ofNat 32 (i 1).val
  let c0_i32_8 : BitVec 32 := 0#32
  let v11 : BitVec 1 := Scalar.cmpi .sgt arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference14Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S_, .f32⟩
  | .hbm, ⟨4, _⟩ => ⟨S1024x512, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x512 : Shape := ⟨2, ![8192, 512]⟩
abbrev S8192x1024 : Shape := ⟨2, ![8192, 1024]⟩
abbrev S512x1024 : Shape := ⟨2, ![512, 1024]⟩
abbrev S8x512 : Shape := ⟨2, ![8, 512]⟩
abbrev S2048x512 : Shape := ⟨2, ![2048, 512]⟩
abbrev S2048x1024 : Shape := ⟨2, ![2048, 1024]⟩
abbrev S512x2048 : Shape := ⟨2, ![512, 2048]⟩
abbrev S512 : Shape := ⟨1, ![512]⟩
abbrev S1x512 : Shape := ⟨2, ![1, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .hbm, ⟨3, _⟩ => ⟨S8x512, .f32⟩
  | .hbm, ⟨4, _⟩ => ⟨S1x512, .f32⟩
  | .hbm, ⟨5, _⟩ => ⟨S512, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S8x512, .f32⟩
  | .local _ .vmem, ⟨6, _⟩ => ⟨S512x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_7 : BitVec 32 := 0#32
  let v10 : BitVec 1 := Scalar.cmpi .ne v9 c0_i32_7
  v10

def k0_cond2 (i : grid0.Coords) : BitVec 1 :=
  let arg1 : BitVec 32 := BitVec.ofNat 32 (i 1).val
  let c0_i32_8 : BitVec 32 := 0#32
  let v11 : BitVec 1 := Scalar.cmpi .sgt arg1 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg1 : BitVec 32 := BitVec.ofNat 32 (i 1).val
  let c0_i32_11 : BitVec 32 := 0#32
  let v19 : BitVec 1 := Scalar.cmpi .eq arg1 c0_i32_11
  let v20 : BitVec 32 := Scalar.extui v19
  let c0_i32_12 : BitVec 32 := 0#32
  let v21 : BitVec 1 := Scalar.cmpi .ne v20 c0_i32_12
  v21

def k0_cond4 (i : grid0.Coords) : BitVec 1 :=
  let arg1 : BitVec 32 := BitVec.ofNat 32 (i 1).val
  let c0_i32_13 : BitVec 32 := 0#32
  let v22 : BitVec 1 := Scalar.cmpi .sgt arg1 c0_i32_13
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference15Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S512 : Shape := ⟨1, ![512]⟩
abbrev S1024x512 : Shape := ⟨2, ![1024, 512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S1024x512, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S_, .f32⟩
  | .hbm, ⟨17, _⟩ => ⟨S512, .f32⟩
  | .hbm, ⟨18, _⟩ => ⟨S512x1024, .f32⟩
  | .hbm, ⟨19, _⟩ => ⟨S1024x512, .f32⟩
  | .hbm, ⟨20, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel16.lean ====
abbrev S8192x256 : Shape := ⟨2, ![8192, 256]⟩
abbrev S8192x1024 : Shape := ⟨2, ![8192, 1024]⟩
abbrev S256x1024 : Shape := ⟨2, ![256, 1024]⟩
abbrev S8x256 : Shape := ⟨2, ![8, 256]⟩
abbrev S2048x256 : Shape := ⟨2, ![2048, 256]⟩
abbrev S2048x1024 : Shape := ⟨2, ![2048, 1024]⟩
abbrev S256x2048 : Shape := ⟨2, ![256, 2048]⟩
abbrev S256 : Shape := ⟨1, ![256]⟩
abbrev S1x256 : Shape := ⟨2, ![1, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .hbm, ⟨3, _⟩ => ⟨S8x256, .f32⟩
  | .hbm, ⟨4, _⟩ => ⟨S1x256, .f32⟩
  | .hbm, ⟨5, _⟩ => ⟨S256, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S8x256, .f32⟩
  | .local _ .vmem, ⟨6, _⟩ => ⟨S256x2048, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_7 : BitVec 32 := 0#32
  let v10 : BitVec 1 := Scalar.cmpi .ne v9 c0_i32_7
  v10

def k0_cond2 (i : grid0.Coords) : BitVec 1 :=
  let arg1 : BitVec 32 := BitVec.ofNat 32 (i 1).val
  let c0_i32_8 : BitVec 32 := 0#32
  let v11 : BitVec 1 := Scalar.cmpi .sgt arg1 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg1 : BitVec 32 := BitVec.ofNat 32 (i 1).val
  let c0_i32_11 : BitVec 32 := 0#32
  let v19 : BitVec 1 := Scalar.cmpi .eq arg1 c0_i32_11
  let v20 : BitVec 32 := Scalar.extui v19
  let c0_i32_12 : BitVec 32 := 0#32
  let v21 : BitVec 1 := Scalar.cmpi .ne v20 c0_i32_12
  v21

def k0_cond4 (i : grid0.Coords) : BitVec 1 :=
  let arg1 : BitVec 32 := BitVec.ofNat 32 (i 1).val
  let c0_i32_13 : BitVec 32 := 0#32
  let v22 : BitVec 1 := Scalar.cmpi .sgt arg1 c0_i32_13
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference16Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S256 : Shape := ⟨1, ![256]⟩
abbrev S1024x256 : Shape := ⟨2, ![1024, 256]⟩
abbrev S1x256 : Shape := ⟨2, ![1, 256]⟩

abbrev nBuf : Space → Nat
  | .hbm => 21
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S1024x256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S256, .f32⟩
  | .hbm, ⟨15, _⟩ => ⟨S1x256, .f32⟩
  | .hbm, ⟨16, _⟩ => ⟨S_, .f32⟩
  | .hbm, ⟨17, _⟩ => ⟨S256, .f32⟩
  | .hbm, ⟨18, _⟩ => ⟨S256x1024, .f32⟩
  | .hbm, ⟨19, _⟩ => ⟨S1024x256, .f32⟩
  | .hbm, ⟨20, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel19.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S8x1024 : Shape := ⟨2, ![8, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8x1024, .f32⟩
  | .hbm, ⟨9, _⟩ => ⟨S1x1024, .f32⟩
  | .hbm, ⟨10, _⟩ => ⟨S1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | .local _ .vmem, ⟨14, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_11 : BitVec 32 := 0#32
  let v13 : BitVec 1 := Scalar.cmpi .eq arg1 c0_i32_11
  let v14 : BitVec 32 := Scalar.extui v13
  let c0_i32_12 : BitVec 32 := 0#32
  let v15 : BitVec 1 := Scalar.cmpi .ne v14 c0_i32_12
  v15

def k0_cond4 (i : grid0.Coords) : BitVec 1 :=
  let arg0 : BitVec 32 := BitVec.ofNat 32 (i 0).val
  let c0_i32_29 : BitVec 32 := 0#32
  let v49 : BitVec 1 := Scalar.cmpi .eq arg0 c0_i32_29
  let v50 : BitVec 32 := Scalar.extui v49
  let c0_i32_30 : BitVec 32 := 0#32
  let v51 : BitVec 1 := Scalar.cmpi .ne v50 c0_i32_30
  v51

def k0_cond5 (i : grid0.Coords) : BitVec 1 :=
  let arg0 : BitVec 32 := BitVec.ofNat 32 (i 0).val
  let c0_i32_31 : BitVec 32 := 0#32
  let v52 : BitVec 1 := Scalar.cmpi .sgt arg0 c0_i32_31
  let v53 : BitVec 32 := Scalar.extui v52
  let c0_i32_32 : BitVec 32 := 0#32
  let v54 : BitVec 1 := Scalar.cmpi .ne v53 c0_i32_32
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference19Ideal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024x2816, .f32⟩
  | .hbm, ⟨8, _⟩ => ⟨S1024x2816, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel17.lean ====
abbrev S8192x1024 : Shape := ⟨2, ![8192, 1024]⟩
abbrev S1x4x128x128 : Shape := ⟨4, ![1, 4, 128, 128]⟩
abbrev S1x4x128 : Shape := ⟨3, ![1, 4, 128]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S1x512 : Shape := ⟨2, ![1, 512]⟩
abbrev S2x512 : Shape := ⟨2, ![2, 512]⟩
abbrev S_ : Shape := ⟨0, ![]⟩
abbrev S8x512 : Shape := ⟨2, ![8, 512]⟩
abbrev S8192x512 : Shape := ⟨2, ![8192, 512]⟩
abbrev S2048x1024 : Shape := ⟨2, ![2048, 1024]⟩
abbrev S2048x512 : Shape := ⟨2, ![2048, 512]⟩
abbrev S128x128 : Shape := ⟨2, ![128, 128]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩
abbrev S1x128x128 : Shape := ⟨3, ![1, 128, 128]⟩

abbrev nBuf : Space → Nat
  | .hbm => 15
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x4x128x128, .f32⟩
  | .hbm, ⟨2, _⟩ => ⟨S1x4x128, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S128x4, .f32⟩
  | .hbm, ⟨8, _⟩ => ⟨S1x512, .f32⟩
  | .hbm, ⟨9, _⟩ => ⟨S1x512, .f32⟩
  | .hbm, ⟨10, _⟩ => ⟨S2x512, .f32⟩
  | .hbm, ⟨11, _⟩ => ⟨S_, .i32⟩
  | .hbm, ⟨12, _⟩ => ⟨S_, .f32⟩
  | .hbm, ⟨13, _⟩ => ⟨S8x512, .f32⟩
  | .hbm, ⟨14, _⟩ => ⟨S8192x512, .bf16⟩
  | .local _ .vmem, ⟨0, _⟩ => ⟨S2048x1024, .f32⟩
  | .local _ .vmem, ⟨1, _⟩ => ⟨S2048x1024, .f32⟩
  | .local _ .vmem, ⟨2, _⟩ => ⟨S4x128x128, .f32⟩
  | .local _ .vmem, ⟨3, _⟩ => ⟨S128x4, .f32⟩
  | .local _ .vmem, ⟨4, _⟩ => ⟨S8x512, .f32⟩
  | .local _ .vmem, ⟨5, _⟩ => ⟨S2048x512, .bf16⟩
  | .local _ .vmem, ⟨6, _⟩ => ⟨S2048x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  v4
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := v4
  let v6 : Index := Scalar.indexCast v5
  let c0 : Index := 0#32
  ![v6.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := v4
  let v62 : Index := Scalar.indexCast v5
  let c0_19 : Index := 0#32
  ![v62.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := v4
  let v78 : Index := Scalar.indexCast v5
  let c128 : Index := 128#32
  ![v78.toNat, 128]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := v4
  let v94 : Index := Scalar.indexCast v5
  let c256 : Index := 256#32
  ![v94.toNat, 256]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v4 : BitVec 32 := Scalar.muli arg6 c128_i32
  let v5 : BitVec 32 := v4
  let v110 : Index := Scalar.indexCast v5
  let c384 : Index := 384#32
  ![v110.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8192x1024 : Shape := ⟨2, ![8192, 1024]⟩
abbrev S1x4x128x128 : Shape := ⟨4, ![1, 4, 128, 128]⟩
abbrev S1x4x128 : Shape := ⟨3, ![1, 4, 128]⟩
abbrev S512 : Shape := ⟨1, ![512]⟩
abbrev S4x2048x1024 : Shape := ⟨3, ![4, 2048, 1024]⟩
abbrev S4x128x128 : Shape := ⟨3, ![4, 128, 128]⟩
abbrev S4x128 : Shape := ⟨2, ![4, 128]⟩
abbrev S_ : Shape := ⟨0, ![]⟩
abbrev S4x2048x512 : Shape := ⟨3, ![4, 2048, 512]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩
abbrev S8192x512 : Shape := ⟨2, ![8192, 512]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x4x128x128, .f32⟩
  | .hbm, ⟨2, _⟩ => ⟨S1x4x128, .f32⟩
  | .hbm, ⟨3, _⟩ => ⟨S512, .f32⟩
  | .hbm, ⟨4, _⟩ => ⟨S512, .f32⟩
  | .hbm, ⟨5, _⟩ => ⟨S4x2048x1024, .f32⟩
  | .hbm, ⟨6, _⟩ => ⟨S4x128x128, .f32⟩
  | .hbm, ⟨7, _⟩ => ⟨S4x128, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x512, .f32⟩
  | .hbm, ⟨26, _⟩ => ⟨S4x2048x512, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x512, .f32⟩
  | .hbm, ⟨43, _⟩ => ⟨S4x2048x512, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S4x2048x512, .f32⟩
  | .hbm, ⟨49, _⟩ => ⟨S4x2048x512, .f32⟩
  | .hbm, ⟨50, _⟩ => ⟨S1x1x512, .f32⟩
  | .hbm, ⟨51, _⟩ => ⟨S4x2048x512, .f32⟩
  | .hbm, ⟨52, _⟩ => ⟨S4x2048x512, .f32⟩
  | .hbm, ⟨53, _⟩ => ⟨S1x1x512, .f32⟩
  | .hbm, ⟨54, _⟩ => ⟨S4x2048x512, .f32⟩
  | .hbm, ⟨55, _⟩ => ⟨S4x2048x512, .f32⟩
  | .hbm, ⟨56, _⟩ => ⟨S4x16x128x4x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S4x128x128, .f32⟩
  | .hbm, ⟨71, _⟩ => ⟨S4x128x128, .i1⟩
  | .hbm, ⟨72, _⟩ => ⟨S4x128x128, .f32⟩
  | .hbm, ⟨73, _⟩ => ⟨S4x4x16x128x128, .f32⟩
  | .hbm, ⟨74, _⟩ => ⟨S4x16x128x4x128, .f32⟩
  | .hbm, ⟨75, _⟩ => ⟨S128x4, .f32⟩
  | .hbm, ⟨76, _⟩ => ⟨S1x1x128x4x1, .f32⟩
  | .hbm, ⟨77, _⟩ => ⟨S4x16x128x4x128, .f32⟩
  | .hbm, ⟨78, _⟩ => ⟨S4x16x128x4x128, .f32⟩
  | .hbm, ⟨79, _⟩ => ⟨S4x2048x512, .f32⟩
  | .hbm, ⟨80, _⟩ => ⟨S4x2048x512, .f32⟩
  | .hbm, ⟨81, _⟩ => ⟨S8192x512, .f32⟩
  | .hbm, ⟨82, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_v43 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel1.lean ====
abbrev S8192x1024 : Shape := ⟨2, ![8192, 1024]⟩
abbrev S1x4x128x128 : Shape := ⟨4, ![1, 4, 128, 128]⟩
abbrev S1x4x128 : Shape := ⟨3, ![1, 4, 128]⟩
abbrev S512 : Shape := ⟨1, ![512]⟩
abbrev S8192x512 : Shape := ⟨2, ![8192, 512]⟩
abbrev S4x128x128 : Shape := ⟨3, ![4, 128, 128]⟩
abbrev S4x128 : Shape := ⟨2, ![4, 128]⟩
abbrev S128x4 : Shape := ⟨2, ![128, 4]⟩
abbrev S1x512 : Shape := ⟨2, ![1, 512]⟩
abbrev S2x512 : Shape := ⟨2, ![2, 512]⟩
abbrev S_ : Shape := ⟨0, ![]⟩
abbrev S8x512 : Shape := ⟨2, ![8, 512]⟩
abbrev S2048x1024 : Shape := ⟨2, ![2048, 1024]⟩
abbrev S2048x512 : Shape := ⟨2, ![2048, 512]⟩
abbrev S128x128 : Shape := ⟨2, ![128, 128]⟩
abbrev S128x1024 : Shape := ⟨2, ![128, 1024]⟩
abbrev S128x512 : Shape := ⟨2, ![128, 512]⟩
abbrev S128 : Shape := ⟨1, ![128]⟩
abbrev S128x1 : Shape := ⟨2, ![128, 1]⟩
abbrev S1x128x128 : Shape := ⟨3, ![1, 128, 128]⟩

abbrev nBuf : Space → Nat
  | .hbm => 19
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x4x128x128, .f32⟩
  | .hbm, ⟨2, _⟩ => ⟨S1x4x128, .f32⟩
  | .hbm, ⟨3, _⟩ => ⟨S512, .f32⟩
  | .hbm, ⟨4, _⟩ => ⟨S512, .f32⟩
  | .hbm, ⟨5, _⟩ => ⟨S8192x512, .f32⟩
  | .hbm, ⟨6, _⟩ => ⟨S4x128x128, .f32⟩
  | .hbm, ⟨7, _⟩ => ⟨S4x128, .f32⟩
  | .hbm, ⟨8, _⟩ => ⟨S128x4, .f32⟩
  | .hbm, ⟨9, _⟩ => ⟨S1x512, .f32⟩
  | .hbm, ⟨10, _⟩ => ⟨S1x512, .f32⟩
  | .hbm, ⟨11, _⟩ => ⟨S2x512, .f32⟩
  | .hbm, ⟨12, _⟩ => ⟨S_, .i32⟩
  | .hbm, ⟨13, _⟩ => ⟨S_, .f32⟩
  | .hbm, ⟨14, _⟩ => ⟨S8x512, .f32⟩
  | .hbm, ⟨15, _⟩ => ⟨S8192x1024, .bf16⟩
  | .hbm, ⟨16, _⟩ => ⟨S4x128x128, .f32⟩
  | .hbm, ⟨17, _⟩ => ⟨S4x128x128, .f32⟩
  | .hbm, ⟨18, _⟩ => ⟨S8x512, .f32⟩
  | .local _ .vmem, ⟨0, _⟩ => ⟨S2048x1024, .f32⟩
  | .local _ .vmem, ⟨1, _⟩ => ⟨S2048x1024, .f32⟩
  | .local _ .vmem, ⟨2, _⟩ => ⟨S4x128x128, .f32⟩
  | .local _ .vmem, ⟨3, _⟩ => ⟨S128x4, .f32⟩
  | .local _ .vmem, ⟨4, _⟩ => ⟨S8x512, .f32⟩
  | .local _ .vmem, ⟨5, _⟩ => ⟨S2048x512, .f32⟩
  | .local _ .vmem, ⟨6, _⟩ => ⟨S2048x512, .f32⟩
  | .local _ .vmem, ⟨7, _⟩ => ⟨S2048x1024, .bf16⟩
  | .local _ .vmem, ⟨8, _⟩ => ⟨S2048x1024, .bf16⟩
  | .local _ .vmem, ⟨9, _⟩ => ⟨S4x128x128, .f32⟩
  | .local _ .vmem, ⟨10, _⟩ => ⟨S4x128x128, .f32⟩
  | .local _ .vmem, ⟨11, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c16_i32 : BitVec 32 := 16#32
  let v6 : BitVec 32 := Scalar.addi c0_i32_1 c16_i32
  let c1_i32 : BitVec 32 := 1#32
  ⟨c0_i32_1, v6, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c128_i32 : BitVec 32 := 128#32
  let v7 : BitVec 32 := Scalar.muli arg10 c128_i32
  v7
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c128_i32 : BitVec 32 := 128#32
  let v7 : BitVec 32 := Scalar.muli arg10 c128_i32
  let v8 : BitVec 32 := v7
  let v9 : Index := Scalar.indexCast v8
  let c0 : Index := 0#32
  ![v9.toNat, 0]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c128_i32 : BitVec 32 := 128#32
  let v7 : BitVec 32 := Scalar.muli arg10 c128_i32
  let v8 : BitVec 32 := v7
  let v51 : Index := Scalar.indexCast v8
  let c0_14 : Index := 0#32
  ![v51.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel1Ideal.lean ====
variable {F : FTy → Type} [FloatOps F] [Named F]
def κ : String → Option EReal := fun
  | "gelu_3c1" => some ((26829 / 200000 : ℝ) : EReal)
  | "gelu_c1" => some ((8943 / 200000 : ℝ) : EReal)
  | _ => none
-- ==== Reference1Ideal.lean ====
abbrev S8192x1024 : Shape := ⟨2, ![8192, 1024]⟩
abbrev S1x4x128x128 : Shape := ⟨4, ![1, 4, 128, 128]⟩
abbrev S1x4x128 : Shape := ⟨3, ![1, 4, 128]⟩
abbrev S512 : Shape := ⟨1, ![512]⟩
abbrev S8192x512 : Shape := ⟨2, ![8192, 512]⟩
abbrev S4x2048x1024 : Shape := ⟨3, ![4, 2048, 1024]⟩
abbrev S4x128x128 : Shape := ⟨3, ![4, 128, 128]⟩
abbrev S4x128 : Shape := ⟨2, ![4, 128]⟩
abbrev S_ : Shape := ⟨0, ![]⟩
abbrev S4x2048x512 : Shape := ⟨3, ![4, 2048, 512]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S1x1x128x4x1 : Shape := ⟨5, ![1, 1, 128, 4, 1]⟩

abbrev nBuf : Space → Nat
  | .hbm => 165
  | .vmem => 0
  | .smem => 0
  | _ => 0

abbrev hbmTy0_0 (i : Nat) : BufTy := match i % 128 with
  | 0 => ⟨S8192x1024, .f32⟩
  | 1 => ⟨S1x4x128x128, .f32⟩
  | 2 => ⟨S1x4x128, .f32⟩
  | 3 => ⟨S512, .f32⟩
  | 4 => ⟨S512, .f32⟩
  | 5 => ⟨S8192x512, .f32⟩
  | 6 => ⟨S4x2048x1024, .f32⟩
  | 7 => ⟨S4x128x128, .f32⟩
  | 8 => ⟨S4x128, .f32⟩
  | 9 => ⟨S4x2048x1024, .f32⟩
  | 10 => ⟨S4x2048x1024, .f32⟩
  | 11 => ⟨S4x2048x1024, .f32⟩
  | 12 => ⟨S_, .f32⟩
  | 13 => ⟨S4x2048x1024, .f32⟩
  | 14 => ⟨S4x2048x1024, .f32⟩
  | 15 => ⟨S_, .f32⟩
  | 16 => ⟨S4x2048x1024, .f32⟩
  | 17 => ⟨S4x2048x1024, .f32⟩
  | 18 => ⟨S_, .f32⟩
  | 19 => ⟨S4x2048x1024, .f32⟩
  | 20 => ⟨S4x2048x1024, .f32⟩
  | 21 => ⟨S4x2048x1024, .f32⟩
  | 22 => ⟨S_, .f32⟩
  | 23 => ⟨S4x2048x1024, .f32⟩
  | 24 => ⟨S4x2048x1024, .f32⟩
  | 25 => ⟨S4x2048x1024, .f32⟩
  | 26 => ⟨S_, .f32⟩
  | 27 => ⟨S4x2048x1024, .f32⟩
  | 28 => ⟨S4x2048x1024, .f32⟩
  | 29 => ⟨S_, .f32⟩
  | 30 => ⟨S4x2048x1024, .f32⟩
  | 31 => ⟨S4x2048x1024, .f32⟩
  | 32 => ⟨S4x2048x1024, .f32⟩
  | 33 => ⟨S_, .f32⟩
  | 34 => ⟨S4x2048x1024, .f32⟩
  | 35 => ⟨S4x2048x1024, .f32⟩
  | 36 => ⟨S_, .f32⟩
  | 37 => ⟨S4x2048x1024, .f32⟩
  | 38 => ⟨S4x2048x1024, .f32⟩
  | 39 => ⟨S4x2048x1024, .f32⟩
  | 40 => ⟨S4x2048x512, .f32⟩
  | 41 => ⟨S4x2048x512, .f32⟩
  | 42 => ⟨S_, .f32⟩
  | 43 => ⟨S4x2048, .f32⟩
  | 44 => ⟨S4x2048x1, .f32⟩
  | 45 => ⟨S_, .f32⟩
  | 46 => ⟨S4x2048x1, .f32⟩
  | 47 => ⟨S4x2048x1, .f32⟩
  | 48 => ⟨S4x2048x512, .f32⟩
  | 49 => ⟨S4x2048x512, .f32⟩
  | 50 => ⟨S4x2048x512, .f32⟩
  | 51 => ⟨S_, .f32⟩
  | 52 => ⟨S4x2048x512, .f32⟩
  | 53 => ⟨S4x2048x512, .f32⟩
  | 54 => ⟨S_, .f32⟩
  | 55 => ⟨S4x2048, .f32⟩
  | 56 => ⟨S4x2048x1, .f32⟩
  | 57 => ⟨S_, .f32⟩
  | 58 => ⟨S4x2048x1, .f32⟩
  | 59 => ⟨S4x2048x1, .f32⟩
  | 60 => ⟨S4x2048x512, .f32⟩
  | 61 => ⟨S4x2048x512, .f32⟩
  | 62 => ⟨S_, .f32⟩
  | 63 => ⟨S4x2048x1, .f32⟩
  | 64 => ⟨S4x2048x1, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x512, .f32⟩
  | 71 => ⟨S4x2048x512, .f32⟩
  | 72 => ⟨S1x1x512, .f32⟩
  | 73 => ⟨S4x2048x512, .f32⟩
  | 74 => ⟨S4x2048x512, .f32⟩
  | 75 => ⟨S1x1x512, .f32⟩
  | 76 => ⟨S4x2048x512, .f32⟩
  | 77 => ⟨S4x2048x512, .f32⟩
  | 78 => ⟨S4x16x128x4x128, .f32⟩
  | 79 => ⟨S_, .i1⟩
  | 80 => ⟨S128x128, .i1⟩
  | 81 => ⟨S128x128, .i32⟩
  | 82 => ⟨S_, .i32⟩
  | 83 => ⟨S128x128, .i32⟩
  | 84 => ⟨S128x128, .i32⟩
  | 85 => ⟨S128x128, .i32⟩
  | 86 => ⟨S128x128, .i1⟩
  | 87 => ⟨S_, .i1⟩
  | 88 => ⟨S128x128, .i1⟩
  | 89 => ⟨S128x128, .i1⟩
  | 90 => ⟨S1x128x128, .i1⟩
  | 91 => ⟨S_, .f32⟩
  | 92 => ⟨S4x128x128, .f32⟩
  | 93 => ⟨S4x128x128, .i1⟩
  | 94 => ⟨S4x128x128, .f32⟩
  | 95 => ⟨S4x4x16x128x128, .f32⟩
  | 96 => ⟨S4x16x128x4x128, .f32⟩
  | 97 => ⟨S128x4, .f32⟩
  | 98 => ⟨S1x1x128x4x1, .f32⟩
  | 99 => ⟨S4x16x128x4x128, .f32⟩
  | 100 => ⟨S4x16x128x4x128, .f32⟩
  | 101 => ⟨S4x2048x512, .f32⟩
  | 102 => ⟨S4x2048x512, .f32⟩
  | 103 => ⟨S4x2048x512, .f32⟩
  | 104 => ⟨S4x2048x512, .f32⟩
  | 105 => ⟨S4x2048x512, .f32⟩
  | 106 => ⟨S4x16x128x4x128, .f32⟩
  | 107 => ⟨S4x4x16x128x128, .f32⟩
  | 108 => ⟨S4x4x16x128x128, .f32⟩
  | 109 => ⟨S4x16x128x4x128, .f32⟩
  | 110 => ⟨S4x2048x512, .f32⟩
  | 111 => ⟨S4x2048x512, .f32⟩
  | 112 => ⟨S4x2048x512, .f32⟩
  | 113 => ⟨S4x2048x512, .f32⟩
  | 114 => ⟨S_, .f32⟩
  | 115 => ⟨S4x2048, .f32⟩
  | 116 => ⟨S4x2048x1, .f32⟩
  | 117 => ⟨S4x2048x512, .f32⟩
  | 118 => ⟨S4x2048x512, .f32⟩
  | 119 => ⟨S4x2048x1, .f32⟩
  | 120 => ⟨S4x2048x512, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S_, .f32⟩
  | _ => ⟨S8192x1024, .f32⟩

abbrev hbmTy0_1 (i : Nat) : BufTy := match i % 128 with
  | 0 => ⟨S4x2048, .f32⟩
  | 1 => ⟨S4x2048x512, .f32⟩
  | 2 => ⟨S4x2048x512, .f32⟩
  | 3 => ⟨S4x2048x512, .f32⟩
  | 4 => ⟨S_, .f32⟩
  | 5 => ⟨S4x2048, .f32⟩
  | 6 => ⟨S4x2048x1, .f32⟩
  | 7 => ⟨S4x2048x512, .f32⟩
  | 8 => ⟨S4x2048x1, .f32⟩
  | 9 => ⟨S_, .f32⟩
  | 10 => ⟨S4x2048x1, .f32⟩
  | 11 => ⟨S4x2048x1, .f32⟩
  | 12 => ⟨S_, .f32⟩
  | 13 => ⟨S4x2048, .f32⟩
  | 14 => ⟨S4x2048x512, .f32⟩
  | 15 => ⟨S4x2048x512, .f32⟩
  | 16 => ⟨S4x2048x1024, .f32⟩
  | 17 => ⟨S4x2048x1024, .f32⟩
  | 18 => ⟨S4x2048x1024, .f32⟩
  | 19 => ⟨S_, .f32⟩
  | 20 => ⟨S4x2048x1024, .f32⟩
  | 21 => ⟨S4x2048x1024, .f32⟩
  | 22 => ⟨S4x2048x1024, .f32⟩
  | 23 => ⟨S_, .f32⟩
  | 24 => ⟨S4x2048x1024, .f32⟩
  | 25 => ⟨S4x2048x1024, .f32⟩
  | 26 => ⟨S4x2048x1024, .f32⟩
  | 27 => ⟨S_, .f32⟩
  | 28 => ⟨S4x2048x1024, .f32⟩
  | 29 => ⟨S4x2048x1024, .f32⟩
  | 30 => ⟨S_, .f32⟩
  | 31 => ⟨S4x2048x1024, .f32⟩
  | 32 => ⟨S4x2048x1024, .f32⟩
  | 33 => ⟨S4x2048x1024, .f32⟩
  | 34 => ⟨S4x2048x1024, .f32⟩
  | 35 => ⟨S8192x1024, .f32⟩
  | 36 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c : Ref sig .tc := ⟨.hbm, 79, rfl⟩
abbrev main_v58 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_0 : Ref sig .tc := ⟨.hbm, 87, rfl⟩
abbrev main_call0_v5 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_20 : Ref sig .tc := ⟨.hbm, 137, rfl⟩
abbrev main_v100 : Ref sig .tc := ⟨.hbm, 138, rfl⟩
abbrev main_v101 : Ref sig .tc := ⟨.hbm, 139, rfl⟩
abbrev main_cst_21 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_22 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_23 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_24 : Ref sig .tc := ⟨.hbm, 155, rfl⟩
abbrev main_v114 : Ref sig .tc := ⟨.hbm, 156, rfl⟩
abbrev main_v115 : Ref sig .tc := ⟨.hbm, 157, rfl⟩
abbrev main_cst_25 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩

abbrev nD : Nat := 1
abbrev τ : Topo := Topo.v7x

variable {F : FTy → Type} [FloatOps F]
-- ==== Kernel20.lean ====
abbrev S1x1024x448 : Shape := ⟨3, ![1, 1024, 448]⟩
abbrev S1x448x1024 : Shape := ⟨3, ![1, 448, 1024]⟩
abbrev S1x224x1024 : Shape := ⟨3, ![1, 224, 1024]⟩

abbrev nBuf : Space → Nat
  | .hbm => 13
  | .vmem => 14
  | .smem => 0
  | _ => 0

abbrev bufTy : (tb : Table) → Fin (tcTables nBuf tb) → BufTy
  | .hbm, ⟨0, _⟩ => ⟨S1x1024x448, .f32⟩
  | .hbm, ⟨1, _⟩ => ⟨S1x448x1024, .f32⟩
  | .hbm, ⟨2, _⟩ => ⟨S1x1024x448, .f32⟩
  | .hbm, ⟨3, _⟩ => ⟨S1x1024x448, .f32⟩
  | .hbm, ⟨4, _⟩ => ⟨S1x448x1024, .f32⟩
  | .hbm, ⟨5, _⟩ => ⟨S1x448x1024, .f32⟩
  | .hbm, ⟨6, _⟩ => ⟨S1x448x1024, .f32⟩
  | .hbm, ⟨7, _⟩ => ⟨S1x448x1024, .f32⟩
  | .hbm, ⟨8, _⟩ => ⟨S1x448x1024, .f32⟩
  | .hbm, ⟨9, _⟩ => ⟨S1x448x1024, .f32⟩
  | .hbm, ⟨10, _⟩ => ⟨S1x1024x448, .f32⟩
  | .hbm, ⟨11, _⟩ => ⟨S1x1024x448, .f32⟩
  | .hbm, ⟨12, _⟩ => ⟨S1x1024x448, .f32⟩
  | .local _ .vmem, ⟨0, _⟩ => ⟨S1x224x1024, .f32⟩
  | .local _ .vmem, ⟨1, _⟩ => ⟨S1x224x1024, .f32⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | _, _ => ⟨S1x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S1x1024x448 : Shape := ⟨3, ![1, 1024, 448]⟩
abbrev S1x448x1024 : Shape := ⟨3, ![1, 448, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x448, .f32⟩
  | .hbm, ⟨1, _⟩ => ⟨S1x448x1024, .f32⟩
  | .hbm, ⟨2, _⟩ => ⟨S1x1024x448, .f32⟩
  | .hbm, ⟨3, _⟩ => ⟨S1x1024x448, .f32⟩
  | .hbm, ⟨4, _⟩ => ⟨S1x1024x448, .f32⟩
  | .hbm, ⟨5, _⟩ => ⟨S_, .f32⟩
  | .hbm, ⟨6, _⟩ => ⟨S1x1024x448, .f32⟩
  | .hbm, ⟨7, _⟩ => ⟨S1x1024x448, .f32⟩
  | .hbm, ⟨8, _⟩ => ⟨S_, .f32⟩
  | .hbm, ⟨9, _⟩ => ⟨S1x1024x448, .f32⟩
  | .hbm, ⟨10, _⟩ => ⟨S1x1024x448, .f32⟩
  | .hbm, ⟨11, _⟩ => ⟨S1x1024x448, .f32⟩
  | .hbm, ⟨12, _⟩ => ⟨S_, .f32⟩
  | .hbm, ⟨13, _⟩ => ⟨S1x1024x448, .f32⟩
  | .hbm, ⟨14, _⟩ => ⟨S1x1024x448, .f32⟩
  | .hbm, ⟨15, _⟩ => ⟨S1x1024x448, .f32⟩
  | .hbm, ⟨16, _⟩ => ⟨S_, .f32⟩
  | .hbm, ⟨17, _⟩ => ⟨S1x1024x448, .f32⟩
  | .hbm, ⟨18, _⟩ => ⟨S1x1024x448, .f32⟩
  | .hbm, ⟨19, _⟩ => ⟨S1x1024x448, .f32⟩
  | .hbm, ⟨20, _⟩ => ⟨S_, .f32⟩
  | .hbm, ⟨21, _⟩ => ⟨S1x1024x448, .f32⟩
  | .hbm, ⟨22, _⟩ => ⟨S1x1024x448, .f32⟩
  | .hbm, ⟨23, _⟩ => ⟨S_, .f32⟩
  | .hbm, ⟨24, _⟩ => ⟨S1x1024x448, .f32⟩
  | .hbm, ⟨25, _⟩ => ⟨S1x1024x448, .f32⟩
  | .hbm, ⟨26, _⟩ => ⟨S1x1024x448, .f32⟩
  | .hbm, ⟨27, _⟩ => ⟨S_, .f32⟩
  | .hbm, ⟨28, _⟩ => ⟨S1x1024x448, .f32⟩
  | .hbm, ⟨29, _⟩ => ⟨S1x1024x448, .f32⟩
  | .hbm, ⟨30, _⟩ => ⟨S1x1024x448, .f32⟩
  | .hbm, ⟨31, _⟩ => ⟨S_, .f32⟩
  | .hbm, ⟨32, _⟩ => ⟨S1x1024x448, .f32⟩
  | .hbm, ⟨33, _⟩ => ⟨S1x1024x448, .f32⟩
  | .hbm, ⟨34, _⟩ => ⟨S1x1024x448, .f32⟩
  | .hbm, ⟨35, _⟩ => ⟨S_, .f32⟩
  | .hbm, ⟨36, _⟩ => ⟨S1x1024x448, .f32⟩
  | .hbm, ⟨37, _⟩ => ⟨S1x1024x448, .f32⟩
  | _, _ => ⟨S1x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel21.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference21Ideal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x1024x384 : Shape := ⟨3, ![1, 1024, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S1x1024x384, .f32⟩
  | .hbm, ⟨5, _⟩ => ⟨S1x1024x384, .f32⟩
  | .hbm, ⟨6, _⟩ => ⟨S1x1024x384, .f32⟩
  | .local _ .vmem, ⟨0, _⟩ => ⟨S1x1024x384, .f32⟩
  | .local _ .vmem, ⟨1, _⟩ => ⟨S1x1024x384, .f32⟩
  | .local _ .vmem, ⟨2, _⟩ => ⟨S1x1024x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference22Ideal.lean ====
abbrev S1x1024x384 : Shape := ⟨3, ![1, 1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S1x1024x384, .f32⟩
  | .hbm, ⟨4, _⟩ => ⟨S_, .f32⟩
  | .hbm, ⟨5, _⟩ => ⟨S1x1024x384, .f32⟩
  | .hbm, ⟨6, _⟩ => ⟨S1x1024x384, .f32⟩
  | .hbm, ⟨7, _⟩ => ⟨S_, .f32⟩
  | .hbm, ⟨8, _⟩ => ⟨S1x1024x384, .f32⟩
  | .hbm, ⟨9, _⟩ => ⟨S1x1024x384, .f32⟩
  | .hbm, ⟨10, _⟩ => ⟨S1x1024x384, .f32⟩
  | .hbm, ⟨11, _⟩ => ⟨S_, .f32⟩
  | .hbm, ⟨12, _⟩ => ⟨S1x1024x384, .f32⟩
  | .hbm, ⟨13, _⟩ => ⟨S1x1024x384, .f32⟩
  | .hbm, ⟨14, _⟩ => ⟨S1x1024x384, .f32⟩
  | .hbm, ⟨15, _⟩ => ⟨S_, .f32⟩
  | .hbm, ⟨16, _⟩ => ⟨S1x1024x384, .f32⟩
  | .hbm, ⟨17, _⟩ => ⟨S1x1024x384, .f32⟩
  | .hbm, ⟨18, _⟩ => ⟨S1x1024x384, .f32⟩
  | .hbm, ⟨19, _⟩ => ⟨S_, .f32⟩
  | .hbm, ⟨20, _⟩ => ⟨S1x1024x384, .f32⟩
  | .hbm, ⟨21, _⟩ => ⟨S1x1024x384, .f32⟩
  | .hbm, ⟨22, _⟩ => ⟨S_, .f32⟩
  | .hbm, ⟨23, _⟩ => ⟨S1x1024x384, .f32⟩
  | .hbm, ⟨24, _⟩ => ⟨S1x1024x384, .f32⟩
  | .hbm, ⟨25, _⟩ => ⟨S1x1024x384, .f32⟩
  | .hbm, ⟨26, _⟩ => ⟨S_, .f32⟩
  | .hbm, ⟨27, _⟩ => ⟨S1x1024x384, .f32⟩
  | .hbm, ⟨28, _⟩ => ⟨S1x1024x384, .f32⟩
  | .hbm, ⟨29, _⟩ => ⟨S1x1024x384, .f32⟩
  | .hbm, ⟨30, _⟩ => ⟨S_, .f32⟩
  | .hbm, ⟨31, _⟩ => ⟨S1x1024x384, .f32⟩
  | .hbm, ⟨32, _⟩ => ⟨S1x1024x384, .f32⟩
  | .hbm, ⟨33, _⟩ => ⟨S1x1024x384, .f32⟩
  | .hbm, ⟨34, _⟩ => ⟨S_, .f32⟩
  | .hbm, ⟨35, _⟩ => ⟨S1x1024x384, .f32⟩
  | .hbm, ⟨36, _⟩ => ⟨S1x1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2x1024x704 : Shape := ⟨3, ![2, 1024, 704]⟩
abbrev S2x704x1024 : Shape := ⟨3, ![2, 704, 1024]⟩
abbrev S1x352x1024 : Shape := ⟨3, ![1, 352, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x704x1024, .f32⟩
  | .hbm, ⟨2, _⟩ => ⟨S2x1024x704, .f32⟩
  | .hbm, ⟨3, _⟩ => ⟨S2x1024x704, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x1024x704, .f32⟩
  | .hbm, ⟨11, _⟩ => ⟨S2x1024x704, .f32⟩
  | .hbm, ⟨12, _⟩ => ⟨S2x1024x704, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S2x1024x704 : Shape := ⟨3, ![2, 1024, 704]⟩
abbrev S2x704x1024 : Shape := ⟨3, ![2, 704, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x704x1024, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S_, .f32⟩
  | .hbm, ⟨6, _⟩ => ⟨S2x1024x704, .f32⟩
  | .hbm, ⟨7, _⟩ => ⟨S2x1024x704, .f32⟩
  | .hbm, ⟨8, _⟩ => ⟨S_, .f32⟩
  | .hbm, ⟨9, _⟩ => ⟨S2x1024x704, .f32⟩
  | .hbm, ⟨10, _⟩ => ⟨S2x1024x704, .f32⟩
  | .hbm, ⟨11, _⟩ => ⟨S2x1024x704, .f32⟩
  | .hbm, ⟨12, _⟩ => ⟨S_, .f32⟩
  | .hbm, ⟨13, _⟩ => ⟨S2x1024x704, .f32⟩
  | .hbm, ⟨14, _⟩ => ⟨S2x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S2x1024x704, .f32⟩
  | .hbm, ⟨20, _⟩ => ⟨S_, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S2x1024x704, .f32⟩
  | .hbm, ⟨35, _⟩ => ⟨S_, .f32⟩
  | .hbm, ⟨36, _⟩ => ⟨S2x1024x704, .f32⟩
  | .hbm, ⟨37, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel24.lean ====
abbrev S2x704x1024 : Shape := ⟨3, ![2, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.FfnBwdBlock.lean ====
/-
  What one grid point of `ffn_down_bwd` computes: 512 rows of the three results of the gated down projection's backward
  pass, read index by index. The body works through the 2816 columns in eleven tiles of 256, each by the same
  arithmetic; here the eleven tiles are one function of the row and the column.
-/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.FfnBwd

open Cert.Kernel2Ideal Cert.Kernel2Ideal.Gen Idealize.ShloMosaic Idealize.ShloMosaic.TcCoe Idealize.SL.Sem

/-- One half, as the kernel writes it. -/
abbrev half : EReal := Ideal.ofBits .bf16 0x3F00#16

/-- The sigmoid as the kernel computes it: `½ · tanh (½ v) + ½`. -/
def sgm (v : EReal) : EReal := half * Ideal.tanh (half * v) + half

/-- The cotangent of the gated activation at a row and a column: the row of `dh` times the row of `w_down`. -/
def dact (dh : S512x1024.Idx → EReal) (wd : S2816x1024.Idx → EReal) (r : Fin 512) (q : Fin 2816) : EReal :=
  ∑ k : Fin 1024, dh (ix2 r k) * wd (ix2 q k)

/-- The gate's gradient from the three numbers at one place. -/
def dgate (da g u : EReal) : EReal := da * u * (sgm g + g * sgm g * (1 - sgm g))

/-- The other factor's gradient. -/
def dup (da g : EReal) : EReal := da * (g * sgm g)

/-- The gated activation itself. -/
def gated (g u : EReal) : EReal := g * sgm g * u

set_option maxHeartbeats 2000000 in
/-- The block of `dg` a grid point stores, at an index. -/
theorem out4_at (x0 : FVec Ideal S512x1024 .f32) (x1 x2 : FVec Ideal S512x2816 .bf16) (x3 : FVec Ideal S2816x1024 .bf16)
    (y : S512x2816.Idx) :
    out0_4 (F := Ideal) x0 x1 x2 x3 y = dgate (dact x0 x3 (y 0) (y 1)) (x1 y) (x2 y) := by
  canon_tiles x h
  all_goals
    unfold dgate sgm dact half
    open_payloads
    pointwise
    blk_point []

set_option maxHeartbeats 2000000 in
/-- The block of `du` a grid point stores, at an index. -/
theorem out5_at (x0 : FVec Ideal S512x1024 .f32) (x1 x2 : FVec Ideal S512x2816 .bf16) (x3 : FVec Ideal S2816x1024 .bf16)
    (y : S512x2816.Idx) :
    out0_5 (F := Ideal) x0 x1 x2 x3 y = dup (dact x0 x3 (y 0) (y 1)) (x1 y) := by
  canon_tiles x h
  all_goals
    unfold dup sgm dact half
    open_payloads
    pointwise
    blk_point []

set_option maxHeartbeats 2000000 in
/-- The block of `act` a grid point stores, at an index. -/
theorem out6_at (x0 : FVec Ideal S512x1024 .f32) (x1 x2 : FVec Ideal S512x2816 .bf16) (x3 : FVec Ideal S2816x1024 .bf16)
    (y : S512x2816.Idx) :
    out0_6 (F := Ideal) x0 x1 x2 x3 y = gated (x1 y) (x2 y) := by
  canon_tiles x h
  all_goals
    unfold gated sgm half
    open_payloads
    pointwise
    blk_point []

variable (m : (ℓ : Loc nD τ sig) → Buf (Elt Ideal) ℓ)

/-- The windows' places: each point takes the `t`-th 512 rows, and the whole of `w_down`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

/-- `dg` over the whole arrays. -/
def arr4 (dh : FVec Ideal S8192x1024 .f32) (g u : FVec Ideal S8192x2816 .bf16) (wd : FVec Ideal S2816x1024 .bf16) :
    FVec Ideal S8192x2816 .bf16 :=
  fun j => dgate (∑ k : Fin 1024, dh (ix2 (j 0) k) * wd (ix2 (j 1) k)) (g j) (u j)

/-- `du` over the whole arrays. -/
def arr5 (dh : FVec Ideal S8192x1024 .f32) (g : FVec Ideal S8192x2816 .bf16) (wd : FVec Ideal S2816x1024 .bf16) :
    FVec Ideal S8192x2816 .bf16 :=
  fun j => dup (∑ k : Fin 1024, dh (ix2 (j 0) k) * wd (ix2 (j 1) k)) (g j)

/-- `act` over the whole arrays. -/
def arr6 (g u : FVec Ideal S8192x2816 .bf16) : FVec Ideal S8192x2816 .bf16 :=
  fun j => gated (g j) (u j)

/-- The result array after the run. -/
theorem final4 (c : Dev nD) : (dats m 0 c).arrAt 4 (cfgs 0).N = arr4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine (out4_at _ _ _ _ _).trans ?_
  unfold dact arr4
  blk_point [iblk, V, idx t]

/-- The result array after the run. -/
theorem final5 (c : Dev nD) : (dats m 0 c).arrAt 5 (cfgs 0).N = arr5 (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  refine (out5_at _ _ _ _ _).trans ?_
  unfold dact arr5
  blk_point [iblk, V, idx t]

/-- The result array after the run. -/
theorem final6 (c : Dev nD) : (dats m 0 c).arrAt 6 (cfgs 0).N = arr6 (m ((c : Thread nD τ).loc main_arg1)) (m ((c : Thread nD τ).loc main_arg2)) := by
  refine (dats m 0 c).arrAt_eq_of_covers 6 _ (by decide +kernel) fun t _ y => ?_
  blk_simp
  rw [after0_6]
  refine (out6_at _ _ _ _ _).trans ?_
  unfold arr6
  blk_point [iblk, V, idx t]

end Cert.FfnBwd

end
-- ==== Proof.Reals.lean ====
/-
  Arguments that are finite are real numbers: from the printed precondition (`|x| < ∞` everywhere) to an array of reals,
  and the few facts about coercions, sigmoids and constants the value proofs meet on the way from `EReal` to `ℝ`.
-/
module

public import Idealize.ShloMosaic.Lib.ReduceAll
public import Idealize.ShloMosaic.Lib.Affine
public import Idealize.ShloMosaic.Lib.IdealHost
public import Idealize.ShloMosaic.Lib.Pointwise
public import Mathlib.Analysis.Complex.Trigonometric
public import Mathlib.Tactic.FieldSimp
public import Mathlib.Tactic.Ring

@[expose] public section

noncomputable section

namespace Cert.Reals

open Idealize.ShloMosaic Idealize.SL.Sem

/-- A finite sum of reals, read in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The same over a whole finite type. -/
theorem coe_sum_univ {ι : Type} [Fintype ι] (f : ι → ℝ) : ∑ k, ((f k : ℝ) : EReal) = ((∑ k, f k : ℝ) : EReal) :=
  coe_sum Finset.univ f

/-- A number whose magnitude compares below infinity is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have h' : max x (-x) < ⊤ := by
    by_contra hn
    simp [Ideal.cmp, hn] at h
  induction x with
  | bot => simp at h'
  | coe r => exact ⟨r, rfl⟩
  | top => simp at h'

/-- An array whose every element compares below infinity in magnitude is an array of reals. -/
theorem reals_of_all {s : Shape} (x : s.Idx → EReal)
    (h : ∀ i, Ideal.cmp .olt (max (x i) (-(x i))) (Ideal.ofBits .f32 0x7F800000#32) = 1#1) :
    ∃ X : s.Idx → ℝ, x = fun i => ((X i : ℝ) : EReal) := by
  choose X hX using fun i => real_of_abs_lt (x i) (h i)
  exact ⟨X, funext hX⟩

/-- One half in the narrow format. -/
theorem half_bf16 : Ideal.ofBits .bf16 0x3F00#16 = (((1 : ℝ) / 2 : ℝ) : EReal) := by
  simp [Ideal.ofBits, Ideal.ieee, -EReal.coe_mul]; norm_num

/-- One half in the wide format. -/
theorem half_f32 : Ideal.ofBits .f32 0x3F000000#32 = (((1 : ℝ) / 2 : ℝ) : EReal) := by
  simp [Ideal.ofBits, Ideal.ieee, -EReal.coe_mul]; norm_num

/-- The sigmoid in its two spellings. -/
theorem half_tanh (v : ℝ) : 1 / 2 * Real.tanh (1 / 2 * v) + 1 / 2 = 1 / (1 + Real.exp (-v)) := by
  rw [Real.tanh_eq_sinh_div_cosh, Real.sinh_eq, Real.cosh_eq]
  have e : Real.exp (-v) = Real.exp (-(1 / 2 * v)) * Real.exp (-(1 / 2 * v)) := by rw [← Real.exp_add]; congr 1; ring
  have i : Real.exp (1 / 2 * v) * Real.exp (-(1 / 2 * v)) = 1 := by rw [← Real.exp_add]; simp
  have p := Real.exp_pos (1 / 2 * v)
  have q := Real.exp_pos (-(1 / 2 * v))
  rw [e]
  generalize Real.exp (1 / 2 * v) = a at *
  generalize Real.exp (-(1 / 2 * v)) = b at *
  have hab : a + b ≠ 0 := by positivity
  have hb : 1 + b * b ≠ 0 := by positivity
  field_simp
  linear_combination (2 : ℝ) * b * i

/-- The sigmoid as a reference writes it, of a real. -/
theorem logistic_coe (v : ℝ) : Ideal.div 1 (1 + Ideal.exp (-(v : EReal))) = ((1 / (1 + Real.exp (-v)) : ℝ) : EReal) := by
  rw [← EReal.coe_neg, Ideal.exp_coe, ← EReal.coe_one, ← EReal.coe_add,
    Ideal.div_coe (by have := Real.exp_pos (-v); positivity), ← EReal.coe_mul, one_mul]

/-- The two spellings of the sigmoid agree at the infinities too: `1` above, `0` below. -/
theorem half_tanh_logistic (v : EReal) :
    Ideal.ofBits .bf16 0x3F00#16 * Ideal.tanh (Ideal.ofBits .bf16 0x3F00#16 * v) + Ideal.ofBits .bf16 0x3F00#16
      = Ideal.div 1 (1 + Ideal.exp (-v)) := by
  rw [half_bf16]
  induction v with
  | coe r => rw [logistic_coe, ← EReal.coe_mul, Ideal.tanh_coe, ← EReal.coe_mul, ← EReal.coe_add, half_tanh]
  | top =>
    have h : ((1 / 2 : ℝ) : EReal) * ⊤ = ⊤ := EReal.coe_mul_top_of_pos (by norm_num)
    rw [h, Ideal.tanh_top, EReal.neg_top, Ideal.exp_bot, mul_one, add_zero, ← EReal.coe_one, Ideal.div_coe one_ne_zero, ← EReal.coe_add,
      ← EReal.coe_mul]
    norm_num
  | bot =>
    have h : ((1 / 2 : ℝ) : EReal) * ⊥ = ⊥ := EReal.coe_mul_bot_of_pos (by norm_num)
    have h1 : (1 : EReal) + ⊤ = ⊤ := EReal.add_top_of_ne_bot (by decide)
    rw [h, Ideal.tanh_bot, EReal.neg_bot, Ideal.exp_top, h1, Ideal.div, if_neg (by decide), EReal.inv_top, mul_zero, mul_neg, mul_one,
      ← EReal.coe_neg, ← EReal.coe_add]
    norm_num

end Cert.Reals

end
-- ==== Proof.FfnBwd.lean ====
/-
  The gated down projection's backward pass: the kernel's three arrays are the reference's, for finite arguments. Both are
  read at one place of one array; there the two differ by `½ tanh (½ v) + ½` against `1 / (1 + e⁻ᵛ)` and by how the
  products are bracketed.
-/
module

public import proofs.«01_k».proof.Proof.FfnBwdBlock
public import proofs.«01_k».proof.Proof.Reals
public import proofs.«01_k».proof.Proof.Gen.Reference2Ideal
public import proofs.«01_k».proof.Proof.Gen.Pre_finite2

@[expose] public section

set_option maxRecDepth 16384

noncomputable section

namespace Cert.FfnBwd

open Idealize.ShloMosaic Idealize.SL.Sem Cert.Reference2Ideal

/-- The sigmoid, spread over an array, as the reference composes it. -/
def sigR (hb : S_.BroadcastsInDim S8192x2816 (![] : Fin 0 → Fin S8192x2816.rank)) (g : FVec Ideal S8192x2816 .f32) : FVec Ideal S8192x2816 .f32 :=
  Host.divf (broadcastInDim S8192x2816 ![] hb (constant S_ .f32 0x3F800000#32)) (addf (broadcastInDim S8192x2816 ![] hb (constant S_ .f32 0x3F800000#32)) (Host.exp (Host.negf g)))

/-- The cotangent of the gated activation as the reference composes it. -/
def dactR (dh : FVec Ideal S8192x1024 .f32) (wd : FVec Ideal S2816x1024 .f32) : FVec Ideal S8192x2816 .f32 :=
  Host.dotGeneral dot_S8192x1024_S2816x1024_S8192x2816_1_1_0_0_n_n none dh wd

/-- The reference's `dg`. -/
def ref4 (hb : S_.BroadcastsInDim S8192x2816 (![] : Fin 0 → Fin S8192x2816.rank)) (hl : FTy.bits .bf16 < FTy.bits .f32)
    (dh : FVec Ideal S8192x1024 .f32) (g u : FVec Ideal S8192x2816 .bf16) (wd : FVec Ideal S2816x1024 .bf16) : FVec Ideal S8192x2816 .bf16 :=
  truncf .bf16 (addf (mulf (mulf (dactR dh (extf .f32 wd hl)) (extf .f32 u hl)) (sigR hb (extf .f32 g hl)))
    (mulf (mulf (extf .f32 g hl) (mulf (dactR dh (extf .f32 wd hl)) (extf .f32 u hl))) (mulf (sigR hb (extf .f32 g hl))
      (subf (broadcastInDim S8192x2816 ![] hb (constant S_ .f32 0x3F800000#32)) (sigR hb (extf .f32 g hl)))))) hl

/-- The reference's `du`. -/
def ref5 (hb : S_.BroadcastsInDim S8192x2816 (![] : Fin 0 → Fin S8192x2816.rank)) (hl : FTy.bits .bf16 < FTy.bits .f32)
    (dh : FVec Ideal S8192x1024 .f32) (g : FVec Ideal S8192x2816 .bf16) (wd : FVec Ideal S2816x1024 .bf16) : FVec Ideal S8192x2816 .bf16 :=
  truncf .bf16 (mulf (mulf (extf .f32 g hl) (sigR hb (extf .f32 g hl))) (dactR dh (extf .f32 wd hl))) hl

/-- The reference's gated activation. -/
def ref6 (hb : S_.BroadcastsInDim S8192x2816 (![] : Fin 0 → Fin S8192x2816.rank)) (hl : FTy.bits .bf16 < FTy.bits .f32)
    (g u : FVec Ideal S8192x2816 .bf16) : FVec Ideal S8192x2816 .bf16 :=
  truncf .bf16 (mulf (mulf (extf .f32 g hl) (sigR hb (extf .f32 g hl))) (extf .f32 u hl)) hl

/-- The kernel's sigmoid of a real. -/
theorem sgm_coe (v : ℝ) : sgm (v : EReal) = ((1 / (1 + Real.exp (-v)) : ℝ) : EReal) := by
  unfold sgm half
  rw [Reals.half_bf16, ← EReal.coe_mul, Ideal.tanh_coe, ← EReal.coe_mul, ← EReal.coe_add, Reals.half_tanh]

/-- `dg`: the two arrays agree where every argument is a real. -/
theorem eq4 (hb hl) (D : S8192x1024.Idx → ℝ) (G U : S8192x2816.Idx → ℝ) (W : S2816x1024.Idx → ℝ) :
    ref4 hb hl (fun i => (D i : EReal)) (fun i => (G i : EReal)) (fun i => (U i : EReal)) (fun i => (W i : EReal))
      = arr4 (fun i => (D i : EReal)) (fun i => (G i : EReal)) (fun i => (U i : EReal)) (fun i => (W i : EReal)) := by
  funext j
  unfold arr4 dgate
  pointwise [ref4, sigR, dactR]
  simp only [sgm_coe, Reals.logistic_coe]
  simp only [← EReal.coe_mul, Reals.coe_sum_univ, ← EReal.coe_one, ← EReal.coe_sub, ← EReal.coe_add]
  congr 1
  ring

/-- `du`: the two arrays agree where every argument is a real. -/
theorem eq5 (hb hl) (D : S8192x1024.Idx → ℝ) (G : S8192x2816.Idx → ℝ) (W : S2816x1024.Idx → ℝ) :
    ref5 hb hl (fun i => (D i : EReal)) (fun i => (G i : EReal)) (fun i => (W i : EReal))
      = arr5 (fun i => (D i : EReal)) (fun i => (G i : EReal)) (fun i => (W i : EReal)) := by
  funext j
  unfold arr5 dup
  pointwise [ref5, sigR, dactR]
  simp only [← EReal.coe_mul, Reals.coe_sum_univ, sgm_coe, Reals.logistic_coe]
  congr 1
  ring

/-- The gated activation: the two arrays agree where every argument is a real. -/
theorem eq6 (hb hl) (G U : S8192x2816.Idx → ℝ) :
    ref6 hb hl (fun i => (G i : EReal)) (fun i => (U i : EReal)) = arr6 (fun i => (G i : EReal)) (fun i => (U i : EReal)) := by
  funext j
  unfold arr6 gated
  pointwise [ref6, sigR]
  simp only [sgm_coe, Reals.logistic_coe]

/-- The precondition makes every argument an array of reals. -/
theorem reals (dh : FVec Ideal S8192x1024 .f32) (g u : FVec Ideal S8192x2816 .bf16) (wd : FVec Ideal S2816x1024 .bf16)
    (h : Cert.Pre_finite2.fn (F := Ideal) dh g u wd = fun _ => 1#1) :
    (∃ D : S8192x1024.Idx → ℝ, dh = fun i => (D i : EReal)) ∧ (∃ G : S8192x2816.Idx → ℝ, g = fun i => (G i : EReal))
      ∧ (∃ U : S8192x2816.Idx → ℝ, u = fun i => (U i : EReal)) ∧ (∃ W : S2816x1024.Idx → ℝ, wd = fun i => (W i : EReal)) := by
  have h0 := congrFun h ix0
  dsimp only [Cert.Pre_finite2.fn, Cert.Pre_finite2.fn_part1] at h0
  obtain ⟨h123, h4⟩ := IntOp.andi_eq_one.1 h0
  obtain ⟨h12, h3⟩ := IntOp.andi_eq_one.1 h123
  obtain ⟨h1, h2⟩ := IntOp.andi_eq_one.1 h12
  haveI : Subsingleton (Cert.Pre_finite2.S_).Idx := ⟨fun a b => funext fun i => i.elim0⟩
  exact ⟨Reals.reals_of_all _ fun i => Host.reduce_andi_all _ _ _ _ _ h1 i, Reals.reals_of_all _ fun i => Host.reduce_andi_all _ _ _ _ _ h2 i,
    Reals.reals_of_all _ fun i => Host.reduce_andi_all _ _ _ _ _ h3 i, Reals.reals_of_all _ fun i => Host.reduce_andi_all _ _ _ _ _ h4 i⟩

end Cert.FfnBwd

end
-- ==== Proof.InProjBwdBlock.lean ====
/-
  `in_proj_bwd0`, the kernel's side: the gradients of three projections of the normed rows are carried back to the rows and
  to the norm's gain. A grid point takes 512 rows; the gain's gradient is added up over the sixteen points, and the row of it
  that @main returns is taken after them.
-/
module

public import proofs.«01_k».proof.Proof.Gen.Kernel3Ideal.Frame
public import proofs.«01_k».proof.Proof.Reals
public import Idealize.ShloMosaic.Lib.Pipeline.ValueKit
public import Idealize.ShloMosaic.Lib.Pipeline.FrameSuffix
public import Idealize.ShloMosaic.Lib.StableHlo.Run
public import Idealize.ShloMosaic.Lib.Pointwise

@[expose] public section

set_option maxRecDepth 16384

noncomputable section

namespace Cert.InProjBwd

open Cert.Kernel3Ideal Cert.Kernel3Ideal.Gen Idealize.ShloMosaic Idealize.ShloMosaic.TcCoe Idealize.SL.Sem

/-- The constants of the norm: the width and the small number under the root. -/
abbrev width : EReal := Ideal.ofBits .f32 0x44800000#32
abbrev eps : EReal := Ideal.ofBits .f32 0x3727C5AC#32

/-- The normed row's gradient: the three products, added in the kernel's order. -/
def dn {n : ℕ} (a : (⟨2, ![n, 512]⟩ : Shape).Idx → EReal) (b : (⟨2, ![n, 256]⟩ : Shape).Idx → EReal) (e : (⟨2, ![n, 1024]⟩ : Shape).Idx → EReal)
    (u : S512x1024.Idx → EReal) (v : S256x1024.Idx → EReal) (w : S1024x1024.Idx → EReal) (r : Fin n) (k : Fin 1024) : EReal :=
  (∑ q : Fin 512, a (ix2 r q) * u (ix2 q k)) + (∑ q : Fin 256, b (ix2 r q) * v (ix2 q k)) + ∑ q : Fin 1024, e (ix2 r q) * w (ix2 q k)

/-- One over the root of the row's mean square. -/
def inv {n : ℕ} (x : (⟨2, ![n, 1024]⟩ : Shape).Idx → EReal) (r : Fin n) : EReal :=
  Ideal.rsqrt (Ideal.div (∑ q : Fin 1024, x (ix2 r q) * x (ix2 r q)) width + eps)

/-- The row's gradient, from the normed row's `d`, with the residual's `s` added. -/
def drow {n : ℕ} (d : Fin n → Fin 1024 → EReal) (x : (⟨2, ![n, 1024]⟩ : Shape).Idx → EReal) (g : S1x1024.Idx → EReal)
    (s : (⟨2, ![n, 1024]⟩ : Shape).Idx → EReal) (r : Fin n) (k : Fin 1024) : EReal :=
  s (ix2 r k) + inv x r * (d r k * g (ix2 0 k)
    - x (ix2 r k) * inv x r * Ideal.div (∑ q : Fin 1024, d r q * g (ix2 0 q) * (x (ix2 r q) * inv x r)) width)

/-- A row's part of the gain's gradient. -/
def dgain {n : ℕ} (d : Fin n → Fin 1024 → EReal) (x : (⟨2, ![n, 1024]⟩ : Shape).Idx → EReal) (r : Fin n) (k : Fin 1024) : EReal :=
  d r k * (x (ix2 r k) * inv x r)

/-- The normed rows' gradient a grid point computes. -/
theorem dn_at (a : FVec Ideal S512x512 .bf16) (b : FVec Ideal S512x256 .bf16) (e : FVec Ideal S512x1024 .bf16) (u : FVec Ideal S512x1024 .bf16)
    (v : FVec Ideal S256x1024 .bf16) (w : FVec Ideal S1024x1024 .bf16) (y : S512x1024.Idx) :
    k0_pay2 (F := Ideal) a u b v e w y = dn a b e u v w (y 0) (y 1) := by
  unfold dn
  open_payloads
  pointwise

/-- The rows' gradient a grid point stores. -/
theorem drow_at (d x : FVec Ideal S512x1024 .f32) (g : FVec Ideal S1x1024 .f32) (s : FVec Ideal S512x1024 .f32) (y : S512x1024.Idx) :
    k0_pay7 (F := Ideal) d x g s y = drow (fun r k => d (ix2 r k)) x g s (y 0) (y 1) := by
  unfold drow inv
  open_payloads
  pointwise

/-- The sum over its rows a grid point adds to the gain's gradient, the same in each of the eight rows. -/
theorem dgain_at (d x : FVec Ideal S512x1024 .f32) (y : S8x1024.Idx) :
    k0_pay8 (F := Ideal) d x y = ∑ r : Fin 512, dgain (fun r k => d (ix2 r k)) x r (y 1) := by
  unfold dgain inv
  open_payloads
  pointwise

/-- The addition to what the point before left. -/
theorem acc_at (d p : FVec Ideal S8x1024 .f32) (y : S8x1024.Idx) : k0_pay4 (F := Ideal) d p y = p y + d y := by
  open_payloads
  pointwise

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

/-- The rows' gradient over the whole array. -/
def arrX (a : FVec Ideal S8192x512 .bf16) (b : FVec Ideal S8192x256 .bf16) (e : FVec Ideal S8192x1024 .bf16) (u : FVec Ideal S512x1024 .bf16)
    (v : FVec Ideal S256x1024 .bf16) (w : FVec Ideal S1024x1024 .bf16) (x : FVec Ideal S8192x1024 .f32) (g : FVec Ideal S1x1024 .f32)
    (s : FVec Ideal S8192x1024 .f32) : FVec Ideal S8192x1024 .f32 :=
  fun j => drow (dn a b e u v w) x g s (j 0) (j 1)

/-- The gain's gradient: a sum over all the rows. -/
def arrG (a : FVec Ideal S8192x512 .bf16) (b : FVec Ideal S8192x256 .bf16) (e : FVec Ideal S8192x1024 .bf16) (u : FVec Ideal S512x1024 .bf16)
    (v : FVec Ideal S256x1024 .bf16) (w : FVec Ideal S1024x1024 .bf16) (x : FVec Ideal S8192x1024 .f32) : FVec Ideal S1024 .f32 :=
  fun j => ∑ r : Fin 8192, dgain (dn a b e u v w) x r (j 0)

/-- The rows' gradient after the run. -/
theorem final9 (c : Dev nD) : (dats m 0 c).arrAt 9 (cfgs 0).N = arrX (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) := by
  refine (dats m 0 c).arrAt_eq_of_covers 9 _ (by decide +kernel) fun t _ y => ?_
  blk_simp
  rw [after0_9]
  have h : ∀ y, (outsAt0 m c t.val t.isLt).1 y = drow (dn (iblk m c 0 t) (iblk m c 1 t) (iblk m c 2 t) (iblk m c 3 t) (iblk m c 4 t) (iblk m c 5 t))
      (iblk m c 6 t) (iblk m c 7 t) (iblk m c 8 t) (y 0) (y 1) := by
    intro y
    have e : (fun r k => k0_pay2 (F := Ideal) (iblk m c 0 t) (iblk m c 3 t) (iblk m c 1 t) (iblk m c 4 t) (iblk m c 2 t) (iblk m c 5 t) (ix2 r k))
        = dn (iblk m c 0 t) (iblk m c 1 t) (iblk m c 2 t) (iblk m c 3 t) (iblk m c 4 t) (iblk m c 5 t) :=
      funext fun r => funext fun k => dn_at _ _ _ _ _ _ _
    by_cases h0 : t.val % 16 = 0
    · have h1 : ¬1 ≤ t.val := by have : t.val < 16 := lt_of_lt_of_eq t.isLt N_0; omega
      rw [outsAt0_A m c t h0 h1]
      frame_out
      rw [drow_at, e]
    · rw [outsAt0_B m c t h0 (by omega)]
      frame_out
      rw [drow_at, e]
  rw [h]
  unfold arrX drow dn inv
  blk_point [iblk, V, idx t]

/-- The eight rows of the gain's gradient after the run. -/
theorem final10 (c : Dev nD) : (dats m 0 c).arrAt 10 (cfgs 0).N = fun j : S8x1024.Idx => arrG (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (ix1 (j 1)) := by
  refine (dats m 0 c).arrAt_eq_of_covers 10 _ (by decide +kernel) fun t hf y => ?_
  blk_simp
  have e : ∀ t, (fun r k => k0_pay2 (F := Ideal) (iblk m c 0 t) (iblk m c 3 t) (iblk m c 1 t) (iblk m c 4 t) (iblk m c 2 t) (iblk m c 5 t) (ix2 r k))
        = dn (iblk m c 0 t) (iblk m c 1 t) (iblk m c 2 t) (iblk m c 3 t) (iblk m c 4 t) (iblk m c 5 t) :=
      fun t => funext fun r => funext fun k => dn_at _ _ _ _ _ _ _
  rw [after0_10, Pipeline.eq_sum_fin_of_reset_step_apply_of_flush (fun n h => (outsAt0 m c n h).2) 16 (fun _ => 0)
    (fun t j => ∑ r : Fin 512, dgain (dn (iblk m c 0 t) (iblk m c 1 t) (iblk m c 2 t) (iblk m c 3 t) (iblk m c 4 t) (iblk m c 5 t)) (iblk m c 6 t) r (j 1))
    (fun t h j => by
      have h1 : ¬1 ≤ t.val := by have : t.val < 16 := lt_of_lt_of_eq t.isLt N_0; omega
      rw [outsAt0_A m c t h h1]; frame_out; rw [dgain_at, e]; simp)
    (fun t h j => by rw [outsAt0_B m c t h (by omega)]; frame_out; rw [acc_at, dgain_at, e])
    t ((flush0_10 t).mp hf) _, zero_add]
  unfold arrG
  refine Fin.sum_mul_add_congr fun s k hl => ?_
  unfold dgain dn inv
  blk_point [iblk, V, idx t, idx ⟨_, Pipeline.run_point_lt_of_flush t ((flush0_10 t).mp hf) s⟩]

end Cert.InProjBwd

end
-- ==== Proof.InProjBwdRun.lean ====
/-
  `in_proj_bwd0`: the run with its two results named, the row @main takes of the gain's gradient among them.
-/
module

public import proofs.«01_k».proof.Proof.InProjBwdBlock
public import Idealize.ShloMosaic.Lib.Pipeline.ValueKit
public import Idealize.ShloMosaic.Lib.Pipeline.FrameSuffix
public import Idealize.ShloMosaic.Lib.StableHlo.Run
public import Idealize.ShloMosaic.Lib.Pointwise

@[expose] public section

set_option maxRecDepth 16384

noncomputable section

namespace Cert.InProjBwd

open Cert.Kernel3Ideal Cert.Kernel3Ideal.Gen Idealize.ShloMosaic Idealize.ShloMosaic.TcCoe Idealize.SL.Sem

variable (m : (ℓ : Loc nD τ sig) → Buf (Elt Ideal) ℓ)

/-- What the two lines after the region leave: the first of the eight rows of the gain's gradient. -/
theorem tail (c : Dev nD) : Pipeline.afterTail₀ cfgs (dats m) 0 (V0 m) [hostOps1] c main_v2 = shapeCast S1024 (extractStridedSlice S1x1024 ![0, 0]
    (show FVec Ideal S8x1024 .f32 from (dats m 0 c).arrAt 10 cfg0.N) slices_S8x1024_S1x1024_0_0) shapeCasts_S1x1024_S1024 := by
  have e := Pipeline.withArrays_arr (τ := τ) spec0 launch0.win.arr_inj c (V0 m c) (fun w => (dats m 0 c).arrAt w (cfgs 0).N) 10
  change StableHlo.after hostOps1 (Pipeline.withArrays (cfgs 0).spec c (V0 m c) fun w => (dats m 0 c).arrAt w (cfgs 0).N) (Proc.tc.devRef main_v2) = _
  dsimp only [hostOps1]
  after_results
  exact congrArg (fun v : FVec Ideal S8x1024 .f32 => shapeCast S1024 (extractStridedSlice S1x1024 ![0, 0] v slices_S8x1024_S1x1024_0_0)
    shapeCasts_S1x1024_S1024) e

/-- That row is the gain's gradient. -/
theorem row (G : FVec Ideal S1024 .f32) (v : FVec Ideal S8x1024 .f32) (h : v = fun j : S8x1024.Idx => G (ix1 (j 1))) :
    shapeCast S1024 (extractStridedSlice S1x1024 ![0, 0] v slices_S8x1024_S1x1024_0_0) shapeCasts_S1x1024_S1024 = G := by
  subst h
  funext j
  pointwise

/-- The run: the rows' gradient, the gain's gradient, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v0_0) = arrX (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8))
      ∧ r.2.mem ((c.tc : Thread nD τ).loc main_v2) = arrG (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final9 m c),
    (((h c).2 main_v2 (Pipeline.mem_restRefs_of _ rfl (by decide +kernel))).trans (tail m c)).trans (row _ _ (final10 m c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c)))⟩)
    (run_main m ρ)

end Cert.InProjBwd

end
-- ==== Proof.InProjBwd.lean ====
/-
  `in_proj_bwd0`: the rows' and the gain's gradient of the reference are the kernel's. The reference
  differentiates `rsqrt` (`- ½ r / v` at `r = v^(-1/2)`) where the kernel has `r³` spread over its products.
-/
module

public import proofs.«01_k».proof.Proof.InProjBwdRun
public import proofs.«01_k».proof.Proof.Gen.Reference3Ideal

@[expose] public section

set_option maxRecDepth 16384

noncomputable section

namespace Cert.InProjBwd.Reference

open Cert.Reference3Ideal Cert.Reference3Ideal.Gen Idealize.ShloMosaic Idealize.SL.Sem

/-- The normed rows' gradient as the reference composes it. -/
def dnR (a : FVec Ideal S8192x512 .bf16) (b : FVec Ideal S8192x256 .bf16) (e : FVec Ideal S8192x1024 .bf16) (u : FVec Ideal S512x1024 .bf16)
    (v : FVec Ideal S256x1024 .bf16) (w : FVec Ideal S1024x1024 .bf16) : FVec Ideal S8192x1024 .f32 :=
  addf (addf (Host.dotGeneral dot_S8192x1024_S1024x1024_S8192x1024_1_1_0_0_n_n none (extf .f32 e bitsLt_bf16_f32) (transpose S1024x1024 [1, 0] (extf .f32 w bitsLt_bf16_f32) transposes_S1024x1024_S1024x1024_1_0))
    (Host.dotGeneral dot_S8192x256_S1024x256_S8192x1024_1_1_0_0_n_n none (extf .f32 b bitsLt_bf16_f32) (transpose S1024x256 [1, 0] (extf .f32 v bitsLt_bf16_f32) transposes_S256x1024_S1024x256_1_0)))
    (Host.dotGeneral dot_S8192x512_S1024x512_S8192x1024_1_1_0_0_n_n none (extf .f32 a bitsLt_bf16_f32) (transpose S1024x512 [1, 0] (extf .f32 u bitsLt_bf16_f32) transposes_S512x1024_S1024x512_1_0))

/-- The mean square with the small number. -/
def msR (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))

/-- The gain times the normed rows' gradient. -/
def uR (d : FVec Ideal S8192x1024 .f32) (g : FVec Ideal S1x1024 .f32) : FVec Ideal S8192x1024 .f32 :=
  mulf d (broadcastInDim S8192x1024 ![0, 1] bcast_S1x1024_S8192x1024_0_1 (broadcastInDim S1x1024 ![1] bcast_S1024_S1x1024_1 (shapeCast _ g shapeCasts_S1x1024_S1024)))

/-- The mean square's gradient over the width. -/
def sR (d x : FVec Ideal S8192x1024 .f32) (g : FVec Ideal S1x1024 .f32) : FVec Ideal S8192x1024 .f32 :=
  broadcastInDim S8192x1024 ![0] bcast_S8192_S8192x1024_0 (Host.reduceAdd (Host.divf (mulf (shapeCast _ (Host.reduceAdd (mulf x (uR d g)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msR x)) (msR x)))) (broadcastInDim S8192x1 ![] bcast_S_S8192x1 (constant S_ .f32 0x44800000#32))) (constant S_ .f32 0x00000000#32) reducesTo_S8192x1_S8192_d1 h_S_)

/-- The rows' gradient as the reference composes it. -/
def resX (d x : FVec Ideal S8192x1024 .f32) (g : FVec Ideal S1x1024 .f32) (s : FVec Ideal S8192x1024 .f32) : FVec Ideal S8192x1024 .f32 :=
  addf (addf (addf s (mulf (uR d g) (broadcastInDim S8192x1024 ![0, 1] bcast_S8192x1_S8192x1024_0_1 (Host.rsqrt (msR x))))) (mulf x (sR d x g))) (mulf (sR d x g) x)

/-- The gain's gradient as the reference composes it. -/
def resG (d x : FVec Ideal S8192x1024 .f32) : FVec Ideal S1024 .f32 :=
  Host.reduceAdd (shapeCast _ (Host.reduceAdd (mulf (mulf x (broadcastInDim S8192x1024 ![0, 1] bcast_S8192x1_S8192x1024_0_1 (Host.rsqrt (msR x)))) d) (constant S_ .f32 0x00000000#32) reducesTo_S8192x1024_S1024_d0 h_S_) shapeCasts_S1024_S1x1024) (constant S_ .f32 0x00000000#32) reducesTo_S1x1024_S1024_d0 h_S_

/-- The reference adds the three products in another order. -/
theorem dn_eq (a : FVec Ideal S8192x512 .bf16) (b : FVec Ideal S8192x256 .bf16) (e : FVec Ideal S8192x1024 .bf16) (u : FVec Ideal S512x1024 .bf16)
    (v : FVec Ideal S256x1024 .bf16) (w : FVec Ideal S1024x1024 .bf16) :
    dnR a b e u v w = fun j => dn a b e u v w (j 0) (j 1) := by
  funext j
  unfold dn
  pointwise [dnR]
  rw [add_comm, add_comm (∑ k : Fin 1024, _), add_assoc]

/-- The gain's gradient needs no finiteness: it is the same sum. -/
theorem eqG (D : Fin 8192 → Fin 1024 → EReal) (x : FVec Ideal S8192x1024 .f32) (j : S1024.Idx) :
    resG (fun j => D (j 0) (j 1)) x j = ∑ r : Fin 8192, dgain D x r (j 0) := by
  unfold dgain inv
  pointwise [resG, msR]
  simp only [Finset.univ_unique, Finset.sum_singleton]
  refine Finset.sum_congr rfl fun r _ => ?_
  rw [mul_comm]

/-- The width is a real. -/
theorem width_coe : Ideal.ofBits .f32 0x44800000#32 = ((1024 : ℝ) : EReal) := by
  simp [Ideal.ofBits, Ideal.ieee, -EReal.coe_mul]; norm_num

/-- The factor of `rsqrt`'s derivative. -/
theorem neg_half_coe : Ideal.ofBits .f32 0xBF000000#32 = ((-(1 / 2) : ℝ) : EReal) := by
  simp [Ideal.ofBits, Ideal.ieee, -EReal.coe_mul]; norm_num

/-- The small number is a positive real. -/
theorem eps_coe : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-- A square is at least zero, at the infinities too. -/
theorem sq_nonneg (x : EReal) : 0 ≤ x * x := by
  induction x with
  | bot => simp
  | coe r => rw [← EReal.coe_mul]; exact_mod_cast mul_self_nonneg r
  | top => simp

/-- The mean square with the small number is a positive real, or infinite. -/
theorem ms_cases (f : Fin 1024 → EReal) : (Ideal.div (∑ q : Fin 1024, f q * f q) (Ideal.ofBits .f32 0x44800000#32) + Ideal.ofBits .f32 0x3727C5AC#32 = ⊤)
    ∨ ∃ V : ℝ, 0 < V ∧ Ideal.div (∑ q : Fin 1024, f q * f q) (Ideal.ofBits .f32 0x44800000#32) + Ideal.ofBits .f32 0x3727C5AC#32 = (V : EReal) := by
  obtain ⟨e, he, h⟩ := eps_coe
  have hs : 0 ≤ ∑ q : Fin 1024, f q * f q := Finset.sum_nonneg fun q _ => sq_nonneg (f q)
  generalize ∑ q : Fin 1024, f q * f q = t at hs
  rw [h, width_coe, Ideal.div_coe (by norm_num)]
  induction t with
  | bot => simp at hs
  | coe r =>
    have hr : 0 ≤ r := by exact_mod_cast hs
    exact Or.inr ⟨r * (1 / 1024) + e, by positivity, by rw [← EReal.coe_mul, ← EReal.coe_add]⟩
  | top => exact Or.inl (by rw [EReal.top_mul_coe_of_pos (by norm_num), EReal.top_add_coe])

/-- A finite number at least zero distributes over a sum. -/
theorem sum_mul_coe {ι : Type} (s : Finset ι) (f : ι → EReal) (ρ : ℝ) (hρ : 0 ≤ ρ) : ∑ q ∈ s, f q * (ρ : EReal) = (∑ q ∈ s, f q) * (ρ : EReal) := by
  classical
  induction s using Finset.induction_on with
  | empty => simp
  | insert a s ha ih =>
    rw [Finset.sum_insert ha, Finset.sum_insert ha, ih, EReal.right_distrib_of_nonneg_of_ne_top (by exact_mod_cast hρ) (EReal.coe_ne_top ρ)]

/-- Twice a negative multiple, at the infinities too. -/
theorem twice (y : EReal) (c d : ℝ) (hc : c < 0) (hd : d = -(2 * c)) : y * (c : EReal) + y * (c : EReal) = -(y * (d : EReal)) := by
  have hd0 : 0 < d := by linarith
  induction y with
  | bot => rw [EReal.bot_mul_coe_of_neg hc, EReal.bot_mul_coe_of_pos hd0]; rfl
  | coe r => rw [← EReal.coe_mul, ← EReal.coe_mul, ← EReal.coe_add, ← EReal.coe_neg, hd]; congr 1; ring
  | top => rw [EReal.top_mul_coe_of_neg hc, EReal.top_mul_coe_of_pos hd0]; rfl

/-- The identity: `- ½ r / v` twice is `- r³`. -/
theorem identity (s dg x : EReal) (V ρ : ℝ) (f h : Fin 1024 → EReal) (hV : ρ * ρ * V = 1) (hV0 : V ≠ 0) (hρ : 0 < ρ) :
    s + dg * (ρ : EReal) + x * ((∑ q, h q * f q) * (((-(1 / 2) : ℝ) : EReal) * ((ρ : EReal) * ((1 / V : ℝ) : EReal))) * ((1 / 1024 : ℝ) : EReal))
        + (∑ q, h q * f q) * (((-(1 / 2) : ℝ) : EReal) * ((ρ : EReal) * ((1 / V : ℝ) : EReal))) * ((1 / 1024 : ℝ) : EReal) * x
      = s + (ρ : EReal) * (dg - x * (ρ : EReal) * ((∑ q, f q * (h q * (ρ : EReal))) * ((1 / 1024 : ℝ) : EReal))) := by
  have e : ∑ q, f q * (h q * (ρ : EReal)) = (∑ q, h q * f q) * (ρ : EReal) := by
    rw [← sum_mul_coe _ _ _ hρ.le]; exact Finset.sum_congr rfl fun q _ => by rw [← mul_assoc, mul_comm (f q)]
  have v : 1 / V = ρ * ρ := by field_simp; linarith
  rw [e]
  generalize ∑ q, h q * f q = T
  have hc : -(1 / 2) * (ρ * (1 / V)) * (1 / 1024) < 0 := by rw [v]; have : 0 < ρ * (ρ * ρ) := by positivity
                                                            linarith
  have l1 : x * (T * (((-(1 / 2) : ℝ) : EReal) * ((ρ : EReal) * ((1 / V : ℝ) : EReal))) * ((1 / 1024 : ℝ) : EReal))
      = x * T * ((-(1 / 2) * (ρ * (1 / V)) * (1 / 1024) : ℝ) : EReal) := by
    simp only [EReal.coe_mul, mul_assoc]
  have l2 : T * (((-(1 / 2) : ℝ) : EReal) * ((ρ : EReal) * ((1 / V : ℝ) : EReal))) * ((1 / 1024 : ℝ) : EReal) * x
      = x * T * ((-(1 / 2) * (ρ * (1 / V)) * (1 / 1024) : ℝ) : EReal) := by
    rw [mul_comm _ x, l1]
  have r1 : (ρ : EReal) * -(x * (ρ : EReal) * (T * (ρ : EReal) * ((1 / 1024 : ℝ) : EReal))) = -(x * T * ((ρ * (ρ * ρ) * (1 / 1024) : ℝ) : EReal)) := by
    rw [mul_neg]
    simp only [EReal.coe_mul, mul_assoc, mul_left_comm, mul_comm]
  rw [l1, l2, sub_eq_add_neg, EReal.left_distrib_of_nonneg_of_ne_top (by exact_mod_cast hρ.le) (EReal.coe_ne_top ρ), r1, add_assoc,
    twice _ _ (ρ * (ρ * ρ) * (1 / 1024)) hc (by rw [v]; ring), add_assoc, mul_comm dg]

/-- The rows' gradient. A row with an infinite entry has an infinite mean square: there both are the residual's. -/
theorem eqX (D : Fin 8192 → Fin 1024 → EReal) (x s : FVec Ideal S8192x1024 .f32) (g : FVec Ideal S1x1024 .f32) (j : S8192x1024.Idx) :
    resX (fun j => D (j 0) (j 1)) x g s j = drow D x g s (j 0) (j 1) := by
  unfold drow inv
  pointwise [resX, sR, uR, msR]
  rcases ms_cases fun q => x (ix2 (j 0) q) with hv | ⟨V, hV, hv⟩
  · simp only [width, eps, hv, Ideal.rsqrt_top]
    rw [neg_half_coe, width_coe]
    simp only [Finset.univ_unique, Finset.sum_singleton, Ideal.div_coe (show (1024 : ℝ) ≠ 0 by norm_num)]
    simp [Ideal.div]
  · have hr : Ideal.rsqrt (V : EReal) = (((Real.sqrt V)⁻¹ : ℝ) : EReal) := by
      rw [Ideal.rsqrt_coe, if_neg (not_lt.mpr hV.le), if_neg hV.ne']
    have hρ : (Real.sqrt V)⁻¹ * (Real.sqrt V)⁻¹ * V = 1 := by
      rw [← mul_inv, Real.mul_self_sqrt hV.le, inv_mul_cancel₀ hV.ne']
    simp only [width, eps, hv, hr]
    rw [neg_half_coe, width_coe]
    simp only [Finset.univ_unique, Finset.sum_singleton, Ideal.div_coe hV.ne', Ideal.div_coe (show (1024 : ℝ) ≠ 0 by norm_num)]
    exact identity _ _ _ V _ _ _ hρ hV.ne' (inv_pos.mpr (Real.sqrt_pos.mpr hV))

/-- The gain's gradient is the kernel's. -/
theorem eq1 (a : FVec Ideal S8192x512 .bf16) (b : FVec Ideal S8192x256 .bf16) (e : FVec Ideal S8192x1024 .bf16) (u : FVec Ideal S512x1024 .bf16)
    (v : FVec Ideal S256x1024 .bf16) (w : FVec Ideal S1024x1024 .bf16) (x : FVec Ideal S8192x1024 .f32) :
    resG (dnR a b e u v w) x = arrG a b e u v w x := by
  funext j
  rw [dn_eq]
  exact eqG _ _ j

/-- The rows' gradient is the kernel's. -/
theorem eq0 (a : FVec Ideal S8192x512 .bf16) (b : FVec Ideal S8192x256 .bf16) (e : FVec Ideal S8192x1024 .bf16) (u : FVec Ideal S512x1024 .bf16)
    (v : FVec Ideal S256x1024 .bf16) (w : FVec Ideal S1024x1024 .bf16) (x : FVec Ideal S8192x1024 .f32) (g : FVec Ideal S1x1024 .f32)
    (s : FVec Ideal S8192x1024 .f32) : resX (dnR a b e u v w) x g s = arrX a b e u v w x g s := by
  funext j
  rw [dn_eq]
  exact eqX _ x s g j

end Cert.InProjBwd.Reference

end
-- ==== Proof.DwDown.lean ====
/-
  `dw_down1`: the gradient of the down projection's weight, `actᵀ · dh` over the 8192 tokens. The kernel goes through the
  tokens in four steps of 2048 and adds each step's product to the block it keeps; the four sums of 2048 terms are the one
  sum of 8192.
-/
module

public import proofs.«01_k».proof.Proof.Gen.Kernel4Ideal.Frame
public import proofs.«01_k».proof.Proof.Gen.Reference4Ideal
public import Idealize.ShloMosaic.Lib.Pipeline.ValueKit
public import Idealize.ShloMosaic.Lib.Pointwise

@[expose] public section

set_option maxRecDepth 16384

noncomputable section

namespace Cert.DwDown

open Cert.Kernel4Ideal Cert.Kernel4Ideal.Gen Idealize.ShloMosaic Idealize.ShloMosaic.TcCoe Idealize.SL.Sem

/-- One step's product at a place: a sum over 2048 tokens. -/
def step (x : FVec Ideal S2048x1408 .bf16) (dy : FVec Ideal S2048x1024 .f32) (j : S1408x1024.Idx) : EReal :=
  ∑ r : Fin 2048, x (ix2 r (j 0)) * dy (ix2 r (j 1))

/-- The whole gradient: a sum over the 8192 tokens. -/
def arr (x : FVec Ideal S8192x2816 .bf16) (dy : FVec Ideal S8192x1024 .f32) : FVec Ideal S2816x1024 .f32 :=
  fun j => ∑ r : Fin 8192, x (ix2 r (j 0)) * dy (ix2 r (j 1))

/-- The product a step computes, at a place. -/
theorem step_at (x : FVec Ideal S2048x1408 .bf16) (dy : FVec Ideal S2048x1024 .f32) (j : S1408x1024.Idx) :
    k0_pay2 (F := Ideal) (k0_pay1 (F := Ideal) x) dy j = step x dy j := by
  unfold step
  open_payloads
  pointwise

variable (m : (ℓ : Loc nD τ sig) → Buf (Elt Ideal) ℓ)

/-- The windows' places. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The result array after the run. -/
theorem final (c : Dev nD) : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0)
    (fun t j => step (iblk m c 0 t) (iblk m c 1 t) j)
    (fun t h j => by rw [outsAt0_A m c t h (by omega)]; frame_out; rw [step_at]; simp)
    (fun t h j => by rw [outsAt0_B m c t h (by omega)]; frame_out; unfold k0_pay3; pointwise; rw [step_at])
    t ((flush0_2 t).mp hf) _, zero_add]
  unfold step arr
  refine Fin.sum_mul_add_congr fun s k hl => ?_
  blk_point [iblk, V, idx t, idx ⟨_, Pipeline.run_point_lt_of_flush t ((flush0_2 t).mp hf) s⟩]

/-- The gradient as the reference composes it: the product with the two factors exchanged, transposed. -/
def ref (x : FVec Ideal S8192x2816 .bf16) (dy : FVec Ideal S8192x1024 .f32) : FVec Ideal S2816x1024 .f32 :=
  transpose S2816x1024 [1, 0] (Host.dotGeneral Cert.Reference4Ideal.dot_S8192x1024_S8192x2816_S1024x2816_0_0_1_1_n_n none dy
    (extf .f32 x Cert.Reference4Ideal.Gen.bitsLt_bf16_f32)) Cert.Reference4Ideal.Gen.transposes_S1024x2816_S2816x1024_1_0

/-- The two arrays agree. -/
theorem eq (x : FVec Ideal S8192x2816 .bf16) (dy : FVec Ideal S8192x1024 .f32) : ref x dy = arr x dy := by
  funext j
  pointwise [ref, arr]
  exact Finset.sum_congr rfl fun r _ => mul_comm _ _

end Cert.DwDown

end
-- ==== Proof.DwGate.lean ====
/-
  `dw_gate1`: the gradient of the gate projection's weight, `dgᵀ · hn` over the 8192 tokens (and, at other arguments, that
  of the up projection's). The kernel goes through the
  tokens in four steps of 2048 and adds each step's product to the block it keeps; the four sums of 2048 terms are the one
  sum of 8192.
-/
module

public import proofs.«01_k».proof.Proof.Gen.Kernel5Ideal.Frame
public import proofs.«01_k».proof.Proof.Gen.Reference5Ideal
public import Idealize.ShloMosaic.Lib.Pipeline.ValueKit
public import Idealize.ShloMosaic.Lib.Pointwise

@[expose] public section

set_option maxRecDepth 16384

noncomputable section

namespace Cert.DwGate

open Cert.Kernel5Ideal Cert.Kernel5Ideal.Gen Idealize.ShloMosaic Idealize.ShloMosaic.TcCoe Idealize.SL.Sem

/-- One step's product at a place: a sum over 2048 tokens. -/
def step (x : FVec Ideal S2048x1408 .bf16) (dy : FVec Ideal S2048x1024 .bf16) (j : S1408x1024.Idx) : EReal :=
  ∑ r : Fin 2048, x (ix2 r (j 0)) * dy (ix2 r (j 1))

/-- The whole gradient: a sum over the 8192 tokens. -/
def arr (x : FVec Ideal S8192x2816 .bf16) (dy : FVec Ideal S8192x1024 .bf16) : FVec Ideal S2816x1024 .f32 :=
  fun j => ∑ r : Fin 8192, x (ix2 r (j 0)) * dy (ix2 r (j 1))

/-- The product a step computes, at a place. -/
theorem step_at (x : FVec Ideal S2048x1408 .bf16) (dy : FVec Ideal S2048x1024 .bf16) (j : S1408x1024.Idx) :
    k0_pay2 (F := Ideal) (k0_pay1 (F := Ideal) x) dy j = step x dy j := by
  unfold step
  open_payloads
  pointwise

variable (m : (ℓ : Loc nD τ sig) → Buf (Elt Ideal) ℓ)

/-- The windows' places. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The result array after the run. -/
theorem final (c : Dev nD) : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0)
    (fun t j => step (iblk m c 0 t) (iblk m c 1 t) j)
    (fun t h j => by rw [outsAt0_A m c t h (by omega)]; frame_out; rw [step_at]; simp)
    (fun t h j => by rw [outsAt0_B m c t h (by omega)]; frame_out; unfold k0_pay3; pointwise; rw [step_at])
    t ((flush0_2 t).mp hf) _, zero_add]
  unfold step arr
  refine Fin.sum_mul_add_congr fun s k hl => ?_
  blk_point [iblk, V, idx t, idx ⟨_, Pipeline.run_point_lt_of_flush t ((flush0_2 t).mp hf) s⟩]

/-- The gradient as the reference composes it: the product, transposed and transposed back. -/
def ref (x : FVec Ideal S8192x2816 .bf16) (dy : FVec Ideal S8192x1024 .bf16) : FVec Ideal S2816x1024 .f32 :=
  transpose S2816x1024 [1, 0] (transpose Cert.Reference5Ideal.S1024x2816 [1, 0] (Host.dotGeneral
    Cert.Reference5Ideal.dot_S8192x2816_S8192x1024_S2816x1024_0_0_1_1_n_n none
    (extf .f32 x Cert.Reference5Ideal.Gen.bitsLt_bf16_f32) (extf .f32 dy Cert.Reference5Ideal.Gen.bitsLt_bf16_f32))
    Cert.Reference5Ideal.Gen.transposes_S2816x1024_S1024x2816_1_0) Cert.Reference5Ideal.Gen.transposes_S1024x2816_S2816x1024_1_0

/-- The two arrays agree. -/
theorem eq (x : FVec Ideal S8192x2816 .bf16) (dy : FVec Ideal S8192x1024 .bf16) : ref x dy = arr x dy := by
  funext j
  pointwise [ref, arr]

end Cert.DwGate

end
-- ==== Proof.GateUp.lean ====
/-
  `ffn_gate_up1`: the root mean square norm of the token's row, and its products with the gate's and the up projection's
  weights. A grid point takes 512 rows; the norm is computed once for them and read back for both products.
-/
module

public import proofs.«01_k».proof.Proof.Gen.Kernel6Ideal.Frame
public import proofs.«01_k».proof.Proof.Gen.Reference6Ideal
public import proofs.«01_k».proof.Proof.Reals
public import Idealize.ShloMosaic.Lib.Pipeline.ValueKit
public import Idealize.ShloMosaic.Lib.Pointwise

@[expose] public section

set_option maxRecDepth 16384

noncomputable section

namespace Cert.GateUp

open Cert.Kernel6Ideal Cert.Kernel6Ideal.Gen Idealize.ShloMosaic Idealize.ShloMosaic.TcCoe Idealize.SL.Sem

/-- The constants of the norm: the width and the small number under the root. -/
abbrev width : EReal := Ideal.ofBits .f32 0x44800000#32
abbrev eps : EReal := Ideal.ofBits .f32 0x3727C5AC#32

/-- A row's entry over the row's root mean square, times the gain. -/
def norm {n : ℕ} (h : (⟨2, ![n, 1024]⟩ : Shape).Idx → EReal) (g : S1x1024.Idx → EReal) (r : Fin n) (k : Fin 1024) : EReal :=
  h (ix2 r k) * Ideal.rsqrt (Ideal.div (∑ q : Fin 1024, h (ix2 r q) * h (ix2 r q)) width + eps) * g (ix2 0 k)

/-- The normed rows a grid point computes. -/
theorem hn_at (h : FVec Ideal S512x1024 .f32) (g : FVec Ideal S1x1024 .f32) (y : S512x1024.Idx) :
    k0_pay1 (F := Ideal) h g y = norm h g (y 0) (y 1) := by
  unfold norm
  open_payloads
  pointwise

/-- The same at a row and a column. -/
theorem hn_ix (h : FVec Ideal S512x1024 .f32) (g : FVec Ideal S1x1024 .f32) (r : Fin 512) (k : Fin 1024) :
    k0_pay1 (F := Ideal) h g (ix2 r k) = norm h g r k := hn_at h g _

/-- A product a grid point computes. -/
theorem gate_at (x : FVec Ideal S512x1024 .bf16) (w : FVec Ideal S2816x1024 .bf16) (y : S512x2816.Idx) :
    k0_pay3 (F := Ideal) x w y = ∑ k : Fin 1024, x (ix2 (y 0) k) * w (ix2 (y 1) k) := by
  open_payloads
  pointwise

/-- The other product. -/
theorem up_at (x : FVec Ideal S512x1024 .bf16) (w : FVec Ideal S2816x1024 .bf16) (y : S512x2816.Idx) :
    k0_pay4 (F := Ideal) x w y = ∑ k : Fin 1024, x (ix2 (y 0) k) * w (ix2 (y 1) k) := by
  open_payloads
  pointwise

variable (m : (ℓ : Loc nD τ sig) → Buf (Elt Ideal) ℓ)

/-- The windows' places. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The normed rows over the whole array. -/
def arrH (h : FVec Ideal S8192x1024 .f32) (g : FVec Ideal S1x1024 .f32) : FVec Ideal S8192x1024 .bf16 :=
  fun j => norm h g (j 0) (j 1)

/-- A product over the whole arrays. -/
def arrP (h : FVec Ideal S8192x1024 .f32) (g : FVec Ideal S1x1024 .f32) (w : FVec Ideal S2816x1024 .bf16) : FVec Ideal S8192x2816 .bf16 :=
  fun j => ∑ k : Fin 1024, norm h g (j 0) k * w (ix2 (j 1) k)

/-- The result array after the run. -/
theorem final4 (c : Dev nD) : (dats m 0 c).arrAt 4 (cfgs 0).N = arrH (m ((c : Thread nD τ).loc main_arg0)) (m ((c : Thread nD τ).loc main_arg1)) := by
  refine (dats m 0 c).arrAt_eq_of_covers 4 _ (by decide +kernel) fun t _ y => ?_
  blk_simp
  rw [after0_4]
  unfold outsAt0
  frame_out
  refine (hn_at _ _ _).trans ?_
  unfold norm arrH
  blk_point [iblk, V, idx t]

/-- The result array after the run. -/
theorem final5 (c : Dev nD) : (dats m 0 c).arrAt 5 (cfgs 0).N = arrP (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  frame_out
  refine (gate_at _ _ _).trans ?_
  unfold arrP
  refine Finset.sum_congr rfl fun k _ => (congrArg (· * _) (hn_ix _ _ _ _)).trans ?_
  unfold norm
  blk_point [iblk, V, idx t]

/-- The result array after the run. -/
theorem final6 (c : Dev nD) : (dats m 0 c).arrAt 6 (cfgs 0).N = arrP (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]
  unfold outsAt0
  frame_out
  refine (up_at _ _ _).trans ?_
  unfold arrP
  refine Finset.sum_congr rfl fun k _ => (congrArg (· * _) (hn_ix _ _ _ _)).trans ?_
  unfold norm
  blk_point [iblk, V, idx t]

end Cert.GateUp

namespace Cert.GateUp.Reference

open Cert.Reference6Ideal Cert.Reference6Ideal.Gen Idealize.ShloMosaic Idealize.SL.Sem

/-- The normed rows as the reference composes them. -/
def hn (h : FVec Ideal S8192x1024 .f32) (g : FVec Ideal S1x1024 .f32) : FVec Ideal S8192x1024 .f32 :=
  mulf (mulf h (broadcastInDim S8192x1024 ![0, 1] bcast_S8192x1_S8192x1024_0_1 (Host.rsqrt (addf (Host.divf
    (broadcastInDim S8192x1 ![0] bcast_S8192_S8192x1_0 (Host.reduceAdd (mulf h h) (constant S_ .f32 0x00000000#32)
      reducesTo_S8192x1024_S8192_d1 h_S_)) (broadcastInDim S8192x1 ![] bcast_S_S8192x1 (constant S_ .f32 0x44800000#32)))
    (broadcastInDim S8192x1 ![] bcast_S_S8192x1 (constant S_ .f32 0x3727C5AC#32)))))) (broadcastInDim S8192x1024 ![0, 1]
    bcast_S1x1024_S8192x1024_0_1 (broadcastInDim S1x1024 ![1] bcast_S1024_S1x1024_1 (shapeCast _ g shapeCasts_S1x1024_S1024)))

/-- A product as the reference composes it. -/
def prod (h : FVec Ideal S8192x1024 .f32) (g : FVec Ideal S1x1024 .f32) (w : FVec Ideal S2816x1024 .bf16) : FVec Ideal S8192x2816 .bf16 :=
  truncf .bf16 (Host.dotGeneral dot_S8192x1024_S1024x2816_S8192x2816_1_0_0_1_n_n none (hn h g)
    (transpose S1024x2816 [1, 0] (extf .f32 w bitsLt_bf16_f32) transposes_S2816x1024_S1024x2816_1_0)) bitsLt_bf16_f32

/-- The normed rows agree. -/
theorem eqH (h : FVec Ideal S8192x1024 .f32) (g : FVec Ideal S1x1024 .f32) : truncf .bf16 (hn h g) bitsLt_bf16_f32 = arrH h g := by
  funext j
  unfold arrH norm
  pointwise [hn]

/-- The products agree. -/
theorem eqP (h : FVec Ideal S8192x1024 .f32) (g : FVec Ideal S1x1024 .f32) (w : FVec Ideal S2816x1024 .bf16) : prod h g w = arrP h g w := by
  funext j
  unfold arrP norm
  pointwise [hn, prod]

end Cert.GateUp.Reference

end
-- ==== Proof.FfnDown.lean ====
/-
  `ffn_down1`: the gated activation `g · σ(g) · u` and its product with the down projection's weight, added to the
  residual. The body fills the activation's rows in twenty-two tiles of 128 columns and multiplies them once.
-/
module

public import proofs.«01_k».proof.Proof.Gen.Kernel7Ideal.Frame
public import proofs.«01_k».proof.Proof.Gen.Reference7Ideal
public import proofs.«01_k».proof.Proof.Reals
public import Idealize.ShloMosaic.Lib.Pipeline.ValueKit
public import Idealize.ShloMosaic.Lib.Pointwise

@[expose] public section

set_option maxRecDepth 16384

noncomputable section

namespace Cert.FfnDown

open Cert.Kernel7Ideal Cert.Kernel7Ideal.Gen Idealize.ShloMosaic Idealize.ShloMosaic.TcCoe Idealize.SL.Sem

/-- One half, as the kernel writes it. -/
abbrev half : EReal := Ideal.ofBits .bf16 0x3F00#16

/-- The sigmoid as the kernel computes it. -/
def sgm (v : EReal) : EReal := half * Ideal.tanh (half * v) + half

/-- The gated activation over a block's rows. -/
def gated (g u : S1024x2816.Idx → EReal) : S1024x2816.Idx → EReal := fun z => g z * sgm (g z) * u z

/-- The residual plus the activation's row times the weight's column. -/
def out {n : ℕ} (h : (⟨2, ![n, 1024]⟩ : Shape).Idx → EReal) (g u : (⟨2, ![n, 2816]⟩ : Shape).Idx → EReal) (w : S2816x1024.Idx → EReal)
    (r : Fin n) (q : Fin 1024) : EReal :=
  h (ix2 r q) + ∑ k : Fin 2816, g (ix2 r k) * sgm (g (ix2 r k)) * u (ix2 r k) * w (ix2 k q)

/-- The product and the residual at a place, the activation's rows `a` given. -/
theorem pay_at (h : FVec Ideal S1024x1024 .f32) (a : FVec Ideal S1024x2816 .bf16) (w : FVec Ideal S2816x1024 .bf16) (y : S1024x1024.Idx) :
    k0_pay1 (F := Ideal) h (k0_pay28 (F := Ideal) a w) y = h y + ∑ k : Fin 2816, a (ix2 (y 0) k) * w (ix2 k (y 1)) := by
  open_payloads
  pointwise

variable (m : (ℓ : Loc nD τ sig) → Buf (Elt Ideal) ℓ)

/-- The windows' places. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- The result over the whole arrays. -/
def arr (h : FVec Ideal S8192x1024 .f32) (g u : FVec Ideal S8192x2816 .bf16) (w : FVec Ideal S2816x1024 .bf16) : FVec Ideal S8192x1024 .f32 :=
  fun j => out h g u w (j 0) (j 1)

set_option maxHeartbeats 4000000 in
/-- The block a grid point stores. -/
theorem blk_at (c : Dev nD) (t : Fin cfg0.N) (y : S1024x1024.Idx) :
    outsAt0 m c t y = out (iblk m c 0 t) (iblk m c 1 t) (iblk m c 2 t) (iblk m c 3 t) (y 0) (y 1) := by
  unfold outsAt0
  frame_out
  refine (pay_at _ _ _ y).trans ?_
  unfold out
  refine congrArg₂ (· + ·) (by rw [ix2_eta]) (Finset.sum_congr rfl fun k _ => congrArg₂ (· * ·) ?_ rfl)
  refine (congrFun (View.readCov_eq_canon' _ _ _) _).trans ?_
  refine (congrFun (?_ : View.canon _ = gated (iblk m c 1 t) (iblk m c 2 t)) _).trans ?_
  · funext z
    canon_tiles x h
    all_goals
      unfold gated sgm half
      open_payloads
      pointwise
      blk_point []
  · unfold gated
    blk_point []
    all_goals simp

/-- The result array after the run. -/
theorem final (c : Dev nD) : (dats m 0 c).arrAt 4 (cfgs 0).N = arr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine (blk_at m c t _).trans ?_
  unfold out arr
  blk_point [iblk, V, idx t]

end Cert.FfnDown

namespace Cert.FfnDown.Reference

open Cert.Reference7Ideal Cert.Reference7Ideal.Gen Idealize.ShloMosaic Idealize.SL.Sem

/-- The result as the reference composes it. -/
def res (h : FVec Ideal S8192x1024 .f32) (g u : FVec Ideal S8192x2816 .bf16) (w : FVec Ideal S2816x1024 .bf16) : FVec Ideal S8192x1024 .f32 :=
  addf h (Host.dotGeneral dot_S8192x2816_S2816x1024_S8192x1024_1_0_0_1_n_n none (mulf (mulf (extf .f32 g bitsLt_bf16_f32)
    (Host.divf (broadcastInDim S8192x2816 ![] bcast_S_S8192x2816 (constant S_ .f32 0x3F800000#32)) (addf (broadcastInDim S8192x2816 ![]
      bcast_S_S8192x2816 (constant S_ .f32 0x3F800000#32)) (Host.exp (Host.negf (extf .f32 g bitsLt_bf16_f32))))))
    (extf .f32 u bitsLt_bf16_f32)) (extf .f32 w bitsLt_bf16_f32))

/-- The two arrays agree. -/
theorem eq (h : FVec Ideal S8192x1024 .f32) (g u : FVec Ideal S8192x2816 .bf16) (w : FVec Ideal S2816x1024 .bf16) :
    res h g u w = arr h g u w := by
  funext j
  unfold arr out sgm half
  pointwise [res]
  simp only [Reals.half_tanh_logistic]

end Cert.FfnDown.Reference

end
-- ==== Proof.OutProjBwd1.lean ====
/-
  `out_proj_bwd1`: the output projection's backward pass into the two halves of its argument, `dh · wᵀ`. A grid point takes 1024
  rows, makes the one product and stores its two halves of columns.
-/
module

public import proofs.«01_k».proof.Proof.Gen.Kernel8Ideal.Frame
public import proofs.«01_k».proof.Proof.Gen.Reference8Ideal
public import Idealize.ShloMosaic.Lib.Pipeline.ValueKit
public import Idealize.ShloMosaic.Lib.Pointwise

@[expose] public section

set_option maxRecDepth 16384

noncomputable section

namespace Cert.OutProjBwd1

open Cert.Kernel8Ideal Cert.Kernel8Ideal.Gen Idealize.ShloMosaic Idealize.ShloMosaic.TcCoe Idealize.SL.Sem

/-- The first half's columns over the whole arrays. -/
def arrA (dh : FVec Ideal S8192x1024 .f32) (w : FVec Ideal S1024x1024 .bf16) : FVec Ideal S8192x512 .f32 :=
  fun j => ∑ k : Fin 1024, dh (ix2 (j 0) k) * w (ix2 ⟨(j 1).val, lt_of_lt_of_le (j 1).isLt (by decide)⟩ k)

/-- The second half's. -/
def arrB (dh : FVec Ideal S8192x1024 .f32) (w : FVec Ideal S1024x1024 .bf16) : FVec Ideal S8192x512 .f32 :=
  fun j => ∑ k : Fin 1024, dh (ix2 (j 0) k) * w (ix2 ⟨512 + (j 1).val, Nat.add_lt_add_left (j 1).isLt 512⟩ k)

/-- What a grid point stores of the first half. -/
theorem a_at (x : FVec Ideal S1024x1024 .f32) (w : FVec Ideal S1024x1024 .bf16) (y : S1024x512.Idx) :
    k0_pay2 (F := Ideal) x w y = ∑ k : Fin 1024, x (ix2 (y 0) k) * w (ix2 ⟨(y 1).val, lt_of_lt_of_le (y 1).isLt (by decide)⟩ k) := by
  open_payloads
  pointwise

/-- What it stores of the second half. -/
theorem b_at (x : FVec Ideal S1024x1024 .f32) (w : FVec Ideal S1024x1024 .bf16) (y : S1024x512.Idx) :
    k0_pay3 (F := Ideal) x w y = ∑ k : Fin 1024, x (ix2 (y 0) k) * w (ix2 ⟨512 + (y 1).val, Nat.add_lt_add_left (y 1).isLt 512⟩ k) := by
  open_payloads
  pointwise

variable (m : (ℓ : Loc nD τ sig) → Buf (Elt Ideal) ℓ)

/-- The windows' places. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The result array after the run. -/
theorem final2 (c : Dev nD) : (dats m 0 c).arrAt 2 (cfgs 0).N = arrA (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  refine (a_at _ _ _).trans ?_
  unfold arrA
  blk_point [iblk, V, idx t]

/-- The result array after the run. -/
theorem final3 (c : Dev nD) : (dats m 0 c).arrAt 3 (cfgs 0).N = arrB (m ((c : Thread nD τ).loc main_arg0)) (m ((c : Thread nD τ).loc main_arg1)) := by
  refine (dats m 0 c).arrAt_eq_of_covers 3 _ (by decide +kernel) fun t _ y => ?_
  blk_simp
  rw [after0_3]
  unfold out0_3
  frame_out
  refine (b_at _ _ _).trans ?_
  unfold arrB
  blk_point [iblk, V, idx t]

end Cert.OutProjBwd1

namespace Cert.OutProjBwd1.Reference

open Cert.Reference8Ideal Cert.Reference8Ideal.Gen Idealize.ShloMosaic Idealize.SL.Sem

/-- The product as the reference composes it. -/
def prod (dh : FVec Ideal S8192x1024 .f32) (w : FVec Ideal S1024x1024 .bf16) : FVec Ideal S8192x1024 .f32 :=
  Host.dotGeneral dot_S8192x1024_S1024x1024_S8192x1024_1_1_0_0_n_n none dh (extf .f32 w bitsLt_bf16_f32)

/-- The first half's columns agree. -/
theorem eqA (dh : FVec Ideal S8192x1024 .f32) (w : FVec Ideal S1024x1024 .bf16) :
    extractStridedSlice S8192x512 ![0, 0] (prod dh w) slices_S8192x1024_S8192x512_0_0 = arrA dh w := by
  funext j
  pointwise [prod, arrA]

/-- The second half's agree. -/
theorem eqB (dh : FVec Ideal S8192x1024 .f32) (w : FVec Ideal S1024x1024 .bf16) :
    extractStridedSlice S8192x512 ![0, 512] (prod dh w) slices_S8192x1024_S8192x512_0_512 = arrB dh w := by
  funext j
  pointwise [prod, arrB]

end Cert.OutProjBwd1.Reference

end
-- ==== Proof.OutProjBwd0.lean ====
/-
  `out_proj_bwd0`: the output projection's backward pass into the two halves of its argument, `dh · wᵀ`. A grid point takes 1024
  rows, makes the one product and stores its two halves of columns.
-/
module

public import proofs.«01_k».proof.Proof.Gen.Kernel9Ideal.Frame
public import proofs.«01_k».proof.Proof.Gen.Reference9Ideal
public import Idealize.ShloMosaic.Lib.Pipeline.ValueKit
public import Idealize.ShloMosaic.Lib.Pointwise

@[expose] public section

set_option maxRecDepth 16384

noncomputable section

namespace Cert.OutProjBwd0

open Cert.Kernel9Ideal Cert.Kernel9Ideal.Gen Idealize.ShloMosaic Idealize.ShloMosaic.TcCoe Idealize.SL.Sem

/-- The first half's columns over the whole arrays. -/
def arrA (dh : FVec Ideal S8192x1024 .f32) (w : FVec Ideal S1024x1024 .bf16) : FVec Ideal S8192x512 .bf16 :=
  fun j => ∑ k : Fin 1024, dh (ix2 (j 0) k) * w (ix2 ⟨(j 1).val, lt_of_lt_of_le (j 1).isLt (by decide)⟩ k)

/-- The second half's. -/
def arrB (dh : FVec Ideal S8192x1024 .f32) (w : FVec Ideal S1024x1024 .bf16) : FVec Ideal S8192x512 .f32 :=
  fun j => ∑ k : Fin 1024, dh (ix2 (j 0) k) * w (ix2 ⟨512 + (j 1).val, Nat.add_lt_add_left (j 1).isLt 512⟩ k)

/-- What a grid point stores of the first half. -/
theorem a_at (x : FVec Ideal S1024x1024 .f32) (w : FVec Ideal S1024x1024 .bf16) (y : S1024x512.Idx) :
    k0_pay2 (F := Ideal) x w y = ∑ k : Fin 1024, x (ix2 (y 0) k) * w (ix2 ⟨(y 1).val, lt_of_lt_of_le (y 1).isLt (by decide)⟩ k) := by
  open_payloads
  pointwise

/-- What it stores of the second half. -/
theorem b_at (x : FVec Ideal S1024x1024 .f32) (w : FVec Ideal S1024x1024 .bf16) (y : S1024x512.Idx) :
    k0_pay3 (F := Ideal) x w y = ∑ k : Fin 1024, x (ix2 (y 0) k) * w (ix2 ⟨512 + (y 1).val, Nat.add_lt_add_left (y 1).isLt 512⟩ k) := by
  open_payloads
  pointwise

variable (m : (ℓ : Loc nD τ sig) → Buf (Elt Ideal) ℓ)

/-- The windows' places. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The result array after the run. -/
theorem final2 (c : Dev nD) : (dats m 0 c).arrAt 2 (cfgs 0).N = arrA (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  refine (a_at _ _ _).trans ?_
  unfold arrA
  blk_point [iblk, V, idx t]

/-- The result array after the run. -/
theorem final3 (c : Dev nD) : (dats m 0 c).arrAt 3 (cfgs 0).N = arrB (m ((c : Thread nD τ).loc main_arg0)) (m ((c : Thread nD τ).loc main_arg1)) := by
  refine (dats m 0 c).arrAt_eq_of_covers 3 _ (by decide +kernel) fun t _ y => ?_
  blk_simp
  rw [after0_3]
  unfold out0_3
  frame_out
  refine (b_at _ _ _).trans ?_
  unfold arrB
  blk_point [iblk, V, idx t]

end Cert.OutProjBwd0

namespace Cert.OutProjBwd0.Reference

open Cert.Reference9Ideal Cert.Reference9Ideal.Gen Idealize.ShloMosaic Idealize.SL.Sem

/-- The product as the reference composes it. -/
def prod (dh : FVec Ideal S8192x1024 .f32) (w : FVec Ideal S1024x1024 .bf16) : FVec Ideal S8192x1024 .f32 :=
  Host.dotGeneral dot_S8192x1024_S1024x1024_S8192x1024_1_1_0_0_n_n none dh (extf .f32 w bitsLt_bf16_f32)

/-- The first half's columns agree. -/
theorem eqA (dh : FVec Ideal S8192x1024 .f32) (w : FVec Ideal S1024x1024 .bf16) :
    truncf .bf16 (extractStridedSlice S8192x512 ![0, 0] (prod dh w) slices_S8192x1024_S8192x512_0_0) bitsLt_bf16_f32 = arrA dh w := by
  funext j
  pointwise [prod, arrA]

/-- The second half's agree. -/
theorem eqB (dh : FVec Ideal S8192x1024 .f32) (w : FVec Ideal S1024x1024 .bf16) :
    extractStridedSlice S8192x512 ![0, 512] (prod dh w) slices_S8192x1024_S8192x512_0_512 = arrB dh w := by
  funext j
  pointwise [prod, arrB]

end Cert.OutProjBwd0.Reference

end
-- ==== Proof.OutProj.lean ====
/-
  `out_proj1`: the output projection of the two mixers' results, added to the stream. A grid point takes 1024 rows and adds
  the product of each half with its half of the weight's rows; the reference makes one product of the two halves put
  side by side.
-/
module

public import proofs.«01_k».proof.Proof.Gen.Kernel10Ideal.Frame
public import proofs.«01_k».proof.Proof.Gen.Reference10Ideal
public import Idealize.ShloMosaic.Lib.Pipeline.ValueKit
public import Idealize.ShloMosaic.Lib.Pointwise

@[expose] public section

set_option maxRecDepth 16384

noncomputable section

namespace Cert.OutProj

open Cert.Kernel10Ideal Cert.Kernel10Ideal.Gen Idealize.ShloMosaic Idealize.ShloMosaic.TcCoe Idealize.SL.Sem

/-- The result over the whole arrays. -/
def arr (h : FVec Ideal S8192x1024 .f32) (p q : FVec Ideal S8192x512 .bf16) (w : FVec Ideal S1024x1024 .bf16) : FVec Ideal S8192x1024 .f32 :=
  fun j => h j + (∑ k : Fin 512, p (ix2 (j 0) k) * w (ix2 ⟨k.val, lt_of_lt_of_le k.isLt (by decide)⟩ (j 1)))
    + ∑ k : Fin 512, q (ix2 (j 0) k) * w (ix2 ⟨512 + k.val, Nat.add_lt_add_left k.isLt 512⟩ (j 1))

/-- What a grid point stores. -/
theorem pt_at (h : FVec Ideal S1024x1024 .f32) (p : FVec Ideal S1024x512 .bf16) (u : FVec Ideal S512x1024 .bf16)
    (q : FVec Ideal S1024x512 .bf16) (v : FVec Ideal S512x1024 .bf16) (y : S1024x1024.Idx) :
    k0_pay1 (F := Ideal) h p u q v y = h y + (∑ k : Fin 512, p (ix2 (y 0) k) * u (ix2 k (y 1)))
      + ∑ k : Fin 512, q (ix2 (y 0) k) * v (ix2 k (y 1)) := by
  open_payloads
  pointwise

variable (m : (ℓ : Loc nD τ sig) → Buf (Elt Ideal) ℓ)

/-- The windows' places. -/
theorem idx : ∀ t : Fin cfg0.N, win0_0.index t = ![t.val, 0] ∧ win0_1.index t = ![t.val, 0] ∧ win0_2.index t = ![t.val, 0]
    ∧ win0_3.index t = ![0, 0] ∧ win0_4.index t = ![1, 0] ∧ win0_5.index t = ![t.val, 0] :=
  (by decide +kernel : ∀ t : Fin grid0.N, _)

/-- The result array after the run. -/
theorem final (c : Dev nD) : (dats m 0 c).arrAt 5 (cfgs 0).N = arr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold out0_5
  frame_out
  refine (pt_at _ _ _ _ _ _).trans ?_
  unfold arr
  blk_point [iblk, V, idx t]

end Cert.OutProj

namespace Cert.OutProj.Reference

open Cert.Reference10Ideal Cert.Reference10Ideal.Gen Idealize.ShloMosaic Idealize.SL.Sem

/-- The result as the reference composes it. -/
def ref (h : FVec Ideal S8192x1024 .f32) (p q : FVec Ideal S8192x512 .bf16) (w : FVec Ideal S1024x1024 .bf16) : FVec Ideal S8192x1024 .f32 :=
  addf h (Host.dotGeneral dot_S8192x1024_S1024x1024_S8192x1024_1_0_0_1_n_n none (concatenate S8192x1024 1
    [⟨S8192x512, (extf .f32 p bitsLt_bf16_f32)⟩, ⟨S8192x512, (extf .f32 q bitsLt_bf16_f32)⟩]
    concatenates_S8192x512_S8192x512_S8192x1024_d1) (extf .f32 w bitsLt_bf16_f32))

/-- The two arrays agree. -/
theorem eq (h : FVec Ideal S8192x1024 .f32) (p q : FVec Ideal S8192x512 .bf16) (w : FVec Ideal S1024x1024 .bf16) : ref h p q w = arr h p q w := by
  funext j
  pointwise [ref, arr]
  exact (add_assoc _ _ _).symm

end Cert.OutProj.Reference

end
-- ==== Proof.InProj.lean ====
/-
  `in_proj1`: the root mean square norm of the token's row, and its product with the two mixers' input weights put side by
  side. A grid point takes 1024 rows and adds a bias of zeros the host made.
-/
module

public import proofs.«01_k».proof.Proof.Gen.Kernel11Ideal.Frame
public import proofs.«01_k».proof.Proof.Gen.Reference11Ideal
public import proofs.«01_k».proof.Proof.Reals
public import Idealize.ShloMosaic.Lib.StableHlo.Run
public import Idealize.ShloMosaic.Lib.Pipeline.ValueKit
public import Idealize.ShloMosaic.Lib.Pointwise

@[expose] public section

set_option maxRecDepth 16384

noncomputable section

namespace Cert.InProj

open Cert.Kernel11Ideal Cert.Kernel11Ideal.Gen Idealize.ShloMosaic Idealize.ShloMosaic.TcCoe Idealize.SL.Sem

/-- The constants of the norm: the width and the small number under the root. -/
abbrev width : EReal := Ideal.ofBits .f32 0x44800000#32
abbrev eps : EReal := Ideal.ofBits .f32 0x3727C5AC#32

/-- A row's entry over the row's root mean square, times the gain. -/
def norm {n : ℕ} (h : (⟨2, ![n, 1024]⟩ : Shape).Idx → EReal) (g : S1x1024.Idx → EReal) (r : Fin n) (k : Fin 1024) : EReal :=
  h (ix2 r k) * Ideal.rsqrt (Ideal.div (∑ q : Fin 1024, h (ix2 r q) * h (ix2 r q)) width + eps) * g (ix2 0 k)

/-- The normed rows a grid point computes. -/
theorem hn_at (h : FVec Ideal S1024x1024 .f32) (g : FVec Ideal S1x1024 .f32) (y : S1024x1024.Idx) :
    k0_pay1 (F := Ideal) h g y = norm h g (y 0) (y 1) := by
  unfold norm
  open_payloads
  pointwise

/-- The same at a row and a column. -/
theorem hn_ix (h : FVec Ideal S1024x1024 .f32) (g : FVec Ideal S1x1024 .f32) (r k : Fin 1024) :
    k0_pay1 (F := Ideal) h g (ix2 r k) = norm h g r k := hn_at h g _

/-- The first 512 columns of the product a grid point computes. -/
theorem p_at (h : FVec Ideal S1024x1024 .f32) (g : FVec Ideal S1x1024 .f32) (w : FVec Ideal S1024x1536 .bf16) (b : FVec Ideal S1x1536 .f32)
    (y : S1024x512.Idx) : k0_pay3 (F := Ideal) h g w b y
      = (∑ k : Fin 1024, norm h g (y 0) k * w (ix2 k ⟨(y 1).val, lt_of_lt_of_le (y 1).isLt (by decide)⟩)) + b (ix2 0 ⟨(y 1).val, lt_of_lt_of_le (y 1).isLt (by decide)⟩) := by
  unfold k0_pay3 k0_pay2
  pointwise
  exact congrArg (· + _) (Finset.sum_congr rfl fun k _ => congrArg (· * _) (hn_ix _ _ _ _))

/-- The other 1024. -/
theorem s_at (h : FVec Ideal S1024x1024 .f32) (g : FVec Ideal S1x1024 .f32) (w : FVec Ideal S1024x1536 .bf16) (b : FVec Ideal S1x1536 .f32)
    (y : S1024x1024.Idx) : k0_pay4 (F := Ideal) h g w b y
      = (∑ k : Fin 1024, norm h g (y 0) k * w (ix2 k ⟨512 + (y 1).val, Nat.add_lt_add_left (y 1).isLt 512⟩)) + b (ix2 0 ⟨512 + (y 1).val, Nat.add_lt_add_left (y 1).isLt 512⟩) := by
  unfold k0_pay4 k0_pay2
  pointwise
  exact congrArg (· + _) (Finset.sum_congr rfl fun k _ => congrArg (· * _) (hn_ix _ _ _ _))

variable (m : (ℓ : Loc nD τ sig) → Buf (Elt Ideal) ℓ)

/-- The windows' places. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The normed rows over the whole array. -/
def arrH (h : FVec Ideal S8192x1024 .f32) (g : FVec Ideal S1x1024 .f32) : FVec Ideal S8192x1024 .bf16 :=
  fun j => norm h g (j 0) (j 1)

/-- The first mixer's columns of the product. -/
def arrP (h : FVec Ideal S8192x1024 .f32) (g : FVec Ideal S1x1024 .f32) (w : FVec Ideal S1024x1536 .bf16) : FVec Ideal S8192x512 .f32 :=
  fun j => ∑ k : Fin 1024, norm h g (j 0) k * w (ix2 k ⟨(j 1).val, lt_of_lt_of_le (j 1).isLt (by decide)⟩)

/-- The second mixer's. -/
def arrS (h : FVec Ideal S8192x1024 .f32) (g : FVec Ideal S1x1024 .f32) (w : FVec Ideal S1024x1536 .bf16) : FVec Ideal S8192x1024 .f32 :=
  fun j => ∑ k : Fin 1024, norm h g (j 0) k * w (ix2 k ⟨512 + (j 1).val, Nat.add_lt_add_left (j 1).isLt 512⟩)

/-- The array the host made of zeros. -/
theorem zeros (c : Dev nD) : V m c main_v0 = broadcastInDim S1x1536 ![] bcast_S_S1x1536 (constant (F := Ideal) S_ .f32 0x00000000#32) := by
  change StableHlo.after hostOps0 _ _ = _
  dsimp only [hostOps0]
  after_results

/-- The bias a grid point reads is zero. -/
theorem bias (c : Dev nD) (t : Fin cfg0.N) (i : S1x1536.Idx) : iblk m c 3 t i = (0 : EReal) := by
  change ((cfg0.win 3).blk t).view.read (Elt Ideal) (V m c main_v0) i = (0 : EReal)
  rw [zeros]
  exact Ideal.ofBits_zero_f32

/-- The result array after the run. -/
theorem final4 (c : Dev nD) : (dats m 0 c).arrAt 4 (cfgs 0).N = arrH (m ((c : Thread nD τ).loc main_arg0)) (m ((c : Thread nD τ).loc main_arg1)) := by
  refine (dats m 0 c).arrAt_eq_of_covers 4 _ (by decide +kernel) fun t _ y => ?_
  blk_simp
  rw [after0_4]
  unfold out0_4
  frame_out
  refine (hn_at _ _ _).trans ?_
  unfold arrH norm
  blk_point [iblk, V, idx t]

/-- The result array after the run. -/
theorem final5 (c : Dev nD) : (dats m 0 c).arrAt 5 (cfgs 0).N = arrP (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  refine (p_at _ _ _ _ _).trans ?_
  rw [bias, add_zero]
  unfold arrP norm
  blk_point [iblk, V, idx t]

/-- The result array after the run. -/
theorem final6 (c : Dev nD) : (dats m 0 c).arrAt 6 (cfgs 0).N = arrS (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold out0_6
  frame_out
  refine (s_at _ _ _ _ _).trans ?_
  rw [bias, add_zero]
  unfold arrS norm
  blk_point [iblk, V, idx t]

end Cert.InProj

namespace Cert.InProj.Reference

open Cert.Reference11Ideal Cert.Reference11Ideal.Gen Idealize.ShloMosaic Idealize.SL.Sem

/-- The normed rows as the reference composes them. -/
def hn (h : FVec Ideal S8192x1024 .f32) (g : FVec Ideal S1x1024 .f32) : FVec Ideal S8192x1024 .f32 :=
  mulf (mulf h (broadcastInDim S8192x1024 ![0, 1] bcast_S8192x1_S8192x1024_0_1 (Host.rsqrt (addf (Host.divf
    (broadcastInDim S8192x1 ![0] bcast_S8192_S8192x1_0 (Host.reduceAdd (mulf h h) (constant S_ .f32 0x00000000#32)
      reducesTo_S8192x1024_S8192_d1 h_S_)) (broadcastInDim S8192x1 ![] bcast_S_S8192x1 (constant S_ .f32 0x44800000#32)))
    (broadcastInDim S8192x1 ![] bcast_S_S8192x1 (constant S_ .f32 0x3727C5AC#32)))))) (broadcastInDim S8192x1024 ![0, 1]
    bcast_S1x1024_S8192x1024_0_1 (broadcastInDim S1x1024 ![1] bcast_S1024_S1x1024_1 (shapeCast _ g shapeCasts_S1x1024_S1024)))

/-- The product as the reference composes it. -/
def prod (h : FVec Ideal S8192x1024 .f32) (g : FVec Ideal S1x1024 .f32) (w : FVec Ideal S1024x1536 .bf16) : FVec Ideal S8192x1536 .f32 :=
  Host.dotGeneral dot_S8192x1024_S1024x1536_S8192x1536_1_0_0_1_n_n none (hn h g) (extf .f32 w bitsLt_bf16_f32)

/-- The normed rows agree. -/
theorem eqH (h : FVec Ideal S8192x1024 .f32) (g : FVec Ideal S1x1024 .f32) : truncf .bf16 (hn h g) bitsLt_bf16_f32 = arrH h g := by
  funext j
  unfold arrH norm
  pointwise [hn]

/-- The first mixer's columns agree. -/
theorem eqP (h : FVec Ideal S8192x1024 .f32) (g : FVec Ideal S1x1024 .f32) (w : FVec Ideal S1024x1536 .bf16) :
    extractStridedSlice S8192x512 ![0, 0] (prod h g w) slices_S8192x1536_S8192x512_0_0 = arrP h g w := by
  funext j
  unfold arrP norm
  pointwise [hn, prod]

/-- The second mixer's agree. -/
theorem eqS (h : FVec Ideal S8192x1024 .f32) (g : FVec Ideal S1x1024 .f32) (w : FVec Ideal S1024x1536 .bf16) :
    extractStridedSlice S8192x1024 ![0, 512] (prod h g w) slices_S8192x1536_S8192x1024_0_512 = arrS h g w := by
  funext j
  unfold arrS norm
  pointwise [hn, prod]

end Cert.InProj.Reference

end
-- ==== Proof.DwOut.lean ====
/-
  `dw_out`: the gradient of one half of an output projection's weight, `mixedᵀ · dh` over the 8192 tokens. The kernel goes
  through the tokens in four steps of 2048 and adds each step's product to the block it keeps; the four sums of 2048 terms
  are the one sum of 8192.
-/
module

public import proofs.«01_k».proof.Proof.Gen.Kernel12Ideal.Frame
public import proofs.«01_k».proof.Proof.Gen.Reference12Ideal
public import Idealize.ShloMosaic.Lib.Pipeline.ValueKit
public import Idealize.ShloMosaic.Lib.Pointwise

@[expose] public section

set_option maxRecDepth 16384

noncomputable section

namespace Cert.DwOut

open Cert.Kernel12Ideal Cert.Kernel12Ideal.Gen Idealize.ShloMosaic Idealize.ShloMosaic.TcCoe Idealize.SL.Sem

/-- One step's product at a place: a sum over 2048 tokens. -/
def step (x : FVec Ideal S2048x512 .bf16) (dy : FVec Ideal S2048x1024 .f32) (j : S512x1024.Idx) : EReal :=
  ∑ r : Fin 2048, x (ix2 r (j 0)) * dy (ix2 r (j 1))

/-- The whole gradient: a sum over the 8192 tokens. -/
def arr (x : FVec Ideal S8192x512 .bf16) (dy : FVec Ideal S8192x1024 .f32) : FVec Ideal S512x1024 .f32 :=
  fun j => ∑ r : Fin 8192, x (ix2 r (j 0)) * dy (ix2 r (j 1))

/-- The product a step computes, at a place. -/
theorem step_at (x : FVec Ideal S2048x512 .bf16) (dy : FVec Ideal S2048x1024 .f32) (j : S512x1024.Idx) :
    k0_pay2 (F := Ideal) (k0_pay1 (F := Ideal) x) dy j = step x dy j := by
  unfold step
  open_payloads
  pointwise

variable (m : (ℓ : Loc nD τ sig) → Buf (Elt Ideal) ℓ)

/-- The windows' places. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The result array after the run. -/
theorem final (c : Dev nD) : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0)
    (fun t j => step (iblk m c 0 t) (iblk m c 1 t) j)
    (fun t h j => by rw [outsAt0_A m c t h (by have := lt_of_lt_of_eq t.isLt N_0; omega)]; frame_out; rw [step_at]; simp)
    (fun t h j => by rw [outsAt0_B m c t h (by omega)]; frame_out; unfold k0_pay3; pointwise; rw [step_at])
    t ((flush0_2 t).mp hf) _, zero_add]
  unfold step arr
  refine Fin.sum_mul_add_congr fun s k hl => ?_
  blk_point [iblk, V, idx t, idx ⟨_, Pipeline.run_point_lt_of_flush t ((flush0_2 t).mp hf) s⟩]

/-- The gradient as the reference composes it: the product, transposed. -/
def ref (x : FVec Ideal S8192x512 .bf16) (dy : FVec Ideal S8192x1024 .f32) : FVec Ideal S512x1024 .f32 :=
  transpose S512x1024 [1, 0] (Host.dotGeneral Cert.Reference12Ideal.dot_S8192x1024_S8192x512_S1024x512_0_0_1_1_n_n none
    dy (extf .f32 x Cert.Reference12Ideal.Gen.bitsLt_bf16_f32)) Cert.Reference12Ideal.Gen.transposes_S1024x512_S512x1024_1_0

/-- The two arrays agree. -/
theorem eq (x : FVec Ideal S8192x512 .bf16) (dy : FVec Ideal S8192x1024 .f32) : ref x dy = arr x dy := by
  funext j
  pointwise [ref, arr]
  exact Finset.sum_congr rfl fun r _ => mul_comm _ _

end Cert.DwOut

end
-- ==== Proof.DwInSgu.lean ====
/-
  `dw_in1_sgu`: the gradient of the gating mixer's input weight, `hnᵀ · dz` over the 8192 tokens, in four steps of 2048
  tokens whose products are added up.
-/
module

public import proofs.«01_k».proof.Proof.Gen.Kernel13Ideal.Frame
public import proofs.«01_k».proof.Proof.Gen.Reference13Ideal
public import Idealize.ShloMosaic.Lib.Pipeline.ValueKit
public import Idealize.ShloMosaic.Lib.Pointwise

@[expose] public section

set_option maxRecDepth 16384

noncomputable section

namespace Cert.DwInSgu

open Cert.Kernel13Ideal Cert.Kernel13Ideal.Gen Idealize.ShloMosaic Idealize.ShloMosaic.TcCoe Idealize.SL.Sem

/-- One step's product at a place: a sum over 2048 tokens. -/
def step (x : FVec Ideal S2048x1024 .bf16) (dy : FVec Ideal S2048x1024 .bf16) (j : S1024x1024.Idx) : EReal :=
  ∑ r : Fin 2048, x (ix2 r (j 0)) * dy (ix2 r (j 1))

/-- The whole gradient: a sum over the 8192 tokens. -/
def arr (x : FVec Ideal S8192x1024 .bf16) (dy : FVec Ideal S8192x1024 .bf16) : FVec Ideal S1024x1024 .f32 :=
  fun j => ∑ r : Fin 8192, x (ix2 r (j 0)) * dy (ix2 r (j 1))

/-- The product a step computes, at a place. -/
theorem step_at (x : FVec Ideal S2048x1024 .bf16) (dy : FVec Ideal S2048x1024 .bf16) (j : S1024x1024.Idx) :
    k0_pay2 (F := Ideal) (k0_pay1 (F := Ideal) x) dy j = step x dy j := by
  unfold step
  open_payloads
  pointwise

variable (m : (ℓ : Loc nD τ sig) → Buf (Elt Ideal) ℓ)

/-- The windows' places. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The result array after the run. -/
theorem final (c : Dev nD) : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0)
    (fun t j => step (iblk m c 0 t) (iblk m c 1 t) j)
    (fun t h j => by rw [outsAt0_A m c t h (by have := lt_of_lt_of_eq t.isLt N_0; omega)]; frame_out; rw [step_at]; simp)
    (fun t h j => by rw [outsAt0_B m c t h (by omega)]; frame_out; unfold k0_pay3; pointwise; rw [step_at])
    t ((flush0_2 t).mp hf) _, zero_add]
  unfold step arr
  refine Fin.sum_mul_add_congr fun s k hl => ?_
  blk_point [iblk, V, idx t, idx ⟨_, Pipeline.run_point_lt_of_flush t ((flush0_2 t).mp hf) s⟩]

/-- The gradient as the reference composes it: the product, transposed. -/
def ref (x : FVec Ideal S8192x1024 .bf16) (dy : FVec Ideal S8192x1024 .bf16) : FVec Ideal S1024x1024 .f32 :=
  transpose S1024x1024 [1, 0] (Host.dotGeneral Cert.Reference13Ideal.dot_S8192x1024_S8192x1024_S1024x1024_0_0_1_1_n_n none
    (extf .f32 dy Cert.Reference13Ideal.Gen.bitsLt_bf16_f32) (extf .f32 x Cert.Reference13Ideal.Gen.bitsLt_bf16_f32)) Cert.Reference13Ideal.Gen.transposes_S1024x1024_S1024x1024_1_0

/-- The two arrays agree. -/
theorem eq (x : FVec Ideal S8192x1024 .bf16) (dy : FVec Ideal S8192x1024 .bf16) : ref x dy = arr x dy := by
  funext j
  pointwise [ref, arr]
  exact Finset.sum_congr rfl fun r _ => mul_comm _ _

end Cert.DwInSgu

end
-- ==== Proof.DwInPool.lean ====
/-
  `dw_in1_pool`: the gradient of the pooling mixer's input weight, `hnᵀ · dz` over the 8192 tokens, in four steps of 2048
  tokens whose products are added up.
-/
module

public import proofs.«01_k».proof.Proof.Gen.Kernel14Ideal.Frame
public import proofs.«01_k».proof.Proof.Gen.Reference14Ideal
public import Idealize.ShloMosaic.Lib.Pipeline.ValueKit
public import Idealize.ShloMosaic.Lib.Pointwise

@[expose] public section

set_option maxRecDepth 16384

noncomputable section

namespace Cert.DwInPool

open Cert.Kernel14Ideal Cert.Kernel14Ideal.Gen Idealize.ShloMosaic Idealize.ShloMosaic.TcCoe Idealize.SL.Sem

/-- One step's product at a place: a sum over 2048 tokens. -/
def step (x : FVec Ideal S2048x1024 .bf16) (dy : FVec Ideal S2048x512 .bf16) (j : S1024x512.Idx) : EReal :=
  ∑ r : Fin 2048, x (ix2 r (j 0)) * dy (ix2 r (j 1))

/-- The whole gradient: a sum over the 8192 tokens. -/
def arr (x : FVec Ideal S8192x1024 .bf16) (dy : FVec Ideal S8192x512 .bf16) : FVec Ideal S1024x512 .f32 :=
  fun j => ∑ r : Fin 8192, x (ix2 r (j 0)) * dy (ix2 r (j 1))

/-- The product a step computes, at a place. -/
theorem step_at (x : FVec Ideal S2048x1024 .bf16) (dy : FVec Ideal S2048x512 .bf16) (j : S1024x512.Idx) :
    k0_pay2 (F := Ideal) (k0_pay1 (F := Ideal) x) dy j = step x dy j := by
  unfold step
  open_payloads
  pointwise

variable (m : (ℓ : Loc nD τ sig) → Buf (Elt Ideal) ℓ)

/-- The windows' places. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The result array after the run. -/
theorem final (c : Dev nD) : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0)
    (fun t j => step (iblk m c 0 t) (iblk m c 1 t) j)
    (fun t h j => by rw [outsAt0_A m c t h (by have := lt_of_lt_of_eq t.isLt N_0; omega)]; frame_out; rw [step_at]; simp)
    (fun t h j => by rw [outsAt0_B m c t h (by omega)]; frame_out; unfold k0_pay3; pointwise; rw [step_at])
    t ((flush0_2 t).mp hf) _, zero_add]
  unfold step arr
  refine Fin.sum_mul_add_congr fun s k hl => ?_
  blk_point [iblk, V, idx t, idx ⟨_, Pipeline.run_point_lt_of_flush t ((flush0_2 t).mp hf) s⟩]

/-- The gradient as the reference composes it: the product, transposed. -/
def ref (x : FVec Ideal S8192x1024 .bf16) (dy : FVec Ideal S8192x512 .bf16) : FVec Ideal S1024x512 .f32 :=
  transpose S1024x512 [1, 0] (Host.dotGeneral Cert.Reference14Ideal.dot_S8192x512_S8192x1024_S512x1024_0_0_1_1_n_n none
    (extf .f32 dy Cert.Reference14Ideal.Gen.bitsLt_bf16_f32) (extf .f32 x Cert.Reference14Ideal.Gen.bitsLt_bf16_f32)) Cert.Reference14Ideal.Gen.transposes_S512x1024_S1024x512_1_0

/-- The two arrays agree. -/
theorem eq (x : FVec Ideal S8192x1024 .bf16) (dy : FVec Ideal S8192x512 .bf16) : ref x dy = arr x dy := by
  funext j
  pointwise [ref, arr]
  exact Finset.sum_congr rfl fun r _ => mul_comm _ _

end Cert.DwInPool

end
-- ==== Proof.DwInQ.lean ====
/-
  `dw_in0_q`: the gradient of an attention input projection's weight, `dzᵀ · hn` over the 8192 tokens, and of its bias, the column
  sums of `dz`. The kernel goes through the tokens in four steps of 2048 and adds each step's product and column sums to the
  blocks it keeps; it keeps the column sums in eight equal rows, of which @main takes the first.
-/
module

public import proofs.«01_k».proof.Proof.Gen.Kernel15Ideal.Frame
public import proofs.«01_k».proof.Proof.Gen.Reference15Ideal
public import Idealize.ShloMosaic.Lib.Pipeline.FrameSuffix
public import Idealize.ShloMosaic.Lib.StableHlo.Run
public import Idealize.ShloMosaic.Lib.Pipeline.ValueKit
public import Idealize.ShloMosaic.Lib.Pointwise

@[expose] public section

set_option maxRecDepth 16384

noncomputable section

namespace Cert.DwInQ

open Cert.Kernel15Ideal Cert.Kernel15Ideal.Gen Idealize.ShloMosaic Idealize.ShloMosaic.TcCoe Idealize.SL.Sem

/-- One step's product at a place: a sum over 2048 tokens. -/
def step (x : FVec Ideal S2048x512 .bf16) (dy : FVec Ideal S2048x1024 .bf16) (j : S512x1024.Idx) : EReal :=
  ∑ r : Fin 2048, x (ix2 r (j 0)) * dy (ix2 r (j 1))

/-- One step's column sum. -/
def colStep (x : FVec Ideal S2048x512 .bf16) (k : Fin 512) : EReal := ∑ r : Fin 2048, x (ix2 r k)

/-- The whole gradient: a sum over the 8192 tokens. -/
def arr (x : FVec Ideal S8192x512 .bf16) (dy : FVec Ideal S8192x1024 .bf16) : FVec Ideal S512x1024 .f32 :=
  fun j => ∑ r : Fin 8192, x (ix2 r (j 0)) * dy (ix2 r (j 1))

/-- The bias's gradient. -/
def arrB (x : FVec Ideal S8192x512 .bf16) : FVec Ideal S512 .f32 := fun j => ∑ r : Fin 8192, x (ix2 r (j 0))

/-- The product a step computes, at a place. -/
theorem step_at (x : FVec Ideal S2048x512 .bf16) (dy : FVec Ideal S2048x1024 .bf16) (j : S512x1024.Idx) :
    k0_pay2 (F := Ideal) (k0_pay1 (F := Ideal) x) dy j = step x dy j := by
  unfold step
  open_payloads
  pointwise

/-- The column sums it computes. -/
theorem col_at (x : FVec Ideal S2048x512 .bf16) (j : S8x512.Idx) : k0_pay4 (F := Ideal) x j = colStep x (j 1) := by
  unfold colStep
  open_payloads
  pointwise

variable (m : (ℓ : Loc nD τ sig) → Buf (Elt Ideal) ℓ)

/-- The windows' places. -/
theorem idx : ∀ t : Fin cfg0.N, win0_0.index t = ![t.val % 4, t.val / 4] ∧ win0_1.index t = ![t.val % 4, 0]
    ∧ win0_2.index t = ![t.val / 4, 0] ∧ win0_3.index t = ![0, t.val / 4] :=
  (by decide +kernel : ∀ t : Fin grid0.N, _)

/-- The result array after the run. -/
theorem final (c : Dev nD) : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h).1) 4 (fun _ => 0)
    (fun t j => step (iblk m c 0 t) (iblk m c 1 t) j)
    (fun t h j => by
      rw [outsAt0_A m c t h (by have := lt_of_lt_of_eq t.isLt N_0; omega) h (by have := lt_of_lt_of_eq t.isLt N_0; omega)]
      frame_out; rw [step_at]; simp)
    (fun t h j => by
      rw [outsAt0_B m c t h (by omega) h (by omega)]
      frame_out; unfold k0_pay3; pointwise; rw [step_at])
    t ((flush0_2 t).mp hf) _, zero_add]
  unfold step arr
  refine Fin.sum_mul_add_congr fun s k hl => ?_
  blk_point [iblk, V, idx t, idx ⟨_, Pipeline.run_point_lt_of_flush t ((flush0_2 t).mp hf) s⟩]

/-- The eight rows of column sums after the run. -/
theorem final3 (c : Dev nD) : (dats m 0 c).arrAt 3 (cfgs 0).N = fun j : S8x512.Idx => arrB (m ((c : Thread nD τ).loc main_arg0)) (ix1 (j 1)) := by
  refine (dats m 0 c).arrAt_eq_of_covers 3 _ (by decide +kernel) fun t hf y => ?_
  blk_simp
  rw [after0_3, Pipeline.eq_sum_fin_of_reset_step_apply_of_flush (fun n h => (outsAt0 m c n h).2) 4 (fun _ => 0)
    (fun t (j : S8x512.Idx) => colStep (iblk m c 0 t) (j 1))
    (fun t h j => by
      rw [outsAt0_A m c t h (by have := lt_of_lt_of_eq t.isLt N_0; omega) h (by have := lt_of_lt_of_eq t.isLt N_0; omega)]
      frame_out; rw [col_at]; simp)
    (fun t h j => by
      rw [outsAt0_B m c t h (by omega) h (by omega)]
      frame_out; unfold k0_pay5; pointwise; rw [col_at])
    t ((flush0_3 t).mp hf) _, zero_add]
  unfold colStep arrB
  refine Fin.sum_mul_add_congr fun s k hl => ?_
  blk_point [iblk, V, idx t, idx ⟨_, Pipeline.run_point_lt_of_flush t ((flush0_3 t).mp hf) s⟩]

/-- What the two lines after the region leave: the first of the eight rows. -/
theorem tail (c : Dev nD) : Pipeline.afterTail₀ cfgs (dats m) 0 (V0 m) [hostOps1] c main_v2 = shapeCast S512 (extractStridedSlice S1x512 ![0, 0]
    (show FVec Ideal S8x512 .f32 from (dats m 0 c).arrAt 3 cfg0.N) slices_S8x512_S1x512_0_0) shapeCasts_S1x512_S512 := by
  have e := Pipeline.withArrays_arr (τ := τ) spec0 launch0.win.arr_inj c (V0 m c) (fun w => (dats m 0 c).arrAt w (cfgs 0).N) 3
  change StableHlo.after hostOps1 (Pipeline.withArrays (cfgs 0).spec c (V0 m c) fun w => (dats m 0 c).arrAt w (cfgs 0).N) (Proc.tc.devRef main_v2) = _
  dsimp only [hostOps1]
  after_results
  exact congrArg (fun v : FVec Ideal S8x512 .f32 => shapeCast S512 (extractStridedSlice S1x512 ![0, 0] v slices_S8x512_S1x512_0_0)
    shapeCasts_S1x512_S512) e

/-- That row is the bias's gradient. -/
theorem row (G : FVec Ideal S512 .f32) (v : FVec Ideal S8x512 .f32) (h : v = fun j : S8x512.Idx => G (ix1 (j 1))) :
    shapeCast S512 (extractStridedSlice S1x512 ![0, 0] v slices_S8x512_S1x512_0_0) shapeCasts_S1x512_S512 = G := by
  subst h
  funext j
  pointwise

/-- The run: the two results and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v0_0) = arr (m ((c : Thread nD τ).loc main_arg0)) (m ((c : Thread nD τ).loc main_arg1))
      ∧ r.2.mem ((c.tc : Thread nD τ).loc main_v2) = arrB (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
    (((h c).2 main_v2 (Pipeline.mem_restRefs_of _ rfl (by decide +kernel))).trans (tail m c)).trans (row _ _ (final3 m c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)

end Cert.DwInQ

namespace Cert.DwInQ.Reference

open Cert.Reference15Ideal Cert.Reference15Ideal.Gen Idealize.ShloMosaic Idealize.SL.Sem

/-- The gradient as the reference composes it: the product, transposed and transposed back. -/
def ref (x : FVec Ideal S8192x512 .bf16) (dy : FVec Ideal S8192x1024 .bf16) : FVec Ideal S512x1024 .f32 :=
  transpose S512x1024 [1, 0] (transpose S1024x512 [1, 0] (Host.dotGeneral dot_S8192x512_S8192x1024_S512x1024_0_0_1_1_n_n none
    (extf .f32 x bitsLt_bf16_f32) (extf .f32 dy bitsLt_bf16_f32)) transposes_S512x1024_S1024x512_1_0) transposes_S1024x512_S512x1024_1_0

/-- The bias's gradient as the reference composes it. -/
def refB (x : FVec Ideal S8192x512 .bf16) : FVec Ideal S512 .f32 :=
  Host.reduceAdd (shapeCast _ (Host.reduceAdd (extf .f32 x bitsLt_bf16_f32) (constant S_ .f32 0x00000000#32) reducesTo_S8192x512_S512_d0 h_S_)
    shapeCasts_S512_S1x512) (constant S_ .f32 0x00000000#32) reducesTo_S1x512_S512_d0 h_S_

/-- The weight's gradients agree. -/
theorem eq (x : FVec Ideal S8192x512 .bf16) (dy : FVec Ideal S8192x1024 .bf16) : ref x dy = arr x dy := by
  funext j
  pointwise [ref, arr]

/-- The bias's gradients agree. -/
theorem eqB (x : FVec Ideal S8192x512 .bf16) : refB x = arrB x := by
  funext j
  unfold arrB
  pointwise [refB]
  simp only [Finset.univ_unique, Finset.sum_singleton]

end Cert.DwInQ.Reference

end
-- ==== Proof.DwInKv.lean ====
/-
  `dw_in0_kv`: the gradient of an attention input projection's weight, `dzᵀ · hn` over the 8192 tokens, and of its bias, the column
  sums of `dz`. The kernel goes through the tokens in four steps of 2048 and adds each step's product and column sums to the
  blocks it keeps; it keeps the column sums in eight equal rows, of which @main takes the first.
-/
module

public import proofs.«01_k».proof.Proof.Gen.Kernel16Ideal.Frame
public import proofs.«01_k».proof.Proof.Gen.Reference16Ideal
public import Idealize.ShloMosaic.Lib.Pipeline.FrameSuffix
public import Idealize.ShloMosaic.Lib.StableHlo.Run
public import Idealize.ShloMosaic.Lib.Pipeline.ValueKit
public import Idealize.ShloMosaic.Lib.Pointwise

@[expose] public section

set_option maxRecDepth 16384

noncomputable section

namespace Cert.DwInKv

open Cert.Kernel16Ideal Cert.Kernel16Ideal.Gen Idealize.ShloMosaic Idealize.ShloMosaic.TcCoe Idealize.SL.Sem

/-- One step's product at a place: a sum over 2048 tokens. -/
def step (x : FVec Ideal S2048x256 .bf16) (dy : FVec Ideal S2048x1024 .bf16) (j : S256x1024.Idx) : EReal :=
  ∑ r : Fin 2048, x (ix2 r (j 0)) * dy (ix2 r (j 1))

/-- One step's column sum. -/
def colStep (x : FVec Ideal S2048x256 .bf16) (k : Fin 256) : EReal := ∑ r : Fin 2048, x (ix2 r k)

/-- The whole gradient: a sum over the 8192 tokens. -/
def arr (x : FVec Ideal S8192x256 .bf16) (dy : FVec Ideal S8192x1024 .bf16) : FVec Ideal S256x1024 .f32 :=
  fun j => ∑ r : Fin 8192, x (ix2 r (j 0)) * dy (ix2 r (j 1))

/-- The bias's gradient. -/
def arrB (x : FVec Ideal S8192x256 .bf16) : FVec Ideal S256 .f32 := fun j => ∑ r : Fin 8192, x (ix2 r (j 0))

/-- The product a step computes, at a place. -/
theorem step_at (x : FVec Ideal S2048x256 .bf16) (dy : FVec Ideal S2048x1024 .bf16) (j : S256x1024.Idx) :
    k0_pay2 (F := Ideal) (k0_pay1 (F := Ideal) x) dy j = step x dy j := by
  unfold step
  open_payloads
  pointwise

/-- The column sums it computes. -/
theorem col_at (x : FVec Ideal S2048x256 .bf16) (j : S8x256.Idx) : k0_pay4 (F := Ideal) x j = colStep x (j 1) := by
  unfold colStep
  open_payloads
  pointwise

variable (m : (ℓ : Loc nD τ sig) → Buf (Elt Ideal) ℓ)

/-- The windows' places. -/
theorem idx : ∀ t : Fin cfg0.N, win0_0.index t = ![t.val % 4, t.val / 4] ∧ win0_1.index t = ![t.val % 4, 0]
    ∧ win0_2.index t = ![t.val / 4, 0] ∧ win0_3.index t = ![0, t.val / 4] :=
  (by decide +kernel : ∀ t : Fin grid0.N, _)

/-- The result array after the run. -/
theorem final (c : Dev nD) : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h).1) 4 (fun _ => 0)
    (fun t j => step (iblk m c 0 t) (iblk m c 1 t) j)
    (fun t h j => by
      rw [outsAt0_A m c t h (by have := lt_of_lt_of_eq t.isLt N_0; omega) h (by have := lt_of_lt_of_eq t.isLt N_0; omega)]
      frame_out; rw [step_at]; simp)
    (fun t h j => by
      rw [outsAt0_B m c t h (by omega) h (by omega)]
      frame_out; unfold k0_pay3; pointwise; rw [step_at])
    t ((flush0_2 t).mp hf) _, zero_add]
  unfold step arr
  refine Fin.sum_mul_add_congr fun s k hl => ?_
  blk_point [iblk, V, idx t, idx ⟨_, Pipeline.run_point_lt_of_flush t ((flush0_2 t).mp hf) s⟩]

/-- The eight rows of column sums after the run. -/
theorem final3 (c : Dev nD) : (dats m 0 c).arrAt 3 (cfgs 0).N = fun j : S8x256.Idx => arrB (m ((c : Thread nD τ).loc main_arg0)) (ix1 (j 1)) := by
  refine (dats m 0 c).arrAt_eq_of_covers 3 _ (by decide +kernel) fun t hf y => ?_
  blk_simp
  rw [after0_3, Pipeline.eq_sum_fin_of_reset_step_apply_of_flush (fun n h => (outsAt0 m c n h).2) 4 (fun _ => 0)
    (fun t (j : S8x256.Idx) => colStep (iblk m c 0 t) (j 1))
    (fun t h j => by
      rw [outsAt0_A m c t h (by have := lt_of_lt_of_eq t.isLt N_0; omega) h (by have := lt_of_lt_of_eq t.isLt N_0; omega)]
      frame_out; rw [col_at]; simp)
    (fun t h j => by
      rw [outsAt0_B m c t h (by omega) h (by omega)]
      frame_out; unfold k0_pay5; pointwise; rw [col_at])
    t ((flush0_3 t).mp hf) _, zero_add]
  unfold colStep arrB
  refine Fin.sum_mul_add_congr fun s k hl => ?_
  blk_point [iblk, V, idx t, idx ⟨_, Pipeline.run_point_lt_of_flush t ((flush0_3 t).mp hf) s⟩]

/-- What the two lines after the region leave: the first of the eight rows. -/
theorem tail (c : Dev nD) : Pipeline.afterTail₀ cfgs (dats m) 0 (V0 m) [hostOps1] c main_v2 = shapeCast S256 (extractStridedSlice S1x256 ![0, 0]
    (show FVec Ideal S8x256 .f32 from (dats m 0 c).arrAt 3 cfg0.N) slices_S8x256_S1x256_0_0) shapeCasts_S1x256_S256 := by
  have e := Pipeline.withArrays_arr (τ := τ) spec0 launch0.win.arr_inj c (V0 m c) (fun w => (dats m 0 c).arrAt w (cfgs 0).N) 3
  change StableHlo.after hostOps1 (Pipeline.withArrays (cfgs 0).spec c (V0 m c) fun w => (dats m 0 c).arrAt w (cfgs 0).N) (Proc.tc.devRef main_v2) = _
  dsimp only [hostOps1]
  after_results
  exact congrArg (fun v : FVec Ideal S8x256 .f32 => shapeCast S256 (extractStridedSlice S1x256 ![0, 0] v slices_S8x256_S1x256_0_0)
    shapeCasts_S1x256_S256) e

/-- That row is the bias's gradient. -/
theorem row (G : FVec Ideal S256 .f32) (v : FVec Ideal S8x256 .f32) (h : v = fun j : S8x256.Idx => G (ix1 (j 1))) :
    shapeCast S256 (extractStridedSlice S1x256 ![0, 0] v slices_S8x256_S1x256_0_0) shapeCasts_S1x256_S256 = G := by
  subst h
  funext j
  pointwise

/-- The run: the two results and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v0_0) = arr (m ((c : Thread nD τ).loc main_arg0)) (m ((c : Thread nD τ).loc main_arg1))
      ∧ r.2.mem ((c.tc : Thread nD τ).loc main_v2) = arrB (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
    (((h c).2 main_v2 (Pipeline.mem_restRefs_of _ rfl (by decide +kernel))).trans (tail m c)).trans (row _ _ (final3 m c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main m ρ)

end Cert.DwInKv

namespace Cert.DwInKv.Reference

open Cert.Reference16Ideal Cert.Reference16Ideal.Gen Idealize.ShloMosaic Idealize.SL.Sem

/-- The gradient as the reference composes it: the product, transposed and transposed back. -/
def ref (x : FVec Ideal S8192x256 .bf16) (dy : FVec Ideal S8192x1024 .bf16) : FVec Ideal S256x1024 .f32 :=
  transpose S256x1024 [1, 0] (transpose S1024x256 [1, 0] (Host.dotGeneral dot_S8192x256_S8192x1024_S256x1024_0_0_1_1_n_n none
    (extf .f32 x bitsLt_bf16_f32) (extf .f32 dy bitsLt_bf16_f32)) transposes_S256x1024_S1024x256_1_0) transposes_S1024x256_S256x1024_1_0

/-- The bias's gradient as the reference composes it. -/
def refB (x : FVec Ideal S8192x256 .bf16) : FVec Ideal S256 .f32 :=
  Host.reduceAdd (shapeCast _ (Host.reduceAdd (extf .f32 x bitsLt_bf16_f32) (constant S_ .f32 0x00000000#32) reducesTo_S8192x256_S256_d0 h_S_)
    shapeCasts_S256_S1x256) (constant S_ .f32 0x00000000#32) reducesTo_S1x256_S256_d0 h_S_

/-- The weight's gradients agree. -/
theorem eq (x : FVec Ideal S8192x256 .bf16) (dy : FVec Ideal S8192x1024 .bf16) : ref x dy = arr x dy := by
  funext j
  pointwise [ref, arr]

/-- The bias's gradients agree. -/
theorem eqB (x : FVec Ideal S8192x256 .bf16) : refB x = arrB x := by
  funext j
  unfold arrB
  pointwise [refB]
  simp only [Finset.univ_unique, Finset.sum_singleton]

end Cert.DwInKv.Reference

end
-- ==== Proof.FfnUpBwdBlock.lean ====
/-
  `ffn_up_bwd`, the kernel's side: the gradients of the gate's and the up projection of the normed rows are carried back to
  the rows and to the norm's gain. A grid point takes 256 rows; the gain's gradient is added up over the 32 points, and the row
  of it that @main returns is taken after them.
-/
module

public import proofs.«01_k».proof.Proof.Gen.Kernel19Ideal.Frame
public import proofs.«01_k».proof.Proof.Reals
public import Idealize.ShloMosaic.Lib.Pipeline.ValueKit
public import Idealize.ShloMosaic.Lib.Pipeline.FrameSuffix
public import Idealize.ShloMosaic.Lib.StableHlo.Run
public import Idealize.ShloMosaic.Lib.Pointwise

@[expose] public section

set_option maxRecDepth 16384

noncomputable section

namespace Cert.FfnUpBwd

open Cert.Kernel19Ideal Cert.Kernel19Ideal.Gen Idealize.ShloMosaic Idealize.ShloMosaic.TcCoe Idealize.SL.Sem

/-- The constants of the norm: the width and the small number under the root. -/
abbrev width : EReal := Ideal.ofBits .f32 0x44800000#32
abbrev eps : EReal := Ideal.ofBits .f32 0x3727C5AC#32

/-- The normed row's gradient: the two products, added in the kernel's order. -/
def dn {n : ℕ} (a b : (⟨2, ![n, 2816]⟩ : Shape).Idx → EReal) (u v : S1024x2816.Idx → EReal) (r : Fin n) (k : Fin 1024) : EReal :=
  (∑ q : Fin 2816, a (ix2 r q) * u (ix2 k q)) + ∑ q : Fin 2816, b (ix2 r q) * v (ix2 k q)

/-- One over the root of the row's mean square. -/
def inv {n : ℕ} (x : (⟨2, ![n, 1024]⟩ : Shape).Idx → EReal) (r : Fin n) : EReal :=
  Ideal.rsqrt (Ideal.div (∑ q : Fin 1024, x (ix2 r q) * x (ix2 r q)) width + eps)

/-- The row's gradient, from the normed row's `d`, with the residual's `s` added. -/
def drow {n : ℕ} (d : Fin n → Fin 1024 → EReal) (x : (⟨2, ![n, 1024]⟩ : Shape).Idx → EReal) (g : S1x1024.Idx → EReal)
    (s : (⟨2, ![n, 1024]⟩ : Shape).Idx → EReal) (r : Fin n) (k : Fin 1024) : EReal :=
  s (ix2 r k) + inv x r * (d r k * g (ix2 0 k)
    - x (ix2 r k) * inv x r * Ideal.div (∑ q : Fin 1024, d r q * g (ix2 0 q) * (x (ix2 r q) * inv x r)) width)

/-- A row's part of the gain's gradient. -/
def dgain {n : ℕ} (d : Fin n → Fin 1024 → EReal) (x : (⟨2, ![n, 1024]⟩ : Shape).Idx → EReal) (r : Fin n) (k : Fin 1024) : EReal :=
  d r k * (x (ix2 r k) * inv x r)

/-- The normed rows' gradient a grid point computes. -/
theorem dn_at (a b : FVec Ideal S256x2816 .bf16) (u v : FVec Ideal S1024x2816 .bf16) (y : S256x1024.Idx) :
    k0_pay2 (F := Ideal) a u b v y = dn a b u v (y 0) (y 1) := by
  unfold dn
  open_payloads
  pointwise

/-- The rows' gradient a grid point stores. -/
theorem drow_at (d x : FVec Ideal S256x1024 .f32) (g : FVec Ideal S1x1024 .f32) (s : FVec Ideal S256x1024 .f32) (y : S256x1024.Idx) :
    k0_pay7 (F := Ideal) d x g s y = drow (fun r k => d (ix2 r k)) x g s (y 0) (y 1) := by
  unfold drow inv
  open_payloads
  pointwise

/-- The sum over its rows a grid point adds to the gain's gradient, the same in each of the eight rows. -/
theorem dgain_at (d x : FVec Ideal S256x1024 .f32) (y : S8x1024.Idx) :
    k0_pay8 (F := Ideal) d x y = ∑ r : Fin 256, dgain (fun r k => d (ix2 r k)) x r (y 1) := by
  unfold dgain inv
  open_payloads
  pointwise

/-- The addition to what the point before left. -/
theorem acc_at (d p : FVec Ideal S8x1024 .f32) (y : S8x1024.Idx) : k0_pay4 (F := Ideal) d p y = p y + d y := by
  open_payloads
  pointwise

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- The rows' gradient over the whole array. -/
def arrX (a b : FVec Ideal S8192x2816 .bf16) (u v : FVec Ideal S1024x2816 .bf16) (x : FVec Ideal S8192x1024 .f32)
    (g : FVec Ideal S1x1024 .f32) (s : FVec Ideal S8192x1024 .f32) : FVec Ideal S8192x1024 .f32 :=
  fun j => drow (dn a b u v) x g s (j 0) (j 1)

/-- The gain's gradient: a sum over all the rows. -/
def arrG (a b : FVec Ideal S8192x2816 .bf16) (u v : FVec Ideal S1024x2816 .bf16) (x : FVec Ideal S8192x1024 .f32) : FVec Ideal S1024 .f32 :=
  fun j => ∑ r : Fin 8192, dgain (dn a b u v) x r (j 0)

/-- The rows' gradient after the run. -/
theorem final7 (c : Dev nD) : (dats m 0 c).arrAt 7 (cfgs 0).N = arrX (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 7 _ (by decide +kernel) fun t _ y => ?_
  blk_simp
  rw [after0_7]
  have h : ∀ y, (outsAt0 m c t.val t.isLt).1 y = drow (dn (iblk m c 0 t) (iblk m c 1 t) (iblk m c 2 t) (iblk m c 3 t))
      (iblk m c 4 t) (iblk m c 5 t) (iblk m c 6 t) (y 0) (y 1) := by
    intro y
    have e : (fun r k => k0_pay2 (F := Ideal) (iblk m c 0 t) (iblk m c 2 t) (iblk m c 1 t) (iblk m c 3 t) (ix2 r k))
        = dn (iblk m c 0 t) (iblk m c 1 t) (iblk m c 2 t) (iblk m c 3 t) :=
      funext fun r => funext fun k => dn_at _ _ _ _ _
    by_cases h0 : t.val % 32 = 0
    · have h1 : ¬1 ≤ t.val := by have : t.val < 32 := lt_of_lt_of_eq t.isLt N_0; omega
      rw [outsAt0_A m c t h0 h1]
      frame_out
      rw [drow_at, e]
    · rw [outsAt0_B m c t h0 (by omega)]
      frame_out
      rw [drow_at, e]
  rw [h]
  unfold arrX drow dn inv
  blk_point [iblk, V, idx t]

/-- The eight rows of the gain's gradient after the run. -/
theorem final8 (c : Dev nD) : (dats m 0 c).arrAt 8 (cfgs 0).N = fun j : S8x1024.Idx => arrG (m ((c : Thread nD τ).loc main_arg0))
    (m ((c : Thread nD τ).loc main_arg1)) (m ((c : Thread nD τ).loc main_arg2)) (m ((c : Thread nD τ).loc main_arg3))
    (m ((c : Thread nD τ).loc main_arg4)) (ix1 (j 1)) := by
  refine (dats m 0 c).arrAt_eq_of_covers 8 _ (by decide +kernel) fun t hf y => ?_
  blk_simp
  have e : ∀ t, (fun r k => k0_pay2 (F := Ideal) (iblk m c 0 t) (iblk m c 2 t) (iblk m c 1 t) (iblk m c 3 t) (ix2 r k))
        = dn (iblk m c 0 t) (iblk m c 1 t) (iblk m c 2 t) (iblk m c 3 t) :=
      fun t => funext fun r => funext fun k => dn_at _ _ _ _ _
  rw [after0_8, Pipeline.eq_sum_fin_of_reset_step_apply_of_flush (fun n h => (outsAt0 m c n h).2) 32 (fun _ => 0)
    (fun t j => ∑ r : Fin 256, dgain (dn (iblk m c 0 t) (iblk m c 1 t) (iblk m c 2 t) (iblk m c 3 t)) (iblk m c 4 t) r (j 1))
    (fun t h j => by
      have h1 : ¬1 ≤ t.val := by have : t.val < 32 := lt_of_lt_of_eq t.isLt N_0; omega
      rw [outsAt0_A m c t h h1]; frame_out; rw [dgain_at, e]; simp)
    (fun t h j => by rw [outsAt0_B m c t h (by omega)]; frame_out; rw [acc_at, dgain_at, e])
    t ((flush0_8 t).mp hf) _, zero_add]
  unfold arrG
  refine Fin.sum_mul_add_congr fun s k hl => ?_
  unfold dgain dn inv
  blk_point [iblk, V, idx t, idx ⟨_, Pipeline.run_point_lt_of_flush t ((flush0_8 t).mp hf) s⟩]

end Cert.FfnUpBwd

end
-- ==== Proof.FfnUpBwdRun.lean ====
/-
  `ffn_up_bwd`: the run with its two results named, the row @main takes of the gain's gradient among them.
-/
module

public import proofs.«01_k».proof.Proof.FfnUpBwdBlock
public import Idealize.ShloMosaic.Lib.Pipeline.ValueKit
public import Idealize.ShloMosaic.Lib.Pipeline.FrameSuffix
public import Idealize.ShloMosaic.Lib.StableHlo.Run
public import Idealize.ShloMosaic.Lib.Pointwise

@[expose] public section

set_option maxRecDepth 16384

noncomputable section

namespace Cert.FfnUpBwd

open Cert.Kernel19Ideal Cert.Kernel19Ideal.Gen Idealize.ShloMosaic Idealize.ShloMosaic.TcCoe Idealize.SL.Sem

variable (m : (ℓ : Loc nD τ sig) → Buf (Elt Ideal) ℓ)

/-- What the two lines after the region leave: the first of the eight rows of the gain's gradient. -/
theorem tail (c : Dev nD) : Pipeline.afterTail₀ cfgs (dats m) 0 (V0 m) [hostOps1] c main_v2 = shapeCast S1024 (extractStridedSlice S1x1024 ![0, 0]
    (show FVec Ideal S8x1024 .f32 from (dats m 0 c).arrAt 8 cfg0.N) slices_S8x1024_S1x1024_0_0) shapeCasts_S1x1024_S1024 := by
  have e := Pipeline.withArrays_arr (τ := τ) spec0 launch0.win.arr_inj c (V0 m c) (fun w => (dats m 0 c).arrAt w (cfgs 0).N) 8
  change StableHlo.after hostOps1 (Pipeline.withArrays (cfgs 0).spec c (V0 m c) fun w => (dats m 0 c).arrAt w (cfgs 0).N) (Proc.tc.devRef main_v2) = _
  dsimp only [hostOps1]
  after_results
  exact congrArg (fun v : FVec Ideal S8x1024 .f32 => shapeCast S1024 (extractStridedSlice S1x1024 ![0, 0] v slices_S8x1024_S1x1024_0_0)
    shapeCasts_S1x1024_S1024) e

/-- That row is the gain's gradient. -/
theorem row (G : FVec Ideal S1024 .f32) (v : FVec Ideal S8x1024 .f32) (h : v = fun j : S8x1024.Idx => G (ix1 (j 1))) :
    shapeCast S1024 (extractStridedSlice S1x1024 ![0, 0] v slices_S8x1024_S1x1024_0_0) shapeCasts_S1x1024_S1024 = G := by
  subst h
  funext j
  pointwise

/-- The run: the rows' gradient, the gain's gradient, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v0_0) = arrX (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c.tc : Thread nD τ).loc main_v2) = arrG (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 7).trans (final7 m c),
    (((h c).2 main_v2 (Pipeline.mem_restRefs_of _ rfl (by decide +kernel))).trans (tail m c)).trans (row _ _ (final8 m c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩)
    (run_main m ρ)

end Cert.FfnUpBwd

end
-- ==== Proof.FfnUpBwd.lean ====
/-
  `ffn_up_bwd`: the rows' and the gain's gradient of the reference are the kernel's, by the identity of `InProjBwd`.
-/
module

public import proofs.«01_k».proof.Proof.FfnUpBwdRun
public import proofs.«01_k».proof.Proof.InProjBwd
public import proofs.«01_k».proof.Proof.Gen.Reference19Ideal

@[expose] public section

set_option maxRecDepth 16384

noncomputable section

namespace Cert.FfnUpBwd.Reference

open Cert.InProjBwd.Reference (neg_half_coe width_coe ms_cases identity)
open Cert.Reference19Ideal Cert.Reference19Ideal.Gen Idealize.ShloMosaic Idealize.SL.Sem

/-- The normed rows' gradient as the reference composes it. -/
def dnR (a b : FVec Ideal S8192x2816 .bf16) (u v : FVec Ideal S1024x2816 .bf16) : FVec Ideal S8192x1024 .f32 :=
  addf (Host.dotGeneral dot_S8192x2816_S1024x2816_S8192x1024_1_1_0_0_n_n none (extf .f32 b bitsLt_bf16_f32) (extf .f32 v bitsLt_bf16_f32))
    (Host.dotGeneral dot_S8192x2816_S1024x2816_S8192x1024_1_1_0_0_n_n none (extf .f32 a bitsLt_bf16_f32) (extf .f32 u bitsLt_bf16_f32))

/-- The mean square with the small number. -/
def msR (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))

/-- The gain times the normed rows' gradient. -/
def uR (d : FVec Ideal S8192x1024 .f32) (g : FVec Ideal S1x1024 .f32) : FVec Ideal S8192x1024 .f32 :=
  mulf d (broadcastInDim S8192x1024 ![0, 1] bcast_S1x1024_S8192x1024_0_1 (broadcastInDim S1x1024 ![1] bcast_S1024_S1x1024_1 (shapeCast _ g shapeCasts_S1x1024_S1024)))

/-- The mean square's gradient over the width. -/
def sR (d x : FVec Ideal S8192x1024 .f32) (g : FVec Ideal S1x1024 .f32) : FVec Ideal S8192x1024 .f32 :=
  broadcastInDim S8192x1024 ![0] bcast_S8192_S8192x1024_0 (Host.reduceAdd (Host.divf (mulf (shapeCast _ (Host.reduceAdd (mulf x (uR d g)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (msR x)) (msR x)))) (broadcastInDim S8192x1 ![] bcast_S_S8192x1 (constant S_ .f32 0x44800000#32))) (constant S_ .f32 0x00000000#32) reducesTo_S8192x1_S8192_d1 h_S_)

/-- The rows' gradient as the reference composes it. -/
def resX (d x : FVec Ideal S8192x1024 .f32) (g : FVec Ideal S1x1024 .f32) (s : FVec Ideal S8192x1024 .f32) : FVec Ideal S8192x1024 .f32 :=
  addf (addf (addf s (mulf (uR d g) (broadcastInDim S8192x1024 ![0, 1] bcast_S8192x1_S8192x1024_0_1 (Host.rsqrt (msR x))))) (mulf x (sR d x g))) (mulf (sR d x g) x)

/-- The gain's gradient as the reference composes it. -/
def resG (d x : FVec Ideal S8192x1024 .f32) : FVec Ideal S1024 .f32 :=
  Host.reduceAdd (shapeCast _ (Host.reduceAdd (mulf (mulf x (broadcastInDim S8192x1024 ![0, 1] bcast_S8192x1_S8192x1024_0_1 (Host.rsqrt (msR x)))) d) (constant S_ .f32 0x00000000#32) reducesTo_S8192x1024_S1024_d0 h_S_) shapeCasts_S1024_S1x1024) (constant S_ .f32 0x00000000#32) reducesTo_S1x1024_S1024_d0 h_S_

/-- The reference adds the two products in the other order. -/
theorem dn_eq (a b : FVec Ideal S8192x2816 .bf16) (u v : FVec Ideal S1024x2816 .bf16) : dnR a b u v = fun j => dn a b u v (j 0) (j 1) := by
  funext j
  unfold dn
  pointwise [dnR]
  rw [add_comm]

/-- The gain's gradient needs no finiteness: it is the same sum. -/
theorem eqG (D : Fin 8192 → Fin 1024 → EReal) (x : FVec Ideal S8192x1024 .f32) (j : S1024.Idx) :
    resG (fun j => D (j 0) (j 1)) x j = ∑ r : Fin 8192, dgain D x r (j 0) := by
  unfold dgain inv
  pointwise [resG, msR]
  simp only [Finset.univ_unique, Finset.sum_singleton]
  refine Finset.sum_congr rfl fun r _ => ?_
  rw [mul_comm]

/-- The rows' gradient. A row with an infinite entry has an infinite mean square: there both are the residual's. -/
theorem eqX (D : Fin 8192 → Fin 1024 → EReal) (x s : FVec Ideal S8192x1024 .f32) (g : FVec Ideal S1x1024 .f32) (j : S8192x1024.Idx) :
    resX (fun j => D (j 0) (j 1)) x g s j = drow D x g s (j 0) (j 1) := by
  unfold drow inv
  pointwise [resX, sR, uR, msR]
  rcases ms_cases fun q => x (ix2 (j 0) q) with hv | ⟨V, hV, hv⟩
  · simp only [width, eps, hv, Ideal.rsqrt_top]
    rw [neg_half_coe, width_coe]
    simp only [Finset.univ_unique, Finset.sum_singleton, Ideal.div_coe (show (1024 : ℝ) ≠ 0 by norm_num)]
    simp [Ideal.div]
  · have hr : Ideal.rsqrt (V : EReal) = (((Real.sqrt V)⁻¹ : ℝ) : EReal) := by
      rw [Ideal.rsqrt_coe, if_neg (not_lt.mpr hV.le), if_neg hV.ne']
    have hρ : (Real.sqrt V)⁻¹ * (Real.sqrt V)⁻¹ * V = 1 := by
      rw [← mul_inv, Real.mul_self_sqrt hV.le, inv_mul_cancel₀ hV.ne']
    simp only [width, eps, hv, hr]
    rw [neg_half_coe, width_coe]
    simp only [Finset.univ_unique, Finset.sum_singleton, Ideal.div_coe hV.ne', Ideal.div_coe (show (1024 : ℝ) ≠ 0 by norm_num)]
    exact identity _ _ _ V _ _ _ hρ hV.ne' (inv_pos.mpr (Real.sqrt_pos.mpr hV))

/-- The gain's gradient is the kernel's. -/
theorem eq1 (a b : FVec Ideal S8192x2816 .bf16) (u v : FVec Ideal S1024x2816 .bf16) (x : FVec Ideal S8192x1024 .f32) :
    resG (dnR a b u v) x = arrG a b u v x := by
  funext j
  rw [dn_eq]
  exact eqG _ _ j

/-- The rows' gradient is the kernel's. -/
theorem eq0 (a b : FVec Ideal S8192x2816 .bf16) (u v : FVec Ideal S1024x2816 .bf16) (x : FVec Ideal S8192x1024 .f32)
    (g : FVec Ideal S1x1024 .f32) (s : FVec Ideal S8192x1024 .f32) : resX (dnR a b u v) x g s = arrX a b u v x g s := by
  funext j
  rw [dn_eq]
  exact eqX _ x s g j

end Cert.FfnUpBwd.Reference

end
-- ==== Proof.Sgu.lean ====
/-
  The spatial gating unit, one chunk of 128 rows at a time: the smooth gate, the layer norm of a row's right half, and
  the causal mixing of the chunk's rows.
-/
module

public import Idealize.ShloMosaic.PureOps.Ideal
public import Idealize.ShloMosaic.Lib.WholeRead
public import Idealize.ShloMosaic.Lib.Pipeline.ValueKit
public import Idealize.ShloMosaic.Lib.Pointwise

@[expose] public section

noncomputable section

namespace Cert.Sgu

open Idealize.ShloMosaic Idealize.ShloMosaic.TcCoe

/-- The smooth gate (the tanh form), `c` the cubic term's factor. -/
def gelu (c x : EReal) : EReal :=
  x * (Ideal.ofBits .f32 0x3F000000#32 * (1 + Ideal.tanh (Ideal.ofBits .f32 0x3F4C422A#32 * (x + c * (x * x * x)))))

/-- The mean of 512 entries. -/
def mean (f : Fin 512 → EReal) : EReal := Ideal.div (∑ k, f k) (Ideal.ofBits .f32 0x44000000#32)

/-- The reciprocal of the deviation, the small constant added under the root. -/
def rstd (f : Fin 512 → EReal) : EReal :=
  Ideal.rsqrt (mean (fun k => (f k - mean f) * (f k - mean f)) + Ideal.ofBits .f32 0x3727C5AC#32)

/-- The right half of a row, gated. -/
def right (c : EReal) (z : Fin 1024 → EReal) (k : Fin 512) : EReal := gelu c (z ⟨512 + k.val, Nat.add_lt_add_left k.isLt 512⟩)

/-- A row's normalised right half, scaled and shifted. -/
def vn (c : EReal) (z : Fin 1024 → EReal) (a e : Fin 512 → EReal) (j : Fin 512) : EReal :=
  (right c z j - mean (right c z)) * rstd (right c z) * a j + e j

/-- Row `t` of the chunk takes row `s` when `s ≤ t`, else zero. -/
abbrev upTo (t s : Fin 128) (x : EReal) : EReal :=
  Scalar.select (IntOp.cmpi .sle (BitVec.ofNat 32 s.val) (BitVec.ofNat 32 t.val)) x 0

/-- The mixed rows: row `t` a weighted sum of the rows up to it, and a shift. -/
def mixed (c : EReal) (Z : Fin 128 → Fin 1024 → EReal) (w : Fin 128 → Fin 128 → EReal) (b : Fin 128 → EReal)
    (a e : Fin 512 → EReal) (t : Fin 128) (j : Fin 512) : EReal :=
  (∑ s, upTo t s (w t s * vn c (Z s) a e j)) + b t

/-- The unit's result at row `t`, lane `j` of a chunk. -/
def chunk (c : EReal) (Z : Fin 128 → Fin 1024 → EReal) (w : Fin 128 → Fin 128 → EReal) (b : Fin 128 → EReal)
    (a e : Fin 512 → EReal) (t : Fin 128) (j : Fin 512) : EReal :=
  gelu c (Z t ⟨j.val, lt_of_lt_of_le j.isLt (by decide)⟩) * mixed c Z w b a e t j

/-- A load of a rectangle of a whole buffer, read at an entry. -/
theorem rd {sig : RefSig} {κ : Kind} {sp : Space} {s : Shape} {e : EltTy} {m : Memref sig κ sp s e} (h : m.IsWhole)
    (X : s.Idx → Elt Ideal e) (off size : Fin s.rank → ℕ) (inb) (y : (Rect.unit off size inb).shape.Idx) (i : s.Idx)
    (hi : ∀ a, (i a).val = off a + (y a).val) :
    View.readAt (Elt Ideal) m.view (Rect.unit off size inb).toLoadRect (h.unread X) y = X i := by
  refine (h.readAt_unread X _ y).trans (congrArg X (funext fun a => Fin.ext ?_))
  exact (ValueKit.rect_emb_unit_val off size inb y a).trans (hi a).symm

end Cert.Sgu

end
-- ==== Proof.SguFwd.lean ====
/-
  `sgu_fwd`: the spatial gating unit. A grid point takes the 2048 rows of a sequence, sixteen chunks of 128 rows one after the
  other, and mixes each chunk in four groups of 128 lanes; the reference norms all rows and makes one contraction.
-/
module

public import proofs.«01_k».proof.Proof.Gen.Kernel17Ideal.Frame
public import proofs.«01_k».proof.Proof.Gen.Reference17Ideal
public import proofs.«01_k».proof.Proof.Gen.Reference17Ideal.Run
public import proofs.«01_k».proof.Proof.Sgu

@[expose] public section

set_option maxRecDepth 16384

noncomputable section

namespace Cert.SguFwd

open Cert.Kernel17Ideal Cert.Kernel17Ideal.Gen Idealize.ShloMosaic Idealize.ShloMosaic.TcCoe Idealize.SL.Sem

/-- The cubic term's factor as the program spells it. -/
abbrev cub : EReal := Ideal.ofBits .f32 0x3D372713#32

/-- The gated left half of a chunk. -/
theorem left_at (z : Vec Ideal S128x1024 .f32) (y : S128x512.Idx) :
    k0_pay5 (F := Ideal) z y = Sgu.gelu cub (z (ix2 (y 0) ⟨(y 1).val, lt_of_lt_of_le (y 1).isLt (by decide)⟩)) := by
  open_payloads
  pointwise [Sgu.gelu]

/-- The normalised right half of a chunk. -/
theorem norm_at (z : Vec Ideal S128x1024 .f32) (a e : Vec Ideal S1x512 .f32) (y : S128x512.Idx) :
    k0_pay6 (F := Ideal) z a e y = Sgu.vn cub (fun k => z (ix2 (y 0) k)) (fun k => a (ix2 0 k)) (fun k => e (ix2 0 k)) (y 1) := by
  open_payloads
  pointwise [Sgu.gelu, Sgu.vn, Sgu.right, Sgu.rstd, Sgu.mean]

/-- One group's mixing, from the gated left half and the normalised right half. -/
abbrev mix (u : FVec Ideal S128x512 .f32) (v : FVec Ideal S128x512 .bf16) (w : Vec Ideal S1x128x128 .f32) (b : Vec Ideal S128x1 .f32)
    (t : Fin 128) (j : Fin 512) : EReal :=
  u (ix2 t j) * ((∑ s, Sgu.upTo t s (w (ix3 0 t s) * v (ix2 s j))) + b (ix2 t 0))

section
variable (u : FVec Ideal S128x512 .f32) (v : FVec Ideal S128x512 .bf16) (w : Vec Ideal S1x128x128 .f32) (b : Vec Ideal S128x1 .f32) (y : S128x128.Idx)

/-- What a trip stores in lanes 0 to 127. -/
theorem mix0 : k0_pay7 (F := Ideal) k0_pay1 u v w b y = mix u v w b (y 0) ⟨(y 1).val, by have := (y 1).isLt; simp at this; omega⟩ := by
  open_payloads
  pointwise

/-- What a trip stores in lanes 128 to 255. -/
theorem mix1 : k0_pay8 (F := Ideal) k0_pay1 u v w b y = mix u v w b (y 0) ⟨128 + (y 1).val, by have := (y 1).isLt; simp at this; omega⟩ := by
  open_payloads
  pointwise

/-- What a trip stores in lanes 256 to 383. -/
theorem mix2 : k0_pay2 (F := Ideal) u (k0_pay9 k0_pay1 w) (k0_pay10 v) b y = mix u v w b (y 0) ⟨256 + (y 1).val, by have := (y 1).isLt; simp at this; omega⟩ := by
  open_payloads
  pointwise

/-- What a trip stores in lanes 384 to 511. -/
theorem mix3 : k0_pay3 (F := Ideal) u v w b y = mix u v w b (y 0) ⟨384 + (y 1).val, by have := (y 1).isLt; simp at this; omega⟩ := by
  open_payloads
  pointwise

end

/-- The chunk's result, from the pieces a trip loads. -/
abbrev piece (z : Vec Ideal S128x1024 .f32) (w : Vec Ideal S1x128x128 .f32) (b : Vec Ideal S128x1 .f32) (a e : Vec Ideal S1x512 .f32)
    (t : Fin 128) (j : Fin 512) : EReal :=
  Sgu.chunk cub (fun t k => z (ix2 t k)) (fun t s => w (ix3 0 t s)) (fun t => b (ix2 t 0)) (fun k => a (ix2 0 k)) (fun k => e (ix2 0 k)) t j

theorem mix_piece (z : Vec Ideal S128x1024 .f32) (w : Vec Ideal S1x128x128 .f32) (b : Vec Ideal S128x1 .f32) (a e : Vec Ideal S1x512 .f32)
    (t : Fin 128) (j : Fin 512) : mix (k0_pay5 z) (k0_pay6 z a e) w b t j = piece z w b a e t j := by
  unfold mix piece Sgu.chunk Sgu.mixed
  simp only [left_at, norm_at]
  rfl

/-- The result of a block of 2048 rows: row `r` is row `r % 128` of its chunk. -/
def blk (x0 : Vec Ideal S2048x1024 .f32) (x1 : Vec Ideal S4x128x128 .f32) (x2 : Vec Ideal S128x4 .f32) (x3 : Vec Ideal S8x512 .f32)
    (y : S2048x512.Idx) : EReal :=
  Sgu.chunk cub (fun t k => x0 (ix2 ⟨(y 0).val / 128 * 128 + t.val, by have := (y 0).isLt; have := t.isLt; simp at *; omega⟩ k))
    (fun t s => x1 (ix3 ⟨(y 1).val / 128, by have := (y 1).isLt; simp at *; omega⟩ t s))
    (fun t => x2 (ix2 t ⟨(y 1).val / 128, by have := (y 1).isLt; simp at *; omega⟩))
    (fun k => x3 (ix2 0 k)) (fun k => x3 (ix2 1 k)) ⟨(y 0).val % 128, Nat.mod_lt _ (by decide)⟩ (y 1)

/-- A trip's piece is the block's result there. -/
theorem piece_blk (x0 : Vec Ideal S2048x1024 .f32) (x1 : Vec Ideal S4x128x128 .f32) (x2 : Vec Ideal S128x4 .f32) (x3 : Vec Ideal S8x512 .f32)
    (z : Vec Ideal S128x1024 .f32) (w : Vec Ideal S1x128x128 .f32) (b : Vec Ideal S128x1 .f32) (a e : Vec Ideal S1x512 .f32)
    (t : Fin 128) (j : Fin 512) (y : S2048x512.Idx) (k : ℕ) (hk : k < 16) (g : Fin 4) (h0 : (y 0).val = 128 * k + t.val) (h1 : (y 1).val = j.val)
    (hg : j.val / 128 = g.val)
    (hz : ∀ (t : Fin 128) (c : Fin 1024), z (ix2 t c) = x0 (ix2 ⟨128 * k + t.val, by omega⟩ c))
    (hw : ∀ t s : Fin 128, w (ix3 0 t s) = x1 (ix3 g t s)) (hb : ∀ t : Fin 128, b (ix2 t 0) = x2 (ix2 t g))
    (ha : ∀ k : Fin 512, a (ix2 0 k) = x3 (ix2 0 k)) (he : ∀ k : Fin 512, e (ix2 0 k) = x3 (ix2 1 k)) :
    piece z w b a e t j = blk x0 x1 x2 x3 y := by
  have ht := t.isLt
  have e0 : (y 0).val / 128 = k := by omega
  have e1 : (⟨(y 0).val % 128, Nat.mod_lt _ (by decide)⟩ : Fin 128) = t := Fin.ext (by show (y 0).val % 128 = _; omega)
  have e2 : y 1 = j := Fin.ext h1
  have e3 : (⟨(y 1).val / 128, by have := (y 1).isLt; simp at *; omega⟩ : Fin 4) = g := Fin.ext (by show (y 1).val / 128 = _; omega)
  unfold blk piece
  rw [e1, e3, e2]
  simp only [hz, hw, hb, ha, he]
  congr 1
  funext s c
  exact congrArg (fun r => x0 (ix2 r c)) (Fin.ext (by show 128 * k + s.val = (y 0).val / 128 * 128 + s.val; omega))

section
variable (c : Dev nD) (i : grid0.Coords) (arg1 : Memref sig .tc .vmem S2048x1024 .f32) (harg1 : arg1.IsWhole) (arg2 : Memref sig .tc .vmem S4x128x128 .f32) (harg2 : arg2.IsWhole) (arg3 : Memref sig .tc .vmem S128x4 .f32) (harg3 : arg3.IsWhole) (arg4 : Memref sig .tc .vmem S8x512 .f32) (harg4 : arg4.IsWhole) (arg5 : Memref sig .tc .vmem S2048x512 .bf16) (harg5 : arg5.IsWhole)
    (x0 : Vec Ideal S2048x1024 .f32) (x1 : Vec Ideal S4x128x128 .f32) (x2 : Vec Ideal S128x4 .f32) (x3 : Vec Ideal S8x512 .f32)

/-- Every piece of a trip agrees with the block's result. -/
theorem trip (k : Fin k0_t1_loop.trips) :
    ∀ p ∈ tripL_k0_t1 (F := Ideal) Variants.none c none i arg1 harg1 arg2 harg2 arg3 harg3 arg4 harg4 arg5 harg5 (harg1.unread x0) (harg2.unread x1) (harg3.unread x2) (harg4.unread x3) k, ∀ x, p.2 x = blk x0 x1 x2 x3 (p.1.emb x) := by
  have hk : k.val < 16 := Nat.lt_of_lt_of_le k.isLt k0_t1_abs.2.1
  have hz : ∀ (t : Fin 128) (c : Fin 1024), View.readAt (Elt Ideal) arg1.view (Rect.unit (s := S2048x1024) (k0_off1 k) S128x1024.size (k0_off1_inb k)).toLoadRect (harg1.unread x0) (ix2 t c) = x0 (ix2 ⟨128 * k.val + t.val, by omega⟩ c) := fun t c =>
    Sgu.rd harg1 x0 _ _ _ _ _ fun a => match a with
      | ⟨0, _⟩ => (congrArg (· + t.val) (congrFun (k0_off1_eq k) 0)).symm
      | ⟨1, _⟩ => ((congrArg (· + c.val) (congrFun (k0_off1_eq k) 1)).trans (Nat.zero_add _)).symm
  unfold tripL_k0_t1 trip_k0_t1
  unfold trip_k0_t1.sl.r trip_k0_t1.sl.r_1 trip_k0_t1.sl.r_2 trip_k0_t1.sl.r_3
  simp only [List.forall_mem_cons]
  refine ⟨fun x => ?_, fun x => ?_, fun x => ?_, fun x => ?_, fun p hp => absurd hp (List.not_mem_nil)⟩
  · refine (mix3 _ _ _ _ _).trans ((mix_piece _ _ _ _ _ _ _).trans (piece_blk _ _ _ _ _ _ _ _ _ _ _ _ k.val hk 3 ?_ ?_ ?_ hz (fun t s => ?_) (fun t => ?_) (fun j => ?_) (fun j => ?_)))
    · exact (ValueKit.rect_emb_unit_val _ _ _ x 0).trans (congrArg (· + (x 0).val) (congrFun (k0_off5_eq k) 0))
    · exact (ValueKit.rect_emb_unit_val _ _ _ x 1).trans (congrArg (· + (x 1).val) (congrFun (k0_off5_eq k) 1))
    · have h : (x 1).val < 128 := (x 1).isLt
      show (384 + (x 1).val) / 128 = 3
      omega
    · exact Sgu.rd harg2 x1 _ _ _ _ _ fun a => by fin_cases a <;> simp
    · exact Sgu.rd harg3 x2 _ _ _ _ _ fun a => by fin_cases a <;> simp
    · exact Sgu.rd harg4 x3 _ _ _ _ _ fun a => by fin_cases a <;> simp
    · exact Sgu.rd harg4 x3 _ _ _ _ _ fun a => by fin_cases a <;> simp
  · refine (mix2 _ _ _ _ _).trans ((mix_piece _ _ _ _ _ _ _).trans (piece_blk _ _ _ _ _ _ _ _ _ _ _ _ k.val hk 2 ?_ ?_ ?_ hz (fun t s => ?_) (fun t => ?_) (fun j => ?_) (fun j => ?_)))
    · exact (ValueKit.rect_emb_unit_val _ _ _ x 0).trans (congrArg (· + (x 0).val) (congrFun (k0_off4_eq k) 0))
    · exact (ValueKit.rect_emb_unit_val _ _ _ x 1).trans (congrArg (· + (x 1).val) (congrFun (k0_off4_eq k) 1))
    · have h : (x 1).val < 128 := (x 1).isLt
      show (256 + (x 1).val) / 128 = 2
      omega
    · exact Sgu.rd harg2 x1 _ _ _ _ _ fun a => by fin_cases a <;> simp
    · exact Sgu.rd harg3 x2 _ _ _ _ _ fun a => by fin_cases a <;> simp
    · exact Sgu.rd harg4 x3 _ _ _ _ _ fun a => by fin_cases a <;> simp
    · exact Sgu.rd harg4 x3 _ _ _ _ _ fun a => by fin_cases a <;> simp
  · refine (mix1 _ _ _ _ _).trans ((mix_piece _ _ _ _ _ _ _).trans (piece_blk _ _ _ _ _ _ _ _ _ _ _ _ k.val hk 1 ?_ ?_ ?_ hz (fun t s => ?_) (fun t => ?_) (fun j => ?_) (fun j => ?_)))
    · exact (ValueKit.rect_emb_unit_val _ _ _ x 0).trans (congrArg (· + (x 0).val) (congrFun (k0_off3_eq k) 0))
    · exact (ValueKit.rect_emb_unit_val _ _ _ x 1).trans (congrArg (· + (x 1).val) (congrFun (k0_off3_eq k) 1))
    · have h : (x 1).val < 128 := (x 1).isLt
      show (128 + (x 1).val) / 128 = 1
      omega
    · exact Sgu.rd harg2 x1 _ _ _ _ _ fun a => by fin_cases a <;> simp
    · exact Sgu.rd harg3 x2 _ _ _ _ _ fun a => by fin_cases a <;> simp
    · exact Sgu.rd harg4 x3 _ _ _ _ _ fun a => by fin_cases a <;> simp
    · exact Sgu.rd harg4 x3 _ _ _ _ _ fun a => by fin_cases a <;> simp
  · refine (mix0 _ _ _ _ _).trans ((mix_piece _ _ _ _ _ _ _).trans (piece_blk _ _ _ _ _ _ _ _ _ _ _ _ k.val hk 0 ?_ ?_ ?_ hz (fun t s => ?_) (fun t => ?_) (fun j => ?_) (fun j => ?_)))
    · exact (ValueKit.rect_emb_unit_val _ _ _ x 0).trans (congrArg (· + (x 0).val) (congrFun (k0_off2_eq k) 0))
    · exact (ValueKit.rect_emb_unit_val _ _ _ x 1).trans ((congrArg (· + (x 1).val) (congrFun (k0_off2_eq k) 1)).trans (Nat.zero_add _))
    · have h : (x 1).val < 128 := (x 1).isLt
      show ((x 1).val) / 128 = 0
      omega
    · exact Sgu.rd harg2 x1 _ _ _ _ _ fun a => by fin_cases a <;> simp
    · exact Sgu.rd harg3 x2 _ _ _ _ _ fun a => by fin_cases a <;> simp
    · exact Sgu.rd harg4 x3 _ _ _ _ _ fun a => by fin_cases a <;> simp
    · exact Sgu.rd harg4 x3 _ _ _ _ _ fun a => by fin_cases a <;> simp

/-- So does every piece of the trips before any. -/
theorem trips (n : ℕ) : ∀ p ∈ pb_k0_t1 (F := Ideal) Variants.none c none i arg1 harg1 arg2 harg2 arg3 harg3 arg4 harg4 arg5 harg5 (harg1.unread x0) (harg2.unread x1) (harg3.unread x2) (harg4.unread x3) n, ∀ x, p.2 x = blk x0 x1 x2 x3 (p.1.emb x) := by
  induction n with
  | zero => exact fun p hp => absurd hp (List.not_mem_nil)
  | succ n ih =>
    rw [pb_k0_t1.eq_2]
    unfold pb_k0_t1Step
    split
    · exact fun p hp => (List.mem_append.mp hp).elim (trip c i arg1 harg1 arg2 harg2 arg3 harg3 arg4 harg4 arg5 harg5 x0 x1 x2 x3 _ p) (ih p)
    · exact ih

/-- What a grid point leaves in the result's block. -/
theorem out : out0_A_4 (F := Ideal) c i arg1 harg1 arg2 harg2 arg3 harg3 arg4 harg4 arg5 harg5 x0 x1 x2 x3 = blk x0 x1 x2 x3 := by
  funext y
  unfold out0_A_4
  refine View.read_writes_apply_of_pieces _ _ _ _ ?_ y (cover0_A_4 c i arg1 harg1 arg2 harg2 arg3 harg3 arg4 harg4 arg5 harg5 x0 x1 x2 x3 y)
  unfold kernelRun0_A
  exact trips c i arg1 harg1 arg2 harg2 arg3 harg3 arg4 harg4 arg5 harg5 x0 x1 x2 x3 _

end

variable (m : (ℓ : Loc nD τ sig) → Buf (Elt Ideal) ℓ)

/-- The result over the whole arrays. -/
def arr (z : FVec Ideal S8192x1024 .f32) (w : FVec Ideal S1x4x128x128 .f32) (b : FVec Ideal S1x4x128 .f32) (a e : FVec Ideal S512 .f32) : FVec Ideal S8192x512 .bf16 := fun y =>
  Sgu.chunk cub (fun t k => z (ix2 ⟨(y 0).val / 128 * 128 + t.val, by have := (y 0).isLt; have := t.isLt; simp at *; omega⟩ k))
    (fun t s => w (ix4 0 ⟨(y 1).val / 128, by have := (y 1).isLt; simp at *; omega⟩ t s))
    (fun t => b (ix3 0 ⟨(y 1).val / 128, by have := (y 1).isLt; simp at *; omega⟩ t))
    (fun k => a (ix1 k)) (fun k => e (ix1 k)) ⟨(y 0).val % 128, Nat.mod_lt _ (by decide)⟩ (y 1)

/-- The windows' places. -/
theorem idx : ∀ t : Fin cfg0.N, win0_0.index t = ![t.val, 0] ∧ win0_1.index t = ![0, 0, 0] ∧ win0_2.index t = ![0, 0]
    ∧ win0_3.index t = ![0, 0] ∧ win0_4.index t = ![t.val, 0] :=
  (by decide +kernel : ∀ t : Fin grid0.N, _)

/-- The weights as the region finds them. -/
theorem wsV (c : Dev nD) : V m c main_v0 = shapeCast S4x128x128 (m ((c : Thread nD τ).loc main_arg1)) shapeCasts_S1x4x128x128_S4x128x128 := by
  change StableHlo.after (List.flatten [hostOps0, hostOps0_1]) _ _ = _
  dsimp only [hostOps0, hostOps0_1, List.flatten_cons, List.flatten_nil, List.append_nil, List.cons_append, List.nil_append]
  after_results
  rfl

/-- The shifts as the region finds them. -/
theorem bsV (c : Dev nD) : V m c main_v2 = transpose S128x4 [1, 0] (shapeCast S4x128 (m ((c : Thread nD τ).loc main_arg2)) shapeCasts_S1x4x128_S4x128) transposes_S4x128_S128x4_1_0 := by
  change StableHlo.after (List.flatten [hostOps0, hostOps0_1]) _ _ = _
  dsimp only [hostOps0, hostOps0_1, List.flatten_cons, List.flatten_nil, List.append_nil, List.cons_append, List.nil_append]
  after_results
  rfl

/-- The norm's scale and shift as the region finds them: two rows of eight. -/
theorem lnV (c : Dev nD) : V m c main_v6 = pad S8x512 ![0, 0] ![6, 0] ![0, 0]
    (concatenate S2x512 0 [⟨S1x512, broadcastInDim S1x512 ![1] bcast_S512_S1x512_1 (m ((c : Thread nD τ).loc main_arg3))⟩,
      ⟨S1x512, broadcastInDim S1x512 ![1] bcast_S512_S1x512_1 (m ((c : Thread nD τ).loc main_arg4))⟩] concatenates_S1x512_S1x512_S2x512_d0)
    (sitofp .f32 (constantI S_ 32 0#32) : FVec Ideal S_ .f32) pads_S2x512_S8x512_060_000 h_S_ := by
  change StableHlo.after (List.flatten [hostOps0, hostOps0_1]) _ _ = _
  dsimp only [hostOps0, hostOps0_1, List.flatten_cons, List.flatten_nil, List.append_nil, List.cons_append, List.nil_append]
  after_results
  rfl

/-- The host's reshape of the weights, entry by entry. -/
theorem ws_at (w : FVec Ideal S1x4x128x128 .f32) (g : Fin 4) (r s : Fin 128) : shapeCast S4x128x128 w shapeCasts_S1x4x128x128_S4x128x128 (ix3 g r s) = w (ix4 0 g r s) := by
  pointwise

/-- The host's transpose of the shifts, entry by entry. -/
theorem bs_at (b : FVec Ideal S1x4x128 .f32) (r : Fin 128) (g : Fin 4) : transpose S128x4 [1, 0] (shapeCast S4x128 b shapeCasts_S1x4x128_S4x128) transposes_S4x128_S128x4_1_0 (ix2 r g) = b (ix3 0 g r) := by
  pointwise

/-- The blocks a point reads. -/
theorem b0 (c : Dev nD) (t : Fin cfg0.N) (r : Fin 2048) (k : Fin 1024) : iblk m c 0 t (ix2 r k)
    = m ((c : Thread nD τ).loc main_arg0) (ix2 ⟨2048 * t.val + r.val, by have := lt_of_lt_of_eq t.isLt N_0; have := r.isLt; omega⟩ k) := by
  blk_point [iblk, V_main_arg0 m c, idx t]

theorem b1 (c : Dev nD) (t : Fin cfg0.N) (g : Fin 4) (r s : Fin 128) : iblk m c 1 t (ix3 g r s) = m ((c : Thread nD τ).loc main_arg1) (ix4 0 g r s) := by
  have h : iblk m c 1 t (ix3 g r s) = V m c main_v0 (ix3 g r s) := by blk_point [iblk, idx t]
  rw [h, wsV]
  exact ws_at _ g r s

theorem b2 (c : Dev nD) (t : Fin cfg0.N) (r : Fin 128) (g : Fin 4) : iblk m c 2 t (ix2 r g) = m ((c : Thread nD τ).loc main_arg2) (ix3 0 g r) := by
  have h : iblk m c 2 t (ix2 r g) = V m c main_v2 (ix2 r g) := by blk_point [iblk, idx t]
  rw [h, bsV]
  exact bs_at _ r g

theorem b3 (c : Dev nD) (t : Fin cfg0.N) (k : Fin 512) : iblk m c 3 t (ix2 0 k) = m ((c : Thread nD τ).loc main_arg3) (ix1 k) := by
  have h : iblk m c 3 t (ix2 0 k) = V m c main_v6 (ix2 0 k) := by blk_point [iblk, idx t]
  rw [h, lnV]
  pointwise

theorem b4 (c : Dev nD) (t : Fin cfg0.N) (k : Fin 512) : iblk m c 3 t (ix2 1 k) = m ((c : Thread nD τ).loc main_arg4) (ix1 k) := by
  have h : iblk m c 3 t (ix2 1 k) = V m c main_v6 (ix2 1 k) := by blk_point [iblk, idx t]
  rw [h, lnV]
  pointwise

/-- The block's result is the array's there. -/
theorem blk_arr (t : ℕ) (ht : t < 4) (x0 : Vec Ideal S2048x1024 .f32) (x1 : Vec Ideal S4x128x128 .f32) (x2 : Vec Ideal S128x4 .f32) (x3 : Vec Ideal S8x512 .f32)
    (z : FVec Ideal S8192x1024 .f32) (w : FVec Ideal S1x4x128x128 .f32) (b : FVec Ideal S1x4x128 .f32) (a e : FVec Ideal S512 .f32)
    (hz : ∀ (r : Fin 2048) k, x0 (ix2 r k) = z (ix2 ⟨2048 * t + r.val, by omega⟩ k)) (hw : ∀ (g : Fin 4) (r s : Fin 128), x1 (ix3 g r s) = w (ix4 0 g r s))
    (hb : ∀ (r : Fin 128) (g : Fin 4), x2 (ix2 r g) = b (ix3 0 g r)) (ha : ∀ k : Fin 512, x3 (ix2 0 k) = a (ix1 k)) (he : ∀ k : Fin 512, x3 (ix2 1 k) = e (ix1 k))
    (y : S2048x512.Idx) (i : S8192x512.Idx) (h0 : (i 0).val = 2048 * t + (y 0).val) (h1 : (i 1).val = (y 1).val) :
    blk x0 x1 x2 x3 y = arr z w b a e i := by
  have e1 : i 1 = y 1 := Fin.ext h1
  have e2 : (⟨(i 0).val % 128, Nat.mod_lt _ (by decide)⟩ : Fin 128) = ⟨(y 0).val % 128, Nat.mod_lt _ (by decide)⟩ := Fin.ext (by show (i 0).val % 128 = (y 0).val % 128; omega)
  have e3 : (⟨(i 1).val / 128, by have := (i 1).isLt; simp at *; omega⟩ : Fin 4) = ⟨(y 1).val / 128, by have := (y 1).isLt; simp at *; omega⟩ := Fin.ext (by show (i 1).val / 128 = (y 1).val / 128; omega)
  unfold blk arr
  simp only [hz, hw, hb, ha, he]
  rw [e2, e3, e1]
  congr 1
  funext s k
  exact congrArg (fun r => z (ix2 r k)) (Fin.ext (by show 2048 * t + ((y 0).val / 128 * 128 + s.val) = (i 0).val / 128 * 128 + s.val; omega))

/-- The result array after the run. -/
theorem final (c : Dev nD) : (dats m 0 c).arrAt 4 (cfgs 0).N = arr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]
  unfold outsAt0
  rw [out]
  refine blk_arr t.val (lt_of_lt_of_eq t.isLt N_0) _ _ _ _ _ _ _ _ _ (b0 m c t) (b1 m c t) (b2 m c t) (b3 m c t) (b4 m c t) y _ ?_ ?_
  · refine (ValueKit.view_emb_slice_whole_unit_val main_v7 _ _ _ y 0).trans ?_
    show win0_4.index t 0 * 2048 + (y 0).val = _
    rw [(idx t).2.2.2.2, mul_comm]
    rfl
  · refine (ValueKit.view_emb_slice_whole_unit_val main_v7 _ _ _ y 1).trans ?_
    show win0_4.index t 1 * 512 + (y 1).val = _
    rw [(idx t).2.2.2.2]
    exact (congrArg (· + (y 1).val) (Nat.zero_mul 512)).trans (Nat.zero_add _)

end Cert.SguFwd

namespace Cert.SguFwd.Reference

open Cert.Reference17Ideal Cert.Reference17Ideal.Gen Idealize.ShloMosaic Idealize.ShloMosaic.TcCoe Idealize.SL.Sem

/-- The gated rows. -/
def rG (z : FVec Ideal S8192x1024 .f32) : FVec Ideal S4x2048x1024 .f32 :=
  mulf (shapeCast _ z shapeCasts_S8192x1024_S4x2048x1024) (mulf (broadcastInDim S4x2048x1024 ![] bcast_S_S4x2048x1024 (constant S_ .f32 0x3F000000#32)) (addf (broadcastInDim S4x2048x1024 ![] bcast_S_S4x2048x1024 (constant S_ .f32 0x3F800000#32)) (Host.tanh (mulf (broadcastInDim S4x2048x1024 ![] bcast_S_S4x2048x1024 (constant S_ .f32 0x3F4C422A#32)) (addf (shapeCast _ z shapeCasts_S8192x1024_S4x2048x1024) (mulf (broadcastInDim S4x2048x1024 ![] bcast_S_S4x2048x1024 (constant S_ .f32 0x3D372713#32)) (mulf (mulf (shapeCast _ z shapeCasts_S8192x1024_S4x2048x1024) (shapeCast _ z shapeCasts_S8192x1024_S4x2048x1024)) (shapeCast _ z shapeCasts_S8192x1024_S4x2048x1024))))))))

theorem rG_at (z : FVec Ideal S8192x1024 .f32) (y : S4x2048x1024.Idx) : rG z y = Sgu.gelu cub (z (ix2 ⟨(y 0).val * 2048 + (y 1).val, by have := (y 0).isLt; have := (y 1).isLt; simp at *; omega⟩ (y 2))) := by
  pointwise [rG, Sgu.gelu]

/-- A mean over the last axis, kept. -/
def rM (x : FVec Ideal S4x2048x512 .f32) : FVec Ideal S4x2048x1 .f32 :=
  Host.divf (broadcastInDim S4x2048x1 ![0, 1] bcast_S4x2048_S4x2048x1_0_1 (Host.reduceAdd x (constant S_ .f32 0x00000000#32) reducesTo_S4x2048x512_S4x2048_d2 h_S_)) (broadcastInDim S4x2048x1 ![] bcast_S_S4x2048x1 (constant S_ .f32 0x44000000#32))

theorem rM_at (x : FVec Ideal S4x2048x512 .f32) (y : S4x2048x1.Idx) : rM x y = Sgu.mean fun k => x (ix3 (y 0) (y 1) k) := by
  pointwise [rM, Sgu.mean]

/-- The layer norm. -/
def rN (v : FVec Ideal S4x2048x512 .f32) (a e : FVec Ideal S512 .f32) : FVec Ideal S4x2048x512 .f32 :=
  addf (mulf (mulf (subf v (broadcastInDim S4x2048x512 ![0, 1, 2] bcast_S4x2048x1_S4x2048x512_0_1_2 (rM v)))
    (broadcastInDim S4x2048x512 ![0, 1, 2] bcast_S4x2048x1_S4x2048x512_0_1_2 (Host.rsqrt (addf (rM (mulf (subf v (broadcastInDim S4x2048x512 ![0, 1, 2] bcast_S4x2048x1_S4x2048x512_0_1_2 (rM v))) (subf v (broadcastInDim S4x2048x512 ![0, 1, 2] bcast_S4x2048x1_S4x2048x512_0_1_2 (rM v))))) (broadcastInDim S4x2048x1 ![] bcast_S_S4x2048x1 (constant S_ .f32 0x3727C5AC#32))))))
    (broadcastInDim S4x2048x512 ![0, 1, 2] bcast_S1x1x512_S4x2048x512_0_1_2 (broadcastInDim S1x1x512 ![2] bcast_S512_S1x1x512_2 a)))
    (broadcastInDim S4x2048x512 ![0, 1, 2] bcast_S1x1x512_S4x2048x512_0_1_2 (broadcastInDim S1x1x512 ![2] bcast_S512_S1x1x512_2 e))

theorem rN_at (v : FVec Ideal S4x2048x512 .f32) (a e : FVec Ideal S512 .f32) (y : S4x2048x512.Idx) :
    rN v a e y = (v y - Sgu.mean fun k => v (ix3 (y 0) (y 1) k)) * Sgu.rstd (fun k => v (ix3 (y 0) (y 1) k)) * a (ix1 (y 2)) + e (ix1 (y 2)) := by
  pointwise [rN, rM_at, Sgu.rstd]

/-- The masked weights. -/
def rW (w : FVec Ideal S1x4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ w shapeCasts_S1x4x128x128_S4x128x128) (broadcastInDim S4x128x128 ![] bcast_S_S4x128x128 (constant S_ .f32 0x00000000#32))

theorem rW_at (w : FVec Ideal S1x4x128x128 .f32) (y : S4x128x128.Idx) : rW w y = Sgu.upTo (y 1) (y 2) (w (ix4 0 (y 0) (y 1) (y 2))) := by
  pointwise [rW]
  have h : ∀ t s : Fin 128, Scalar.select (IntOp.cmpi .sge (IntOp.addi (BitVec.ofNat 32 t.val) 0#32) (BitVec.ofNat 32 s.val)) 1#1 0#1
      = IntOp.cmpi .sle (BitVec.ofNat 32 s.val) (BitVec.ofNat 32 t.val) := by decide +kernel
  exact congrArg (fun p => Scalar.select p _ _) (h (y 1) (y 2))

/-- The mixing. -/
def rX (v : FVec Ideal S4x2048x512 .f32) (w : FVec Ideal S4x128x128 .f32) (b : FVec Ideal S1x4x128 .f32) : FVec Ideal S4x2048x512 .f32 :=
  shapeCast _ (addf (transpose S4x16x128x4x128 [1, 2, 4, 0, 3] (Host.dotGeneral dot_S4x16x128x4x128_S4x128x128_S4x4x16x128x128_2_2_014_1_3_0 none (shapeCast S4x16x128x4x128 v shapeCasts_S4x2048x512_S4x16x128x4x128) w) transposes_S4x4x16x128x128_S4x16x128x4x128_1_2_4_0_3)
    (broadcastInDim S4x16x128x4x128 ![0, 1, 2, 3, 4] bcast_S1x1x128x4x1_S4x16x128x4x128_0_1_2_3_4 (broadcastInDim S1x1x128x4x1 ![2, 3] bcast_S128x4_S1x1x128x4x1_2_3 (transpose S128x4 [1, 0] (shapeCast _ b shapeCasts_S1x4x128_S4x128) transposes_S4x128_S128x4_1_0)))) shapeCasts_S4x16x128x4x128_S4x2048x512

theorem rX_at (v : FVec Ideal S4x2048x512 .f32) (w : FVec Ideal S4x128x128 .f32) (b : FVec Ideal S1x4x128 .f32) (y : S4x2048x512.Idx) : rX v w b y
    = (∑ s : Fin 128, v (ix3 (y 0) ⟨(y 1).val / 128 * 128 + s.val, by have := (y 1).isLt; have := s.isLt; simp at *; omega⟩ (y 2)) * w (ix3 ⟨(y 2).val / 128, by have := (y 2).isLt; simp at *; omega⟩ ⟨(y 1).val % 128, Nat.mod_lt _ (by decide)⟩ s))
      + b (ix3 0 ⟨(y 2).val / 128, by have := (y 2).isLt; simp at *; omega⟩ ⟨(y 1).val % 128, Nat.mod_lt _ (by decide)⟩) := by
  pointwise [rX]

/-- The reference's result. -/
def ref (z : FVec Ideal S8192x1024 .f32) (w : FVec Ideal S1x4x128x128 .f32) (b : FVec Ideal S1x4x128 .f32) (a e : FVec Ideal S512 .f32) : FVec Ideal S8192x512 .bf16 :=
  truncf .bf16 (shapeCast _ (mulf (extractStridedSlice S4x2048x512 ![0, 0, 0] (rG z) slices_S4x2048x1024_S4x2048x512_0_0_0)
    (rX (rN (extractStridedSlice S4x2048x512 ![0, 0, 512] (rG z) slices_S4x2048x1024_S4x2048x512_0_0_512) a e) (rW w) b)) shapeCasts_S4x2048x512_S8192x512) bitsLt_bf16_f32

/-- A masked weight times a row. -/
theorem mul_upTo (t s : Fin 128) (x y : EReal) : x * Sgu.upTo t s y = Sgu.upTo t s (y * x) := by
  unfold Sgu.upTo Scalar.select
  split
  · exact mul_comm _ _
  · exact mul_zero _

theorem eq (z : FVec Ideal S8192x1024 .f32) (w : FVec Ideal S1x4x128x128 .f32) (b : FVec Ideal S1x4x128 .f32) (a e : FVec Ideal S512 .f32) : ref z w b a e = arr z w b a e := by
  funext j
  unfold arr Sgu.chunk Sgu.mixed Sgu.vn Sgu.right
  have q0 : (j 0).val / 2048 * 2048 + (j 0).val % 2048 = (j 0).val / 128 * 128 + (j 0).val % 128 := by omega
  have q1 : (j 0).val % 2048 % 128 = (j 0).val % 128 := by omega
  have q2 : ∀ x, (j 0).val / 2048 * 2048 + ((j 0).val % 2048 / 128 * 128 + x) = (j 0).val / 128 * 128 + x := by omega
  pointwise [ref, rG_at, rX_at, rN_at, rW_at, mul_upTo]
  simp only [q0, q1, q2]

theorem ref_eq (m : (ℓ : Loc nD τ sig) → Buf (Elt Ideal) ℓ) (c : Dev nD) : Value.res_main_v57 (F := Ideal) m c = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.SguFwd.Reference
end
-- ==== Proof.SguBwdRuns.lean ====
/-
  `sgu_bwd`: what a grid point's body reads and stores, for the idealised program; the loop's pieces do not depend on what the
  buffers held before it.
-/
module

public import proofs.«01_k».proof.Proof.Gen.Kernel1Ideal.Frame.Runs

@[expose] public section

set_option maxRecDepth 16384

noncomputable section

namespace Cert.SguBwd

open Cert.Kernel1Ideal Cert.Kernel1Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What a trip writes does not depend on what the rows' gradient held before it: it is never read. -/
theorem trip_free (𝒱 : Variants) (c : Dev nD) (bd : Option 𝒱.V) (i : grid0.Coords) (arg1 : Memref sig .tc .vmem S2048x1024 .f32) (harg1 : arg1.IsWhole) (arg2 : Memref sig .tc .vmem S4x128x128 .f32) (harg2 : arg2.IsWhole) (arg3 : Memref sig .tc .vmem S128x4 .f32) (harg3 : arg3.IsWhole) (arg4 : Memref sig .tc .vmem S8x512 .f32) (harg4 : arg4.IsWhole) (arg5 : Memref sig .tc .vmem S2048x512 .f32) (harg5 : arg5.IsWhole) (arg6 : Memref sig .tc .vmem S2048x1024 .bf16) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S8x512 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
    (f f' : BufTy.Contents (Elt F) arg6.view.ty) (G_arg7 : BufTy.Contents (Elt F) arg7.view.ty) (G_arg8 : BufTy.Contents (Elt F) arg8.view.ty) (G_arg9 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 X_arg1 X_arg2 X_arg3 X_arg4 X_arg5 k f G_arg7 G_arg8 G_arg9 = tripL_k0_t1 (F := F) 𝒱 c bd i arg1 harg1 arg2 harg2 arg3 harg3 arg4 harg4 arg5 harg5 arg6 harg6 arg7 harg7 arg8 harg8 arg9 harg9 X_arg1 X_arg2 X_arg3 X_arg4 X_arg5 k f' G_arg7 G_arg8 G_arg9 := by
  unfold tripL_k0_t1 trip_k0_t1
  rfl

/-- Nor do the trips' writes together depend on what it held when the loop was entered. -/
theorem loop_free (𝒱 : Variants) (c : Dev nD) (bd : Option 𝒱.V) (i : grid0.Coords) (arg1 : Memref sig .tc .vmem S2048x1024 .f32) (harg1 : arg1.IsWhole) (arg2 : Memref sig .tc .vmem S4x128x128 .f32) (harg2 : arg2.IsWhole) (arg3 : Memref sig .tc .vmem S128x4 .f32) (harg3 : arg3.IsWhole) (arg4 : Memref sig .tc .vmem S8x512 .f32) (harg4 : arg4.IsWhole) (arg5 : Memref sig .tc .vmem S2048x512 .f32) (harg5 : arg5.IsWhole) (arg6 : Memref sig .tc .vmem S2048x1024 .bf16) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S8x512 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f f' : BufTy.Contents (Elt F) arg6.view.ty)
    (G_arg7 : BufTy.Contents (Elt F) arg7.view.ty) (G_arg8 : BufTy.Contents (Elt F) arg8.view.ty) (G_arg9 : BufTy.Contents (Elt F) arg9.view.ty) (n : ℕ) :
    pb_k0_t1 (F := F) 𝒱 c bd i arg1 harg1 arg2 harg2 arg3 harg3 arg4 harg4 arg5 harg5 arg6 harg6 arg7 harg7 arg8 harg8 arg9 harg9 X_arg1 X_arg2 X_arg3 X_arg4 X_arg5 f G_arg7 G_arg8 G_arg9 n = pb_k0_t1 (F := F) 𝒱 c bd i arg1 harg1 arg2 harg2 arg3 harg3 arg4 harg4 arg5 harg5 arg6 harg6 arg7 harg7 arg8 harg8 arg9 harg9 X_arg1 X_arg2 X_arg3 X_arg4 X_arg5 f' G_arg7 G_arg8 G_arg9 n := by
  induction n with
  | zero => rfl
  | succ n ih =>
    rw [pb_k0_t1.eq_2, pb_k0_t1.eq_2, ih]
    unfold pb_k0_t1Step
    split
    · rw [trip_free 𝒱 c bd i arg1 harg1 arg2 harg2 arg3 harg3 arg4 harg4 arg5 harg5 arg6 harg6 arg7 harg7 arg8 harg8 arg9 harg9 X_arg1 X_arg2 X_arg3 X_arg4 X_arg5 ⟨n, _⟩ _ (arg6.view.writes (Elt F) f' _)]
    · rfl

set_option maxHeartbeats 1000000 in
/-- The body at a later point, where the three sums go on from what they were: what it reads is as it was, and its
    stores are the listed pieces. -/
noncomputable def kernelRun0_B (c : Dev nD) (i : grid0.Coords) (arg1 : Memref sig .tc .vmem S2048x1024 .f32) (harg1 : arg1.IsWhole) (arg2 : Memref sig .tc .vmem S4x128x128 .f32) (harg2 : arg2.IsWhole) (arg3 : Memref sig .tc .vmem S128x4 .f32) (harg3 : arg3.IsWhole) (arg4 : Memref sig .tc .vmem S8x512 .f32) (harg4 : arg4.IsWhole) (arg5 : Memref sig .tc .vmem S2048x512 .f32) (harg5 : arg5.IsWhole) (arg6 : Memref sig .tc .vmem S2048x1024 .bf16) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S8x512 .f32) (harg9 : arg9.IsWhole) (hc0 : ¬cond0_0 i)
    (x0 : Vec F S2048x1024 .f32) (x1 : Vec F S4x128x128 .f32) (x2 : Vec F S128x4 .f32) (x3 : Vec F S8x512 .f32) (x4 : Vec F S2048x512 .f32) (xo6 : Vec F S4x128x128 .f32) (xo7 : Vec F S4x128x128 .f32) (xo8 : Vec F S8x512 .f32) :
    Σ' (L5 : List (View.Piece (Elt F) S2048x1024 .bf16)), Σ' (L6 : List (View.Piece (Elt F) S4x128x128 .f32)), Σ' (L7 : List (View.Piece (Elt F) S4x128x128 .f32)), { L8 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread xo8) L8)) -∗ K ⟨⟩))
          ⊢ wp frame (wpE (defs₀ (F := F)) Variants.none c none) E (cc0_sgu_bwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_sgu_bwd_eq_skeleton]; unfold cc0_sgu_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8
    sl_exec (disch := first | sl_exact hc0)
    sl_step
    rw [loop_free (f := f5) (f' := arg6.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexact H8

set_option maxHeartbeats 1000000 in
/-- The body at the first point, where the three sums are set to zero first: what it reads is as it was, and its
    stores are the listed pieces. -/
noncomputable def kernelRun0_A (c : Dev nD) (i : grid0.Coords) (arg1 : Memref sig .tc .vmem S2048x1024 .f32) (harg1 : arg1.IsWhole) (arg2 : Memref sig .tc .vmem S4x128x128 .f32) (harg2 : arg2.IsWhole) (arg3 : Memref sig .tc .vmem S128x4 .f32) (harg3 : arg3.IsWhole) (arg4 : Memref sig .tc .vmem S8x512 .f32) (harg4 : arg4.IsWhole) (arg5 : Memref sig .tc .vmem S2048x512 .f32) (harg5 : arg5.IsWhole) (arg6 : Memref sig .tc .vmem S2048x1024 .bf16) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S8x512 .f32) (harg9 : arg9.IsWhole) (hc0 : cond0_0 i)
    (x0 : Vec F S2048x1024 .f32) (x1 : Vec F S4x128x128 .f32) (x2 : Vec F S128x4 .f32) (x3 : Vec F S8x512 .f32) (x4 : Vec F S2048x512 .f32) :
    Σ' (L5 : List (View.Piece (Elt F) S2048x1024 .bf16)), Σ' (L6 : List (View.Piece (Elt F) S4x128x128 .f32)), Σ' (L7 : List (View.Piece (Elt F) S4x128x128 .f32)), { L8 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_sgu_bwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_sgu_bwd_eq_skeleton]; unfold cc0_sgu_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    rw [loop_free (f := f5) (f' := arg6.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact H8

end Cert.SguBwd

end
-- ==== Proof.SguBwdFrame.lean ====
/-
  `sgu_bwd`: the run of the idealised program over its grid, and that it leaves its arguments unchanged.
-/
module

public import proofs.«01_k».proof.Proof.SguBwdRuns
public import Idealize.ShloMosaic.Lib.Claim

@[expose] public section

set_option maxRecDepth 16384

noncomputable section

namespace Cert.SguBwd

open Cert.Kernel1Ideal Cert.Kernel1Ideal.Gen Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords) (arg1 : Memref sig .tc .vmem S2048x1024 .f32) (harg1 : arg1.IsWhole) (arg2 : Memref sig .tc .vmem S4x128x128 .f32) (harg2 : arg2.IsWhole) (arg3 : Memref sig .tc .vmem S128x4 .f32) (harg3 : arg3.IsWhole) (arg4 : Memref sig .tc .vmem S8x512 .f32) (harg4 : arg4.IsWhole) (arg5 : Memref sig .tc .vmem S2048x512 .f32) (harg5 : arg5.IsWhole) (arg6 : Memref sig .tc .vmem S2048x1024 .bf16) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S8x512 .f32) (harg9 : arg9.IsWhole)

/-- The stores of that result cover it. -/
theorem cover0_A_5 (hc0 : cond0_0 i)
    (x0 : Vec F S2048x1024 .f32) (x1 : Vec F S4x128x128 .f32) (x2 : Vec F S128x4 .f32) (x3 : Vec F S8x512 .f32) (x4 : Vec F S2048x512 .f32) (y : S2048x1024.Idx) :
    ∃ pc ∈ (kernelRun0_A c i arg1 harg1 arg2 harg2 arg3 harg3 arg4 harg4 arg5 harg5 arg6 harg6 arg7 harg7 arg8 harg8 arg9 harg9 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4).1 S128x1024.size (by sl_kernel_rfl) y

/-- What the body leaves in that result's buffer. -/
def out0_A_5 (hc0 : cond0_0 i)
    (x0 : Vec F S2048x1024 .f32) (x1 : Vec F S4x128x128 .f32) (x2 : Vec F S128x4 .f32) (x3 : Vec F S8x512 .f32) (x4 : Vec F S2048x512 .f32) : Vec F S2048x1024 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3 x4).1)

/-- The stores of that result cover it. -/
theorem cover0_A_6 (hc0 : cond0_0 i)
    (x0 : Vec F S2048x1024 .f32) (x1 : Vec F S4x128x128 .f32) (x2 : Vec F S128x4 .f32) (x3 : Vec F S8x512 .f32) (x4 : Vec F S2048x512 .f32) (y : S4x128x128.Idx) :
    ∃ pc ∈ (kernelRun0_A c i arg1 harg1 arg2 harg2 arg3 harg3 arg4 harg4 arg5 harg5 arg6 harg6 arg7 harg7 arg8 harg8 arg9 harg9 hc0 x0 x1 x2 x3 x4).2.1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3 x4).2.1 ![1, 128, 128] (by sl_kernel_rfl) y

/-- What the body leaves in that result's buffer. -/
def out0_A_6 (hc0 : cond0_0 i)
    (x0 : Vec F S2048x1024 .f32) (x1 : Vec F S4x128x128 .f32) (x2 : Vec F S128x4 .f32) (x3 : Vec F S8x512 .f32) (x4 : Vec F S2048x512 .f32) : Vec F S4x128x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4).2.1)

/-- The stores of that result cover it. -/
theorem cover0_A_7 (hc0 : cond0_0 i)
    (x0 : Vec F S2048x1024 .f32) (x1 : Vec F S4x128x128 .f32) (x2 : Vec F S128x4 .f32) (x3 : Vec F S8x512 .f32) (x4 : Vec F S2048x512 .f32) (y : S4x128x128.Idx) :
    ∃ pc ∈ (kernelRun0_A c i arg1 harg1 arg2 harg2 arg3 harg3 arg4 harg4 arg5 harg5 arg6 harg6 arg7 harg7 arg8 harg8 arg9 harg9 hc0 x0 x1 x2 x3 x4).2.2.1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3 x4).2.2.1 ![1, 128, 128] (by sl_kernel_rfl) y

/-- What the body leaves in that result's buffer. -/
def out0_A_7 (hc0 : cond0_0 i)
    (x0 : Vec F S2048x1024 .f32) (x1 : Vec F S4x128x128 .f32) (x2 : Vec F S128x4 .f32) (x3 : Vec F S8x512 .f32) (x4 : Vec F S2048x512 .f32) : Vec F S4x128x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4).2.2.1)

/-- The stores of that result cover it. -/
theorem cover0_A_8 (hc0 : cond0_0 i)
    (x0 : Vec F S2048x1024 .f32) (x1 : Vec F S4x128x128 .f32) (x2 : Vec F S128x4 .f32) (x3 : Vec F S8x512 .f32) (x4 : Vec F S2048x512 .f32) (y : S8x512.Idx) :
    ∃ pc ∈ (kernelRun0_A c i arg1 harg1 arg2 harg2 arg3 harg3 arg4 harg4 arg5 harg5 arg6 harg6 arg7 harg7 arg8 harg8 arg9 harg9 hc0 x0 x1 x2 x3 x4).2.2.2.1, y ∈ pc.1.set :=
  View.cover_of_tiledBy (kernelRun0_A c i arg1 harg1 arg2 harg2 arg3 harg3 arg4 harg4 arg5 harg5 arg6 harg6 arg7 harg7 arg8 harg8 arg9 harg9 hc0 x0 x1 x2 x3 x4).2.2.2.1 ![1, 512] (by sl_kernel_rfl) y

/-- What the body leaves in that result's buffer. -/
def out0_A_8 (hc0 : cond0_0 i)
    (x0 : Vec F S2048x1024 .f32) (x1 : Vec F S4x128x128 .f32) (x2 : Vec F S128x4 .f32) (x3 : Vec F S8x512 .f32) (x4 : Vec F S2048x512 .f32) : Vec F S8x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4).2.2.2.1)

/-- The stores of that result cover it. -/
theorem cover0_B_5 (hc0 : ¬cond0_0 i)
    (x0 : Vec F S2048x1024 .f32) (x1 : Vec F S4x128x128 .f32) (x2 : Vec F S128x4 .f32) (x3 : Vec F S8x512 .f32) (x4 : Vec F S2048x512 .f32) (xo6 : Vec F S4x128x128 .f32) (xo7 : Vec F S4x128x128 .f32) (xo8 : Vec F S8x512 .f32) (y : S2048x1024.Idx) :
    ∃ pc ∈ (kernelRun0_B c i arg1 harg1 arg2 harg2 arg3 harg3 arg4 harg4 arg5 harg5 arg6 harg6 arg7 harg7 arg8 harg8 arg9 harg9 hc0 x0 x1 x2 x3 x4 xo6 xo7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 xo6 xo7 xo8).1 S128x1024.size (by sl_kernel_rfl) y

/-- What the body leaves in that result's buffer. -/
def out0_B_5 (hc0 : ¬cond0_0 i)
    (x0 : Vec F S2048x1024 .f32) (x1 : Vec F S4x128x128 .f32) (x2 : Vec F S128x4 .f32) (x3 : Vec F S8x512 .f32) (x4 : Vec F S2048x512 .f32) (xo6 : Vec F S4x128x128 .f32) (xo7 : Vec F S4x128x128 .f32) (xo8 : Vec F S8x512 .f32) : Vec F S2048x1024 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 x4 xo6 xo7 xo8).1)

/-- The stores of that result cover it. -/
theorem cover0_B_6 (hc0 : ¬cond0_0 i)
    (x0 : Vec F S2048x1024 .f32) (x1 : Vec F S4x128x128 .f32) (x2 : Vec F S128x4 .f32) (x3 : Vec F S8x512 .f32) (x4 : Vec F S2048x512 .f32) (xo6 : Vec F S4x128x128 .f32) (xo7 : Vec F S4x128x128 .f32) (xo8 : Vec F S8x512 .f32) (y : S4x128x128.Idx) :
    ∃ pc ∈ (kernelRun0_B c i arg1 harg1 arg2 harg2 arg3 harg3 arg4 harg4 arg5 harg5 arg6 harg6 arg7 harg7 arg8 harg8 arg9 harg9 hc0 x0 x1 x2 x3 x4 xo6 xo7 xo8).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 xo6 xo7 xo8).2.1 S1x128x128.size (by sl_kernel_rfl) y

/-- What the body leaves in that result's buffer. -/
def out0_B_6 (hc0 : ¬cond0_0 i)
    (x0 : Vec F S2048x1024 .f32) (x1 : Vec F S4x128x128 .f32) (x2 : Vec F S128x4 .f32) (x3 : Vec F S8x512 .f32) (x4 : Vec F S2048x512 .f32) (xo6 : Vec F S4x128x128 .f32) (xo7 : Vec F S4x128x128 .f32) (xo8 : Vec F S8x512 .f32) : Vec F S4x128x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 xo6 xo7 xo8).2.1)

/-- The stores of that result cover it. -/
theorem cover0_B_7 (hc0 : ¬cond0_0 i)
    (x0 : Vec F S2048x1024 .f32) (x1 : Vec F S4x128x128 .f32) (x2 : Vec F S128x4 .f32) (x3 : Vec F S8x512 .f32) (x4 : Vec F S2048x512 .f32) (xo6 : Vec F S4x128x128 .f32) (xo7 : Vec F S4x128x128 .f32) (xo8 : Vec F S8x512 .f32) (y : S4x128x128.Idx) :
    ∃ pc ∈ (kernelRun0_B c i arg1 harg1 arg2 harg2 arg3 harg3 arg4 harg4 arg5 harg5 arg6 harg6 arg7 harg7 arg8 harg8 arg9 harg9 hc0 x0 x1 x2 x3 x4 xo6 xo7 xo8).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 xo6 xo7 xo8).2.2.1 S1x128x128.size (by sl_kernel_rfl) y

/-- What the body leaves in that result's buffer. -/
def out0_B_7 (hc0 : ¬cond0_0 i)
    (x0 : Vec F S2048x1024 .f32) (x1 : Vec F S4x128x128 .f32) (x2 : Vec F S128x4 .f32) (x3 : Vec F S8x512 .f32) (x4 : Vec F S2048x512 .f32) (xo6 : Vec F S4x128x128 .f32) (xo7 : Vec F S4x128x128 .f32) (xo8 : Vec F S8x512 .f32) : Vec F S4x128x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 xo6 xo7 xo8).2.2.1)

/-- What the body leaves in that result's buffer. -/
def out0_B_8 (hc0 : ¬cond0_0 i)
    (x0 : Vec F S2048x1024 .f32) (x1 : Vec F S4x128x128 .f32) (x2 : Vec F S128x4 .f32) (x3 : Vec F S8x512 .f32) (x4 : Vec F S2048x512 .f32) (xo6 : Vec F S4x128x128 .f32) (xo7 : Vec F S4x128x128 .f32) (xo8 : Vec F S8x512 .f32) : Vec F S8x512 .f32 :=
  arg9.view.read (Elt F) (arg9.view.writes (Elt F) (harg9.unread xo8) (kernelRun0_B c i arg1 harg1 arg2 harg2 arg3 harg3 arg4 harg4 arg5 harg5 arg6 harg6 arg7 harg7 arg8 harg8 arg9 harg9 hc0 x0 x1 x2 x3 x4 xo6 xo7 xo8).2.2.2.1)

end

variable (m : (ℓ : Loc nD τ sig) → Buf (Elt F) ℓ) (ρ : Dev nD → PrngReg)
/-- What the results' buffers hold after each point: the three sums go on from the point before. -/
def outsAt0 (c : Dev nD) : (n : ℕ) → n < cfg0.N → Vec F S2048x1024 .bf16 × Vec F S4x128x128 .f32 × Vec F S4x128x128 .f32 × Vec F S8x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2)

/-- At the first point. -/
theorem outsAt0_A (c : Dev nD) (t : Fin cfg0.N) (h0 : t.val % 4 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- At a later point. -/
theorem outsAt0_B (c : Dev nD) (t : Fin cfg0.N) (h0 : ¬t.val % 4 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The proof data: arrays as the region finds them, inputs at their blocks, results at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2
  Φ _ := Pipeline.ΦA spec0 c
  q _ := fullShare
  owed _ := 0

/-- The arrays are the region's. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2 := by dsimp only [dats]

/-- Each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- A sum's buffer holds what the point before left. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.1 := by
  have hN : t.val < 4 := lt_of_lt_of_eq t.isLt (show cfg0.N = 4 from N_0)
  rw [Dat.before_out_kept _ 6 rfl t (by omega) (Bool.eq_false_iff.mpr fun h => by have := (flush0_6 _).mp h; dsimp only at this; omega)
    (fun _ => rfl) (fun _ _ => rfl)]
  dsimp only [dats]
/-- A sum's buffer holds what the point before left. -/
theorem before0_7_B (c : Dev nD) (t : Fin cfg0.N) (h0 : ¬t.val % 4 = 0) (d) :
    (dats m 0 c).before 7 t d = (outsAt0 m c (t.val - 1) (Nat.lt_of_le_of_lt (Nat.sub_le _ _) t.isLt)).2.2.1 := by
  have hN : t.val < 4 := lt_of_lt_of_eq t.isLt (show cfg0.N = 4 from N_0)
  rw [Dat.before_out_kept _ 7 rfl t (by omega) (Bool.eq_false_iff.mpr fun h => by have := (flush0_7 _).mp h; dsimp only at this; omega)
    (fun _ => rfl) (fun _ _ => rfl)]
  dsimp only [dats]
/-- A sum's buffer holds what the point before left. -/
theorem before0_8_B (c : Dev nD) (t : Fin cfg0.N) (h0 : ¬t.val % 4 = 0) (d) :
    (dats m 0 c).before 8 t d = (outsAt0 m c (t.val - 1) (Nat.lt_of_le_of_lt (Nat.sub_le _ _) t.isLt)).2.2.2 := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dats]

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 4 := lt_of_lt_of_eq t.isLt (show cfg0.N = 4 from N_0)
  by_cases h0 : t.val % 4 = 0
  · rw [outsAt0_A m c t h0]
    unfold out0_A_5 out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _)
  · rw [outsAt0_B m c t h0]
    simp only [before0_6_B m c t h0, before0_7_B m c t h0, before0_8_B m c t h0]
    unfold out0_B_5 out0_B_6 out0_B_7 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    iintro ⟨H0, H1, H2, H3, H4, ⟨%e5, H5⟩, ⟨%e6, H6⟩, ⟨%e7, H7⟩, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _)
    unfold owns; iexists _; isplitr
    swap; · iexact H8
    ipureintro; rfl

/-- The table's row is the body. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
/-- The run, with every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.SguBwd

end
-- ==== Proof.SguGrad.lean ====
/-
  The spatial gating unit's derivative, one chunk of 128 rows at a time, as a kernel computes it; and the same numbers in the
  spelling the chain rule gives: the layer norm's derivative with its variance and mean taken apart, and the smooth gate's
  derivative as products of `1 + T` and `1 - T`. The two agree where the arguments are real numbers.
-/
module

public import proofs.«01_k».proof.Proof.Sgu
public import proofs.«01_k».proof.Proof.Reals

@[expose] public section

noncomputable section

namespace Cert.Sgu

open Idealize.ShloMosaic Idealize.ShloMosaic.TcCoe

/-- The hyperbolic tangent inside the gate. -/
def tan (c x : EReal) : EReal := Ideal.tanh (Ideal.ofBits .f32 0x3F4C422A#32 * (x + c * (x * x * x)))

/-- The gate's derivative, `d` the derivative's factor of the squared argument. -/
def slope (c d x : EReal) : EReal :=
  Ideal.ofBits .f32 0x3F000000#32 * (1 + tan c x)
    + Ideal.ofBits .f32 0x3F000000#32 * x * (1 - tan c x * tan c x) * (Ideal.ofBits .f32 0x3F4C422A#32 * (1 + d * x * x))

/-- A row less its mean, over its deviation. -/
def normed (f : Fin 512 → EReal) (j : Fin 512) : EReal := (f j - mean f) * rstd f

/-- The layer norm's derivative at a row `f`, applied to `g`. -/
def back (f g : Fin 512 → EReal) (j : Fin 512) : EReal :=
  rstd f * (g j - mean g - normed f j * Ideal.div (∑ k, g k * normed f k) (Ideal.ofBits .f32 0x44000000#32))

/-- What reaches the normalised rows through the mixing, scaled. -/
def scaled (c : EReal) (Z : Fin 128 → Fin 1024 → EReal) (w : Fin 4 → Fin 128 → Fin 128 → EReal) (a : Fin 512 → EReal)
    (D : Fin 128 → Fin 512 → EReal) (t : Fin 128) (j : Fin 512) : EReal :=
  (∑ s, upTo s t (w ⟨j.val / 128, by omega⟩ s t * (D s j * gelu c (Z s ⟨j.val, lt_of_lt_of_le j.isLt (by decide)⟩)))) * a j

/-- The derivative at the gated rows: the left half by the mixed rows, the right half through the norm. -/
def gated (c : EReal) (Z : Fin 128 → Fin 1024 → EReal) (w : Fin 4 → Fin 128 → Fin 128 → EReal) (b : Fin 4 → Fin 128 → EReal)
    (a e : Fin 512 → EReal) (D : Fin 128 → Fin 512 → EReal) (t : Fin 128) (j : Fin 1024) : EReal :=
  if h : j.val < 512 then
    D t ⟨j.val, h⟩ * mixed c Z (w ⟨j.val / 128, by omega⟩) (b ⟨j.val / 128, by omega⟩) a e t ⟨j.val, h⟩
  else back (right c (Z t)) (scaled c Z w a D t) ⟨j.val - 512, by omega⟩

/-- The derivative at the rows. -/
def grad (c d : EReal) (Z : Fin 128 → Fin 1024 → EReal) (w : Fin 4 → Fin 128 → Fin 128 → EReal) (b : Fin 4 → Fin 128 → EReal)
    (a e : Fin 512 → EReal) (D : Fin 128 → Fin 512 → EReal) (t : Fin 128) (j : Fin 1024) : EReal :=
  gated c Z w b a e D t j * slope c d (Z t j)

/-! The constants. -/

theorem width : Ideal.ofBits .f32 0x44000000#32 = ((512 : ℝ) : EReal) := by
  simp [Ideal.ofBits, Ideal.ieee, -EReal.coe_mul]; norm_num

theorem small : ∃ r : ℝ, 0 < r ∧ Ideal.ofBits .f32 0x3727C5AC#32 = (r : EReal) := by
  refine ⟨_, ?_, by simp [Ideal.ofBits, Ideal.ieee, -EReal.coe_mul]; rfl⟩
  norm_num

theorem root : ∃ r : ℝ, Ideal.ofBits .f32 0x3F4C422A#32 = (r : EReal) :=
  ⟨_, by simp [Ideal.ofBits, Ideal.ieee, -EReal.coe_mul]; rfl⟩

theorem minus_half : Ideal.ofBits .f32 0xBF000000#32 = ((-(1 / 2) : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem three : Ideal.ofBits .f32 0x40400000#32 = ((3 : ℝ) : EReal) := by
  simp [Ideal.ofBits, Ideal.ieee, -EReal.coe_mul]; norm_num

/-! Reals in, reals out. -/

theorem mean_coe (f : Fin 512 → ℝ) : mean (fun k => (f k : EReal)) = (((∑ k, f k) * (1 / 512) : ℝ) : EReal) := by
  unfold mean
  rw [width, Reals.coe_sum_univ, Ideal.div_coe (by norm_num), ← EReal.coe_mul]

/-- The reciprocal deviation of a row of reals is the inverse root of a positive real. -/
theorem rstd_coe (f : Fin 512 → ℝ) : ∃ q : ℝ, 0 < q
    ∧ mean (fun k => ((f k : EReal) - mean fun k => (f k : EReal)) * ((f k : EReal) - mean fun k => (f k : EReal))) + Ideal.ofBits .f32 0x3727C5AC#32 = (q : EReal)
    ∧ rstd (fun k => (f k : EReal)) = (((Real.sqrt q)⁻¹ : ℝ) : EReal) := by
  obtain ⟨e, he, he'⟩ := small
  have h : mean (fun k => ((f k : EReal) - mean fun k => (f k : EReal)) * ((f k : EReal) - mean fun k => (f k : EReal))) + Ideal.ofBits .f32 0x3727C5AC#32
      = (((∑ k, (f k - (∑ k, f k) * (1 / 512)) * (f k - (∑ k, f k) * (1 / 512))) * (1 / 512) + e : ℝ) : EReal) := by
    rw [mean_coe, he']
    simp only [← EReal.coe_sub, ← EReal.coe_mul]
    rw [mean_coe, ← EReal.coe_add]
  have hq : 0 < (∑ k, (f k - (∑ k, f k) * (1 / 512)) * (f k - (∑ k, f k) * (1 / 512))) * (1 / 512) + e := by
    have : 0 ≤ ∑ k, (f k - (∑ k, f k) * (1 / 512)) * (f k - (∑ k, f k) * (1 / 512)) := Finset.sum_nonneg fun k _ => mul_self_nonneg _
    positivity
  refine ⟨_, hq, h, ?_⟩
  unfold rstd
  rw [h, Ideal.rsqrt_coe, if_neg (not_lt.2 hq.le), if_neg hq.ne']

theorem tan_coe (c : ℝ) (x : ℝ) : ∃ r : ℝ, tan c x = (r : EReal) := by
  obtain ⟨c0, h0⟩ := root
  unfold tan
  rw [h0]
  simp only [← EReal.coe_mul, ← EReal.coe_add]
  exact ⟨_, Ideal.tanh_coe _⟩

theorem gelu_coe (c : ℝ) (x : ℝ) : ∃ r : ℝ, gelu c x = (r : EReal) := by
  obtain ⟨T, hT⟩ := tan_coe c x
  unfold tan at hT
  unfold gelu
  rw [hT, Reals.half_f32, ← EReal.coe_one]
  simp only [← EReal.coe_mul, ← EReal.coe_add]
  exact ⟨_, rfl⟩

theorem right_coe (c : ℝ) (z : Fin 1024 → ℝ) : ∃ f : Fin 512 → ℝ, right c (fun k => (z k : EReal)) = fun k => (f k : EReal) := by
  choose f hf using fun k : Fin 512 => gelu_coe c (z ⟨512 + k.val, Nat.add_lt_add_left k.isLt 512⟩)
  exact ⟨f, funext hf⟩

theorem upTo_coe (t s : Fin 128) (x : ℝ) : ∃ r : ℝ, upTo t s (x : EReal) = (r : EReal) := by
  unfold upTo Scalar.select
  split
  · exact ⟨x, rfl⟩
  · exact ⟨0, rfl⟩

theorem normed_coe (f : Fin 512 → ℝ) (j : Fin 512) : ∃ r : ℝ, normed (fun k => (f k : EReal)) j = (r : EReal) := by
  obtain ⟨q, _, _, h⟩ := rstd_coe f
  unfold normed
  rw [h, mean_coe, ← EReal.coe_sub, ← EReal.coe_mul]
  exact ⟨_, rfl⟩

theorem mixed_coe (c : ℝ) (Z : Fin 128 → Fin 1024 → ℝ) (w : Fin 128 → Fin 128 → ℝ) (b : Fin 128 → ℝ) (a e : Fin 512 → ℝ) (t : Fin 128) (j : Fin 512) :
    ∃ r : ℝ, mixed c (fun t k => (Z t k : EReal)) (fun t s => (w t s : EReal)) (fun t => (b t : EReal)) (fun k => (a k : EReal)) (fun k => (e k : EReal)) t j = (r : EReal) := by
  have h : ∀ s : Fin 128, ∃ r : ℝ, upTo t s ((w t s : EReal) * vn c (fun k => (Z s k : EReal)) (fun k => (a k : EReal)) (fun k => (e k : EReal)) j) = (r : EReal) := by
    intro s
    obtain ⟨f, hf⟩ := right_coe c (Z s)
    obtain ⟨n, hn⟩ := normed_coe f j
    unfold normed at hn
    unfold vn
    rw [hf, hn, ← EReal.coe_mul, ← EReal.coe_add, ← EReal.coe_mul]
    exact upTo_coe t s _
  choose r hr using h
  unfold mixed
  simp only [hr]
  rw [Reals.coe_sum_univ, ← EReal.coe_add]
  exact ⟨_, rfl⟩

theorem scaled_coe (c : ℝ) (Z : Fin 128 → Fin 1024 → ℝ) (w : Fin 4 → Fin 128 → Fin 128 → ℝ) (a : Fin 512 → ℝ) (D : Fin 128 → Fin 512 → ℝ) (t : Fin 128) :
    ∃ g : Fin 512 → ℝ, scaled c (fun t k => (Z t k : EReal)) (fun g t s => (w g t s : EReal)) (fun k => (a k : EReal)) (fun t k => (D t k : EReal)) t = fun k => (g k : EReal) := by
  have h : ∀ j : Fin 512, ∀ s : Fin 128, ∃ r : ℝ, upTo s t ((w ⟨j.val / 128, by omega⟩ s t : EReal) * ((D s j : EReal) * gelu c (Z s ⟨j.val, lt_of_lt_of_le j.isLt (by decide)⟩ : EReal))) = (r : EReal) := by
    intro j s
    obtain ⟨u, hu⟩ := gelu_coe c (Z s ⟨j.val, lt_of_lt_of_le j.isLt (by decide)⟩)
    rw [hu, ← EReal.coe_mul, ← EReal.coe_mul]
    exact upTo_coe s t _
  choose r hr using h
  refine ⟨fun j => (∑ s, r j s) * a j, funext fun j => ?_⟩
  unfold scaled
  simp only [hr]
  rw [Reals.coe_sum_univ, ← EReal.coe_mul]

/-- The layer norm's derivative, as the chain rule through the variance and the mean spells it. -/
def chain (f g : Fin 512 → EReal) (q : EReal) (j : Fin 512) : EReal :=
  let r := Ideal.rsqrt q
  let v := Ideal.div ((∑ k, (f k - mean f) * g k) * (Ideal.ofBits .f32 0xBF000000#32 * Ideal.div r q)) (Ideal.ofBits .f32 0x44000000#32)
  g j * r + v * (Ideal.ofBits .f32 0x40000000#32 * (f j - mean f))
    + Ideal.div ((∑ k, -(g k * r)) + ∑ k, -(v * (Ideal.ofBits .f32 0x40000000#32 * (f k - mean f)))) (Ideal.ofBits .f32 0x44000000#32)

theorem chain_eq (f g : Fin 512 → ℝ) (j : Fin 512) :
    chain (fun k => (f k : EReal)) (fun k => (g k : EReal)) (mean (fun k => ((f k : EReal) - mean fun k => (f k : EReal)) * ((f k : EReal) - mean fun k => (f k : EReal))) + Ideal.ofBits .f32 0x3727C5AC#32) j
      = back (fun k => (f k : EReal)) (fun k => (g k : EReal)) j := by
  obtain ⟨q, hq, h1, h2⟩ := rstd_coe f
  unfold chain back normed
  rw [h1, h2, Ideal.rsqrt_coe, if_neg (not_lt.2 hq.le), if_neg hq.ne', minus_half, two, width, mean_coe, mean_coe]
  dsimp only
  rw [Ideal.div_coe hq.ne']
  simp only [← EReal.coe_sub, ← EReal.coe_mul, ← EReal.coe_neg, Reals.coe_sum_univ, Ideal.div_coe (show (512 : ℝ) ≠ 0 by norm_num), ← EReal.coe_add]
  congr 1
  have hs : (Real.sqrt q)⁻¹ * (Real.sqrt q)⁻¹ = 1 / q := by rw [← mul_inv, Real.mul_self_sqrt hq.le, one_div]
  have hf : ∑ k, (f k - (∑ k, f k) * (1 / 512)) = 0 := by
    rw [Finset.sum_sub_distrib, Finset.sum_const, Finset.card_univ, Fintype.card_fin, nsmul_eq_mul]
    push_cast
    ring
  generalize hμ : (∑ k, f k) * (1 / 512) = μ at *
  generalize (Real.sqrt q)⁻¹ = r at *
  rw [← hs]
  have e1 : ∑ k, -(g k * r) = -((∑ k, g k) * r) := by rw [Finset.sum_neg_distrib, Finset.sum_mul]
  have e2 : ∀ v : ℝ, ∑ k, -(v * (2 * (f k - μ))) = 0 := by
    intro v
    rw [Finset.sum_neg_distrib, ← Finset.mul_sum, ← Finset.mul_sum, hf]
    ring
  have e3 : ∑ k, g k * ((f k - μ) * r) = (∑ k, (f k - μ) * g k) * r := by
    rw [Finset.sum_mul]
    exact Finset.sum_congr rfl fun k _ => by ring
  rw [e1, e2, e3]
  generalize ∑ k, (f k - μ) * g k = S
  generalize ∑ k, g k = G
  ring

/-! The gate with its cubic term's factor spelled as a quotient of whole numbers. -/

/-- The factor, and three times it. -/
abbrev c1 : EReal := ((8943 / 200000 : ℝ) : EReal)
abbrev c3 : EReal := ((26829 / 200000 : ℝ) : EReal)

theorem upper : Ideal.ofBits .f32 0x472EAB00#32 = ((44715 : ℝ) : EReal) := by
  simp [Ideal.ofBits, Ideal.ieee, -EReal.coe_mul]; norm_num

theorem lower : Ideal.ofBits .f32 0x49742400#32 = ((1000000 : ℝ) : EReal) := by
  simp [Ideal.ofBits, Ideal.ieee, -EReal.coe_mul]; norm_num

def tanQ (x : EReal) : EReal :=
  Ideal.tanh (Ideal.ofBits .f32 0x3F4C422A#32 * (x + Ideal.div (Ideal.ofBits .f32 0x472EAB00#32 * (x * x * x)) (Ideal.ofBits .f32 0x49742400#32)))

def geluQ (x : EReal) : EReal := x * (Ideal.ofBits .f32 0x3F000000#32 * (1 + tanQ x))

theorem tanQ_eq (x : ℝ) : tanQ x = tan c1 x := by
  unfold tanQ tan c1
  rw [upper, lower, Ideal.div_coe (by norm_num)]
  simp only [← EReal.coe_mul, ← EReal.coe_add]
  congr 4
  ring

theorem geluQ_eq (x : ℝ) : geluQ x = gelu c1 x := by
  unfold geluQ
  rw [tanQ_eq]
  rfl

/-- The smooth gate's derivative, as the chain rule spells it, applied to `g`. -/
def gateChain (x g : EReal) : EReal :=
  let p := Ideal.ofBits .f32 0x3F4C422A#32 * (Ideal.ofBits .f32 0x3F000000#32 * (x * g) * ((1 + tanQ x) * (1 - tanQ x)))
  g * (Ideal.ofBits .f32 0x3F000000#32 * (1 + tanQ x)) + p
    + Ideal.ofBits .f32 0x472EAB00#32 * Ideal.div p (Ideal.ofBits .f32 0x49742400#32) * (Ideal.ofBits .f32 0x40400000#32 * (x * x))

theorem gateChain_eq (x g : ℝ) : gateChain x g = (g : EReal) * slope c1 c3 x := by
  obtain ⟨T, hT⟩ := tan_coe (8943 / 200000) x
  obtain ⟨c0, h0⟩ := root
  unfold gateChain slope
  rw [tanQ_eq, hT, h0, three, upper, lower, Reals.half_f32]
  unfold c3
  dsimp only
  rw [Ideal.div_coe (by norm_num)]
  simp only [← EReal.coe_one, ← EReal.coe_mul, ← EReal.coe_add, ← EReal.coe_sub]
  congr 1
  ring

/-- So the whole derivative, where the arguments are reals. -/
theorem gated_coe (c : ℝ) (Z : Fin 128 → Fin 1024 → ℝ) (w : Fin 4 → Fin 128 → Fin 128 → ℝ) (b : Fin 4 → Fin 128 → ℝ)
    (a e : Fin 512 → ℝ) (D : Fin 128 → Fin 512 → ℝ) (t : Fin 128) (j : Fin 1024) :
    ∃ r : ℝ, gated c (fun t k => (Z t k : EReal)) (fun g t s => (w g t s : EReal)) (fun g t => (b g t : EReal)) (fun k => (a k : EReal)) (fun k => (e k : EReal)) (fun t k => (D t k : EReal)) t j = (r : EReal) := by
  unfold gated
  split
  · rename_i h
    obtain ⟨x, hx⟩ := mixed_coe c Z (w ⟨j.val / 128, by omega⟩) (b ⟨j.val / 128, by omega⟩) a e t ⟨j.val, h⟩
    rw [hx, ← EReal.coe_mul]
    exact ⟨_, rfl⟩
  · obtain ⟨f, hf⟩ := right_coe c (Z t)
    obtain ⟨g, hg⟩ := scaled_coe c Z w a D t
    rw [hf, hg]
    unfold back
    obtain ⟨q, _, _, h⟩ := rstd_coe f
    choose n hn using normed_coe f
    simp only [hn]
    rw [h, mean_coe, width, Ideal.div_coe (by norm_num)]
    simp only [← EReal.coe_mul, ← EReal.coe_sub, Reals.coe_sum_univ]
    exact ⟨_, rfl⟩

end Cert.Sgu

end
-- ==== Proof.SguBwd.lean ====
/-
  `sgu_bwd`: the gradient at the rows of the spatial gating unit. A grid point takes the 2048 rows of a sequence, sixteen chunks
  of 128 rows one after the other; a trip unmixes the gradient group by group, takes it through the layer norm and the smooth
  gate, and stores the chunk's rows.
-/
module
public import proofs.«01_k».proof.Proof.SguBwdFrame
public import proofs.«01_k».proof.Proof.SguGrad
public import proofs.«01_k».proof.Proof.Gen.Reference1Ideal
public import proofs.«01_k».proof.Proof.Gen.Reference1Ideal.Run
@[expose] public section
set_option maxRecDepth 16384
noncomputable section
namespace Cert.SguBwd
open Cert.Kernel1Ideal Cert.Kernel1Ideal.Gen Idealize.ShloMosaic Idealize.ShloMosaic.TcCoe Idealize.SL.Sem

/-- The cubic term's factor as the program names it. -/
abbrev cub : EReal := Named.named (F := Ideal) (φ := .f32) κ "gelu_c1" 0x3D372713#32

/-- Three times that, as the program names it. -/
abbrev cub3 : EReal := Named.named (F := Ideal) (φ := .f32) κ "gelu_3c1" 0x3E095D4F#32

theorem cub_eq : cub = Sgu.c1 := rfl

theorem cub3_eq : cub3 = Sgu.c3 := rfl

theorem left_at (z : Vec Ideal S128x1024 .f32) (y : S128x512.Idx) :
    k0_pay7 (F := Ideal) z y = Sgu.gelu cub (z (ix2 (y 0) ⟨(y 1).val, lt_of_lt_of_le (y 1).isLt (by decide)⟩)) := by
  open_payloads
  pointwise [Sgu.gelu]

theorem rstd_at (z : Vec Ideal S128x1024 .f32) (y : S128x1.Idx) :
    k0_pay9 (F := Ideal) z y = Sgu.rstd (Sgu.right cub fun k => z (ix2 (y 0) k)) := by
  open_payloads
  pointwise [Sgu.gelu, Sgu.right, Sgu.rstd, Sgu.mean]

theorem normed_at (z : Vec Ideal S128x1024 .f32) (y : S128x512.Idx) :
    k0_pay10 (F := Ideal) z y = Sgu.normed (Sgu.right cub fun k => z (ix2 (y 0) k)) (y 1) := by
  open_payloads
  pointwise [Sgu.gelu, Sgu.right, Sgu.rstd, Sgu.mean, Sgu.normed]

theorem norm_at (z : Vec Ideal S128x1024 .f32) (a e : Vec Ideal S1x512 .f32) (y : S128x512.Idx) :
    k0_pay11 (F := Ideal) z a e y = Sgu.vn cub (fun k => z (ix2 (y 0) k)) (fun k => a (ix2 0 k)) (fun k => e (ix2 0 k)) (y 1) := by
  open_payloads
  pointwise [Sgu.gelu, Sgu.vn, Sgu.right, Sgu.rstd, Sgu.mean]

section
variable (v : FVec Ideal S128x512 .bf16) (D : Vec Ideal S128x512 .f32) (w : Vec Ideal S1x128x128 .f32) (b : Vec Ideal S128x1 .f32) (y : S128x128.Idx)

abbrev mix (v : FVec Ideal S128x512 .bf16) (D : Vec Ideal S128x512 .f32) (w : Vec Ideal S1x128x128 .f32) (b : Vec Ideal S128x1 .f32)
    (t : Fin 128) (j : Fin 512) : EReal :=
  D (ix2 t j) * ((∑ s, Sgu.upTo t s (w (ix3 0 t s) * v (ix2 s j))) + b (ix2 t 0))

theorem mix0 : k0_pay13 (F := Ideal) k0_pay4 v D w b y = mix v D w b (y 0) ⟨(y 1).val, by have := (y 1).isLt; simp at this; omega⟩ := by
  open_payloads
  pointwise
theorem mix1 : k0_pay21 (F := Ideal) k0_pay4 v D w b y = mix v D w b (y 0) ⟨128 + (y 1).val, by have := (y 1).isLt; simp at this; omega⟩ := by
  open_payloads
  pointwise
theorem mix2 : k0_pay29 (F := Ideal) k0_pay4 v D w b y = mix v D w b (y 0) ⟨256 + (y 1).val, by have := (y 1).isLt; simp at this; omega⟩ := by
  open_payloads
  pointwise
theorem mix3 : k0_pay38 (F := Ideal) k0_pay4 v D w b y = mix v D w b (y 0) ⟨384 + (y 1).val, by have := (y 1).isLt; simp at this; omega⟩ := by
  open_payloads
  pointwise

abbrev unmix (u : FVec Ideal S128x512 .f32) (D : Vec Ideal S128x512 .f32) (w : Vec Ideal S1x128x128 .f32) (t : Fin 128) (j : Fin 512) : EReal :=
  ∑ s, Sgu.upTo s t (w (ix3 0 s t) * (D (ix2 s j) * u (ix2 s j)))
variable (u : FVec Ideal S128x512 .f32)
theorem unmix0 : k0_pay19 (F := Ideal) (k0_pay12 k0_pay4 w) (k0_pay16 u D) y = unmix u D w (y 0) ⟨(y 1).val, by have := (y 1).isLt; simp at this; omega⟩ := by
  open_payloads
  pointwise
theorem unmix1 : k0_pay27 (F := Ideal) (k0_pay20 k0_pay4 w) (k0_pay24 u D) y = unmix u D w (y 0) ⟨128 + (y 1).val, by have := (y 1).isLt; simp at this; omega⟩ := by
  open_payloads
  pointwise
theorem unmix2 : k0_pay36 (F := Ideal) (k0_pay28 k0_pay4 w) (k0_pay32 u D) y = unmix u D w (y 0) ⟨256 + (y 1).val, by have := (y 1).isLt; simp at this; omega⟩ := by
  open_payloads
  pointwise
end

/-- What reaches the normalised rows, scaled, from the four groups. -/
theorem joined_at (X : Fin 128 → Fin 512 → EReal) (p q r : FVec Ideal S128x128 .f32) (D : Vec Ideal S128x512 .f32) (w : Vec Ideal S1x128x128 .f32)
    (u : FVec Ideal S128x512 .f32) (a : Vec Ideal S1x512 .f32) (y : S128x512.Idx)
    (hp : ∀ t j : Fin 128, p (ix2 t j) = X t ⟨j.val, by omega⟩) (hq : ∀ t j : Fin 128, q (ix2 t j) = X t ⟨128 + j.val, by omega⟩)
    (hr : ∀ t j : Fin 128, r (ix2 t j) = X t ⟨256 + j.val, by omega⟩)
    (hw : ∀ t j : Fin 128, unmix u D w t ⟨384 + j.val, by omega⟩ = X t ⟨384 + j.val, by omega⟩) :
    k0_pay48 (F := Ideal) p q r (k0_pay37 k0_pay4 w) (k0_pay41 u D) a y = X (y 0) (y 1) * a (ix2 0 (y 1)) := by
  have h1 : (y 1).val < 512 := (y 1).isLt
  open_payloads
  pointwise
  refine congrArg (· * a (ix2 0 (y 1))) ?_
  by_cases h : (y 1).val < 128
  · exact (dif_pos h).trans (hp (y 0) ⟨(y 1).val, h⟩)
  refine (dif_neg h).trans ?_
  by_cases h' : (y 1).val - 128 < 128
  · exact (dif_pos h').trans <| (hq (y 0) ⟨(y 1).val - 128, h'⟩).trans (congrArg (X (y 0)) (Fin.ext (by show 128 + ((y 1).val - 128) = _; omega)))
  refine (dif_neg h').trans ?_
  by_cases h'' : (y 1).val - 128 - 128 < 128
  · exact (dif_pos h'').trans <| (hr (y 0) ⟨(y 1).val - 128 - 128, h''⟩).trans (congrArg (X (y 0)) (Fin.ext (by show 256 + ((y 1).val - 128 - 128) = _; omega)))
  · exact (dif_neg h'').trans <| (hw (y 0) ⟨(y 1).val - 128 - 128 - 128, by omega⟩).trans (congrArg (X (y 0)) (Fin.ext (by show 384 + ((y 1).val - 128 - 128 - 128) = _; omega)))

theorem centred_at (p q r : FVec Ideal S128x128 .f32) (wm dm : FVec Ideal S128x128 .bf16) (a : Vec Ideal S1x512 .f32) (y : S128x512.Idx) :
    k0_pay49 (F := Ideal) p q r wm dm a y = k0_pay48 p q r wm dm a y - Sgu.mean fun k => k0_pay48 p q r wm dm a (ix2 (y 0) k) := by
  unfold k0_pay49
  generalize k0_pay48 p q r wm dm a = X
  pointwise [Sgu.mean]

theorem against_at (n : FVec Ideal S128x512 .f32) (p q r : FVec Ideal S128x128 .f32) (wm dm : FVec Ideal S128x128 .bf16) (a : Vec Ideal S1x512 .f32) (y : S128x1.Idx) :
    k0_pay50 (F := Ideal) n p q r wm dm a y = ∑ k, k0_pay48 p q r wm dm a (ix2 (y 0) k) * n (ix2 (y 0) k) := by
  unfold k0_pay50
  generalize k0_pay48 p q r wm dm a = X
  pointwise

/-- What a trip stores, from the derivative at the gated rows. -/
theorem last_at (G : Fin 128 → Fin 1024 → EReal) (z : Vec Ideal S128x1024 .f32) (r : FVec Ideal S128x1 .f32) (n : FVec Ideal S128x512 .f32) (p0 p1 p2 p3 : FVec Ideal S128x128 .f32)
    (d : FVec Ideal S128x512 .f32) (s : FVec Ideal S128x1 .f32) (q : EReal) (y : S128x1024.Idx)
    (h0 : ∀ t j : Fin 128, p0 (ix2 t j) = G t ⟨j.val, by omega⟩) (h1 : ∀ t j : Fin 128, p1 (ix2 t j) = G t ⟨128 + j.val, by omega⟩)
    (h2 : ∀ t j : Fin 128, p2 (ix2 t j) = G t ⟨256 + j.val, by omega⟩) (h3 : ∀ t j : Fin 128, p3 (ix2 t j) = G t ⟨384 + j.val, by omega⟩)
    (h4 : ∀ (t : Fin 128) (j : Fin 512), r (ix2 t 0) * (d (ix2 t j) - n (ix2 t j) * Ideal.div (s (ix2 t 0)) q) = G t ⟨512 + j.val, by omega⟩) :
    k0_pay5 (F := Ideal) z r n p0 p1 p2 p3 d s q y = G (y 0) (y 1) * Sgu.slope cub cub3 (z y) := by
  have hy : (y 1).val < 1024 := (y 1).isLt
  open_payloads
  pointwise [Sgu.slope, Sgu.tan]
  refine congrArg (· * _) ?_
  by_cases e0 : (y 1).val < 128
  · exact (dif_pos e0).trans (h0 (y 0) ⟨(y 1).val, e0⟩)
  refine (dif_neg e0).trans ?_
  by_cases e1 : (y 1).val - 128 < 128
  · exact (dif_pos e1).trans <| (h1 (y 0) ⟨(y 1).val - 128, e1⟩).trans (congrArg (G (y 0)) (Fin.ext (by show 128 + ((y 1).val - 128) = _; omega)))
  refine (dif_neg e1).trans ?_
  by_cases e2 : (y 1).val - 128 - 128 < 128
  · exact (dif_pos e2).trans <| (h2 (y 0) ⟨(y 1).val - 128 - 128, e2⟩).trans (congrArg (G (y 0)) (Fin.ext (by show 256 + ((y 1).val - 128 - 128) = _; omega)))
  refine (dif_neg e2).trans ?_
  by_cases e3 : (y 1).val - 128 - 128 - 128 < 128
  · exact (dif_pos e3).trans <| (h3 (y 0) ⟨(y 1).val - 128 - 128 - 128, e3⟩).trans (congrArg (G (y 0)) (Fin.ext (by show 384 + ((y 1).val - 128 - 128 - 128) = _; omega)))
  · exact (dif_neg e3).trans <| (h4 (y 0) ⟨(y 1).val - 128 - 128 - 128 - 128, by omega⟩).trans (congrArg (G (y 0)) (Fin.ext (by show 512 + ((y 1).val - 128 - 128 - 128 - 128) = _; omega)))

/-- A trip's stored rows, from the pieces it loads. -/
theorem piece (z : Vec Ideal S128x1024 .f32) (D : Vec Ideal S128x512 .f32) (w0 w1 w2 w3 : Vec Ideal S1x128x128 .f32) (b0 b1 b2 b3 : Vec Ideal S128x1 .f32) (a e a' : Vec Ideal S1x512 .f32)
    (W : Fin 4 → Fin 128 → Fin 128 → EReal) (B : Fin 4 → Fin 128 → EReal) (A E : Fin 512 → EReal) (y : S128x1024.Idx)
    (hw0 : ∀ t s : Fin 128, w0 (ix3 0 t s) = W 0 t s) (hw1 : ∀ t s : Fin 128, w1 (ix3 0 t s) = W 1 t s) (hw2 : ∀ t s : Fin 128, w2 (ix3 0 t s) = W 2 t s) (hw3 : ∀ t s : Fin 128, w3 (ix3 0 t s) = W 3 t s)
    (hb0 : ∀ t : Fin 128, b0 (ix2 t 0) = B 0 t) (hb1 : ∀ t : Fin 128, b1 (ix2 t 0) = B 1 t) (hb2 : ∀ t : Fin 128, b2 (ix2 t 0) = B 2 t) (hb3 : ∀ t : Fin 128, b3 (ix2 t 0) = B 3 t)
    (ha : ∀ k : Fin 512, a (ix2 0 k) = A k) (he : ∀ k : Fin 512, e (ix2 0 k) = E k) (ha' : ∀ k : Fin 512, a' (ix2 0 k) = A k) :
    k0_pay5 (F := Ideal) z (k0_pay9 z) (k0_pay10 z) (k0_pay13 k0_pay4 (k0_pay11 z a e) D w0 b0) (k0_pay21 k0_pay4 (k0_pay11 z a e) D w1 b1)
        (k0_pay29 k0_pay4 (k0_pay11 z a e) D w2 b2) (k0_pay38 k0_pay4 (k0_pay11 z a e) D w3 b3)
        (k0_pay49 (k0_pay19 (k0_pay12 k0_pay4 w0) (k0_pay16 (k0_pay7 z) D)) (k0_pay27 (k0_pay20 k0_pay4 w1) (k0_pay24 (k0_pay7 z) D)) (k0_pay36 (k0_pay28 k0_pay4 w2) (k0_pay32 (k0_pay7 z) D)) (k0_pay37 k0_pay4 w3) (k0_pay41 (k0_pay7 z) D) a')
        (k0_pay50 (k0_pay10 z) (k0_pay19 (k0_pay12 k0_pay4 w0) (k0_pay16 (k0_pay7 z) D)) (k0_pay27 (k0_pay20 k0_pay4 w1) (k0_pay24 (k0_pay7 z) D)) (k0_pay36 (k0_pay28 k0_pay4 w2) (k0_pay32 (k0_pay7 z) D)) (k0_pay37 k0_pay4 w3) (k0_pay41 (k0_pay7 z) D) a')
        (Ideal.ofBits .f32 0x44000000#32) y
      = Sgu.gated cub (fun t k => z (ix2 t k)) W B A E (fun t k => D (ix2 t k)) (y 0) (y 1) * Sgu.slope cub cub3 (z y) := by
  have hmix : ∀ (w : Vec Ideal S1x128x128 .f32) (b : Vec Ideal S128x1 .f32) (g : Fin 4) (t : Fin 128) (j : Fin 1024) (h : j.val < 512) (hg : j.val / 128 = g.val)
      (hw : ∀ t s : Fin 128, w (ix3 0 t s) = W g t s) (hb : ∀ t : Fin 128, b (ix2 t 0) = B g t),
      mix (k0_pay11 z a e) D w b t ⟨j.val, h⟩ = Sgu.gated cub (fun t k => z (ix2 t k)) W B A E (fun t k => D (ix2 t k)) t j := by
    intro w b g t j h hg hw hb
    have e3 : (⟨j.val / 128, by omega⟩ : Fin 4) = g := Fin.ext hg
    unfold mix Sgu.gated Sgu.mixed
    rw [dif_pos h, e3]
    simp only [hw, hb, norm_at, ha, he]
    rfl
  have hun : ∀ (w : Vec Ideal S1x128x128 .f32) (g : Fin 4) (t : Fin 128) (j : Fin 512) (hg : j.val / 128 = g.val) (hw : ∀ t s : Fin 128, w (ix3 0 t s) = W g t s),
      unmix (k0_pay7 z) D w t j = ∑ s, Sgu.upTo s t (W ⟨j.val / 128, by omega⟩ s t * (D (ix2 s j) * Sgu.gelu cub (z (ix2 s ⟨j.val, lt_of_lt_of_le j.isLt (by decide)⟩)))) := by
    intro w g t j hg hw
    have e3 : (⟨j.val / 128, by omega⟩ : Fin 4) = g := Fin.ext hg
    unfold unmix
    rw [e3]
    simp only [hw, left_at]
    rfl
  have hX : ∀ y : S128x512.Idx, k0_pay48 (F := Ideal) (k0_pay19 (k0_pay12 k0_pay4 w0) (k0_pay16 (k0_pay7 z) D)) (k0_pay27 (k0_pay20 k0_pay4 w1) (k0_pay24 (k0_pay7 z) D)) (k0_pay36 (k0_pay28 k0_pay4 w2) (k0_pay32 (k0_pay7 z) D)) (k0_pay37 k0_pay4 w3) (k0_pay41 (k0_pay7 z) D) a' y
      = Sgu.scaled cub (fun t k => z (ix2 t k)) W A (fun t k => D (ix2 t k)) (y 0) (y 1) := by
    intro y
    refine (joined_at (fun t j => ∑ s, Sgu.upTo s t (W ⟨j.val / 128, by omega⟩ s t * (D (ix2 s j) * Sgu.gelu cub (z (ix2 s ⟨j.val, lt_of_lt_of_le j.isLt (by decide)⟩)))))
      _ _ _ D w3 (k0_pay7 z) a' y (fun t j => ?_) (fun t j => ?_) (fun t j => ?_) (fun t j => ?_)).trans ?_
    · exact (unmix0 _ _ _ _).trans (hun w0 0 t _ (by show j.val / 128 = 0; omega) hw0)
    · exact (unmix1 _ _ _ _).trans (hun w1 1 t _ (by show (128 + j.val) / 128 = 1; omega) hw1)
    · exact (unmix2 _ _ _ _).trans (hun w2 2 t _ (by show (256 + j.val) / 128 = 2; omega) hw2)
    · exact hun w3 3 t _ (by show (384 + j.val) / 128 = 3; omega) hw3
    · exact congrArg (fun v : EReal => _ * v) (ha' (y 1))
  refine last_at (Sgu.gated cub (fun t k => z (ix2 t k)) W B A E (fun t k => D (ix2 t k))) _ _ _ _ _ _ _ _ _ _ _ (fun t j => ?_) (fun t j => ?_) (fun t j => ?_) (fun t j => ?_) (fun t j => ?_)
  · exact (mix0 _ _ _ _ _).trans (hmix w0 b0 0 t ⟨j.val, by omega⟩ (by show j.val < 512; omega) (by show j.val / 128 = 0; omega) hw0 hb0)
  · exact (mix1 _ _ _ _ _).trans (hmix w1 b1 1 t ⟨128 + j.val, by omega⟩ (by show 128 + j.val < 512; omega) (by show (128 + j.val) / 128 = 1; omega) hw1 hb1)
  · exact (mix2 _ _ _ _ _).trans (hmix w2 b2 2 t ⟨256 + j.val, by omega⟩ (by show 256 + j.val < 512; omega) (by show (256 + j.val) / 128 = 2; omega) hw2 hb2)
  · exact (mix3 _ _ _ _ _).trans (hmix w3 b3 3 t ⟨384 + j.val, by omega⟩ (by show 384 + j.val < 512; omega) (by show (384 + j.val) / 128 = 3; omega) hw3 hb3)
  · rw [centred_at, against_at]
    simp only [hX, rstd_at, normed_at]
    unfold Sgu.gated Sgu.back
    rw [dif_neg (by show ¬ 512 + j.val < 512; omega)]
    have e3 : (⟨512 + j.val - 512, by omega⟩ : Fin 512) = j := Fin.ext (Nat.add_sub_cancel_left 512 j.val)
    rw [e3]
    rfl

/-- The gradient over a block of 2048 rows: row `r` is row `r % 128` of its chunk. -/
def blk (x0 : Vec Ideal S2048x1024 .f32) (x1 : Vec Ideal S4x128x128 .f32) (x2 : Vec Ideal S128x4 .f32) (x3 : Vec Ideal S8x512 .f32) (x4 : Vec Ideal S2048x512 .f32)
    (y : S2048x1024.Idx) : EReal :=
  Sgu.grad cub cub3 (fun t k => x0 (ix2 ⟨(y 0).val / 128 * 128 + t.val, by have := (y 0).isLt; have := t.isLt; simp at *; omega⟩ k))
    (fun g t s => x1 (ix3 g t s)) (fun g t => x2 (ix2 t g)) (fun k => x3 (ix2 0 k)) (fun k => x3 (ix2 1 k))
    (fun t k => x4 (ix2 ⟨(y 0).val / 128 * 128 + t.val, by have := (y 0).isLt; have := t.isLt; simp at *; omega⟩ k))
    ⟨(y 0).val % 128, Nat.mod_lt _ (by decide)⟩ (y 1)

/-- A trip's rows are the block's there. -/
theorem piece_blk (x0 : Vec Ideal S2048x1024 .f32) (x1 : Vec Ideal S4x128x128 .f32) (x2 : Vec Ideal S128x4 .f32) (x3 : Vec Ideal S8x512 .f32) (x4 : Vec Ideal S2048x512 .f32)
    (z : Vec Ideal S128x1024 .f32) (D : Vec Ideal S128x512 .f32) (x : S128x1024.Idx) (y : S2048x1024.Idx) (k : ℕ) (hk : k < 16)
    (h0 : (y 0).val = 128 * k + (x 0).val) (h1 : (y 1).val = (x 1).val)
    (hz : ∀ (t : Fin 128) (c : Fin 1024), z (ix2 t c) = x0 (ix2 ⟨128 * k + t.val, by omega⟩ c))
    (hD : ∀ (t : Fin 128) (c : Fin 512), D (ix2 t c) = x4 (ix2 ⟨128 * k + t.val, by omega⟩ c)) :
    Sgu.gated cub (fun t k => z (ix2 t k)) (fun g t s => x1 (ix3 g t s)) (fun g t => x2 (ix2 t g)) (fun k => x3 (ix2 0 k)) (fun k => x3 (ix2 1 k))
      (fun t k => D (ix2 t k)) (x 0) (x 1) * Sgu.slope cub cub3 (z x) = blk x0 x1 x2 x3 x4 y := by
  have ht : (x 0).val < 128 := (x 0).isLt
  have e0 : (y 0).val / 128 = k := by omega
  have e1 : (⟨(y 0).val % 128, Nat.mod_lt _ (by decide)⟩ : Fin 128) = x 0 := Fin.ext (by show (y 0).val % 128 = _; omega)
  have e2 : y 1 = x 1 := Fin.ext h1
  have e3 : ∀ t : Fin 128, (⟨(y 0).val / 128 * 128 + t.val, by have := (y 0).isLt; have := t.isLt; simp at *; omega⟩ : Fin 2048) = ⟨128 * k + t.val, by omega⟩ :=
    fun t => Fin.ext (by show (y 0).val / 128 * 128 + t.val = 128 * k + t.val; omega)
  have e4 : z x = x0 (ix2 ⟨128 * k + (x 0).val, by omega⟩ (x 1)) := (congrArg z (show x = ix2 (x 0) (x 1) by funext a; fin_cases a <;> rfl)).trans (hz (x 0) (x 1))
  unfold blk
  rw [e1, e2]
  simp only [e3, hz, hD, e4]
  rfl

section
variable (c : Dev nD) (i : grid0.Coords) (arg1 : Memref sig .tc .vmem S2048x1024 .f32) (harg1 : arg1.IsWhole) (arg2 : Memref sig .tc .vmem S4x128x128 .f32) (harg2 : arg2.IsWhole) (arg3 : Memref sig .tc .vmem S128x4 .f32) (harg3 : arg3.IsWhole) (arg4 : Memref sig .tc .vmem S8x512 .f32) (harg4 : arg4.IsWhole) (arg5 : Memref sig .tc .vmem S2048x512 .f32) (harg5 : arg5.IsWhole)
  (arg6 : Memref sig .tc .vmem S2048x1024 .bf16) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S8x512 .f32) (harg9 : arg9.IsWhole)
    (x0 : Vec Ideal S2048x1024 .f32) (x1 : Vec Ideal S4x128x128 .f32) (x2 : Vec Ideal S128x4 .f32) (x3 : Vec Ideal S8x512 .f32) (x4 : Vec Ideal S2048x512 .f32)

/-- A trip stores the block's rows. -/
theorem trip (k : Fin k0_t1_loop.trips) (f6 f7 f8 f9) : ∀ p ∈
   (tripL_k0_t1 (F := Ideal) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) k f6 f7 f8 f9).1, ∀ x, p.2 x = blk x0 x1 x2 x3 x4 (p.1.emb x) := by
  have hk : k.val < 16 := Nat.lt_of_lt_of_le k.isLt k0_t1_abs.2.1
  have hz : ∀ (t : Fin 128) (c : Fin 1024), View.readAt (Elt Ideal) arg1.view (Rect.unit (s := S2048x1024) (k0_off1 k) S128x1024.size (k0_off1_inb k)).toLoadRect (harg1.unread x0) (ix2 t c) = x0 (ix2 ⟨128 * k.val + t.val, by omega⟩ c) := fun t c =>
    Sgu.rd harg1 x0 _ _ _ _ _ fun a => match a with
      | ⟨0, _⟩ => (congrArg (· + t.val) (congrFun (k0_off1_eq k) 0)).symm
      | ⟨1, _⟩ => ((congrArg (· + c.val) (congrFun (k0_off1_eq k) 1)).trans (Nat.zero_add _)).symm
  have hD : ∀ (t : Fin 128) (c : Fin 512), View.readAt (Elt Ideal) arg5.view (Rect.unit (s := S2048x512) (k0_off2 k) S128x512.size (k0_off2_inb k)).toLoadRect (harg5.unread x4) (ix2 t c) = x4 (ix2 ⟨128 * k.val + t.val, by omega⟩ c) := fun t c =>
    Sgu.rd harg5 x4 _ _ _ _ _ fun a => match a with
      | ⟨0, _⟩ => (congrArg (· + t.val) (congrFun (k0_off2_eq k) 0)).symm
      | ⟨1, _⟩ => ((congrArg (· + c.val) (congrFun (k0_off2_eq k) 1)).trans (Nat.zero_add _)).symm
  unfold tripL_k0_t1 trip_k0_t1
  dsimp only
  simp only [List.forall_mem_cons]
  refine ⟨fun x => ?_, fun p hp => absurd hp (List.not_mem_nil)⟩
  refine ((piece (View.readAt (Elt Ideal) arg1.view (Rect.unit (s := S2048x1024) (k0_off1 k) S128x1024.size (k0_off1_inb k)).toLoadRect (harg1.unread x0))
    (View.readAt (Elt Ideal) arg5.view (Rect.unit (s := S2048x512) (k0_off2 k) S128x512.size (k0_off2_inb k)).toLoadRect (harg5.unread x4))
    (View.readAt (Elt Ideal) arg2.view (Rect.unit (s := S4x128x128) ![0, 0, 0] S1x128x128.size (by decide)).toLoadRect (harg2.unread x1))
    (View.readAt (Elt Ideal) arg2.view (Rect.unit (s := S4x128x128) ![1, 0, 0] S1x128x128.size (by decide)).toLoadRect (harg2.unread x1))
    (View.readAt (Elt Ideal) arg2.view (Rect.unit (s := S4x128x128) ![2, 0, 0] S1x128x128.size (by decide)).toLoadRect (harg2.unread x1))
    (View.readAt (Elt Ideal) arg2.view (Rect.unit (s := S4x128x128) ![3, 0, 0] S1x128x128.size (by decide)).toLoadRect (harg2.unread x1))
    (View.readAt (Elt Ideal) arg3.view (Rect.unit (s := S128x4) ![0, 0] S128x1.size (by decide)).toLoadRect (harg3.unread x2))
    (View.readAt (Elt Ideal) arg3.view (Rect.unit (s := S128x4) ![0, 1] S128x1.size (by decide)).toLoadRect (harg3.unread x2))
    (View.readAt (Elt Ideal) arg3.view (Rect.unit (s := S128x4) ![0, 2] S128x1.size (by decide)).toLoadRect (harg3.unread x2))
    (View.readAt (Elt Ideal) arg3.view (Rect.unit (s := S128x4) ![0, 3] S128x1.size (by decide)).toLoadRect (harg3.unread x2))
    (View.readAt (Elt Ideal) arg4.view (Rect.unit (s := S8x512) ![0, 0] S1x512.size (by decide)).toLoadRect (harg4.unread x3))
    (View.readAt (Elt Ideal) arg4.view (Rect.unit (s := S8x512) ![1, 0] S1x512.size (by decide)).toLoadRect (harg4.unread x3))
    (View.readAt (Elt Ideal) arg4.view (Rect.unit (s := S8x512) ![0, 0] S1x512.size (by decide)).toLoadRect (harg4.unread x3))
    (fun g t s => x1 (ix3 g t s)) (fun g t => x2 (ix2 t g)) (fun k => x3 (ix2 0 k)) (fun k => x3 (ix2 1 k)) x
    (fun t s => ?_) (fun t s => ?_) (fun t s => ?_) (fun t s => ?_) (fun t => ?_) (fun t => ?_) (fun t => ?_) (fun t => ?_) (fun j => ?_) (fun j => ?_) (fun j => ?_))).trans
    (piece_blk x0 x1 x2 x3 x4 _ _ x _ k.val hk ?_ ?_ hz hD)
  · exact Sgu.rd harg2 x1 _ _ _ _ _ fun a => by fin_cases a <;> simp
  · exact Sgu.rd harg2 x1 _ _ _ _ _ fun a => by fin_cases a <;> simp
  · exact Sgu.rd harg2 x1 _ _ _ _ _ fun a => by fin_cases a <;> simp
  · exact Sgu.rd harg2 x1 _ _ _ _ _ fun a => by fin_cases a <;> simp
  · exact Sgu.rd harg3 x2 _ _ _ _ _ fun a => by fin_cases a <;> simp
  · exact Sgu.rd harg3 x2 _ _ _ _ _ fun a => by fin_cases a <;> simp
  · exact Sgu.rd harg3 x2 _ _ _ _ _ fun a => by fin_cases a <;> simp
  · exact Sgu.rd harg3 x2 _ _ _ _ _ fun a => by fin_cases a <;> simp
  · exact Sgu.rd harg4 x3 _ _ _ _ _ fun a => by fin_cases a <;> simp
  · exact Sgu.rd harg4 x3 _ _ _ _ _ fun a => by fin_cases a <;> simp
  · exact Sgu.rd harg4 x3 _ _ _ _ _ fun a => by fin_cases a <;> simp
  · exact (ValueKit.rect_emb_unit_val _ _ _ x 0).trans (congrArg (· + (x 0).val) (congrFun (k0_off1_eq k) 0))
  · exact (ValueKit.rect_emb_unit_val _ _ _ x 1).trans ((congrArg (· + (x 1).val) (congrFun (k0_off1_eq k) 1)).trans (Nat.zero_add _))

/-- So does every piece of the trips before any. -/
theorem trips (g6 g7 g8 g9) (n : ℕ) : ∀ p ∈ (pb_k0_t1 (F := Ideal) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) g6 g7 g8 g9 n).1, ∀ x, p.2 x = blk x0 x1 x2 x3 x4 (p.1.emb x) := by
  induction n with
  | zero => exact fun p hp => absurd hp (List.not_mem_nil)
  | succ n ih =>
    rw [pb_k0_t1.eq_2]
    unfold pb_k0_t1Step
    split
    · exact fun p hp => (List.mem_append.mp hp).elim (trip c i arg1 harg1 arg2 harg2 arg3 harg3 arg4 harg4 arg5 harg5 arg6 harg6 arg7 harg7 arg8 harg8 arg9 harg9 x0 x1 x2 x3 x4 _ _ _ _ _ p) (ih p)
    · exact ih

/-- What the first point leaves in the result's block. -/
theorem out_first (hc0 : cond0_0 i) : out0_A_5 (F := Ideal) c i arg1 harg1 arg2 harg2 arg3 harg3 arg4 harg4 arg5 harg5 arg6 harg6 arg7 harg7 arg8 harg8 arg9 harg9 hc0 x0 x1 x2 x3 x4 = blk x0 x1 x2 x3 x4 := by
  funext y
  unfold out0_A_5
  refine View.read_writes_apply_of_pieces _ _ _ _ ?_ y (cover0_A_5 c i arg1 harg1 arg2 harg2 arg3 harg3 arg4 harg4 arg5 harg5 arg6 harg6 arg7 harg7 arg8 harg8 arg9 harg9 hc0 x0 x1 x2 x3 x4 y)
  unfold kernelRun0_A
  exact trips c i arg1 harg1 arg2 harg2 arg3 harg3 arg4 harg4 arg5 harg5 arg6 harg6 arg7 harg7 arg8 harg8 arg9 harg9 x0 x1 x2 x3 x4 _ _ _ _ _

/-- What a later point leaves there. -/
theorem out_later (hc0 : ¬cond0_0 i) (xo6 : Vec Ideal S4x128x128 .f32) (xo7 : Vec Ideal S4x128x128 .f32) (xo8 : Vec Ideal S8x512 .f32) :
    out0_B_5 (F := Ideal) c i arg1 harg1 arg2 harg2 arg3 harg3 arg4 harg4 arg5 harg5 arg6 harg6 arg7 harg7 arg8 harg8 arg9 harg9 hc0 x0 x1 x2 x3 x4 xo6 xo7 xo8 = blk x0 x1 x2 x3 x4 := by
  funext y
  unfold out0_B_5
  refine View.read_writes_apply_of_pieces _ _ _ _ ?_ y (cover0_B_5 c i arg1 harg1 arg2 harg2 arg3 harg3 arg4 harg4 arg5 harg5 arg6 harg6 arg7 harg7 arg8 harg8 arg9 harg9 hc0 x0 x1 x2 x3 x4 xo6 xo7 xo8 y)
  unfold kernelRun0_B
  exact trips c i arg1 harg1 arg2 harg2 arg3 harg3 arg4 harg4 arg5 harg5 arg6 harg6 arg7 harg7 arg8 harg8 arg9 harg9 x0 x1 x2 x3 x4 _ _ _ _ _

end

variable (m : (ℓ : Loc nD τ sig) → Buf (Elt Ideal) ℓ)

/-- What any point leaves there. -/
theorem out (c : Dev nD) (t : Fin cfg0.N) : (outsAt0 m c t.val t.isLt).1 = blk (iblk m c 0 t) (iblk m c 1 t) (iblk m c 2 t) (iblk m c 3 t) (iblk m c 4 t) := by
  by_cases h0 : t.val % 4 = 0
  · exact (congrArg Prod.fst (outsAt0_A m c t h0)).trans (out_first c _ _ _ _ _ _ _ _ _ _ _ _ _ _ _ _ _ _ _ _ _ _ _ _ _)
  · exact (congrArg Prod.fst (outsAt0_B m c t h0)).trans (out_later c _ _ _ _ _ _ _ _ _ _ _ _ _ _ _ _ _ _ _ _ _ _ _ _ _ _ _ _)

/-- The gradient over the whole arrays. -/
def arr (z : FVec Ideal S8192x1024 .f32) (w : FVec Ideal S1x4x128x128 .f32) (b : FVec Ideal S1x4x128 .f32) (a e : FVec Ideal S512 .f32) (d : FVec Ideal S8192x512 .f32) : FVec Ideal S8192x1024 .bf16 := fun y =>
  Sgu.grad cub cub3 (fun t k => z (ix2 ⟨(y 0).val / 128 * 128 + t.val, by have := (y 0).isLt; have := t.isLt; simp at *; omega⟩ k))
    (fun g t s => w (ix4 0 g t s)) (fun g t => b (ix3 0 g t)) (fun k => a (ix1 k)) (fun k => e (ix1 k))
    (fun t k => d (ix2 ⟨(y 0).val / 128 * 128 + t.val, by have := (y 0).isLt; have := t.isLt; simp at *; omega⟩ k))
    ⟨(y 0).val % 128, Nat.mod_lt _ (by decide)⟩ (y 1)
/-- The windows' places. -/
theorem idx : ∀ t : Fin cfg0.N, win0_0.index t = ![t.val, 0] ∧ win0_1.index t = ![0, 0, 0] ∧ win0_2.index t = ![0, 0]
    ∧ win0_3.index t = ![0, 0] ∧ win0_4.index t = ![t.val, 0] ∧ win0_5.index t = ![t.val, 0] :=
  (by decide +kernel : ∀ t : Fin grid0.N, _)

/-- The weights as the region finds them. -/
theorem wsV (c : Dev nD) : V m c main_v0 = shapeCast S4x128x128 (m ((c : Thread nD τ).loc main_arg1)) shapeCasts_S1x4x128x128_S4x128x128 := by
  change StableHlo.after (List.flatten [hostOps0, hostOps0_1]) _ _ = _
  dsimp only [hostOps0, hostOps0_1, List.flatten_cons, List.flatten_nil, List.append_nil, List.cons_append, List.nil_append]
  after_results
  rfl

/-- The shifts as the region finds them. -/
theorem bsV (c : Dev nD) : V m c main_v2 = transpose S128x4 [1, 0] (shapeCast S4x128 (m ((c : Thread nD τ).loc main_arg2)) shapeCasts_S1x4x128_S4x128) transposes_S4x128_S128x4_1_0 := by
  change StableHlo.after (List.flatten [hostOps0, hostOps0_1]) _ _ = _
  dsimp only [hostOps0, hostOps0_1, List.flatten_cons, List.flatten_nil, List.append_nil, List.cons_append, List.nil_append]
  after_results
  rfl

/-- The norm's scale and shift as the region finds them: two rows of eight. -/
theorem lnV (c : Dev nD) : V m c main_v6 = pad S8x512 ![0, 0] ![6, 0] ![0, 0]
    (concatenate S2x512 0 [⟨S1x512, broadcastInDim S1x512 ![1] bcast_S512_S1x512_1 (m ((c : Thread nD τ).loc main_arg3))⟩,
      ⟨S1x512, broadcastInDim S1x512 ![1] bcast_S512_S1x512_1 (m ((c : Thread nD τ).loc main_arg4))⟩] concatenates_S1x512_S1x512_S2x512_d0)
    (sitofp .f32 (constantI S_ 32 0#32) : FVec Ideal S_ .f32) pads_S2x512_S8x512_060_000 h_S_ := by
  change StableHlo.after (List.flatten [hostOps0, hostOps0_1]) _ _ = _
  dsimp only [hostOps0, hostOps0_1, List.flatten_cons, List.flatten_nil, List.append_nil, List.cons_append, List.nil_append]
  after_results
  rfl

/-- The host's reshape of the weights, entry by entry. -/
theorem ws_at (w : FVec Ideal S1x4x128x128 .f32) (g : Fin 4) (r s : Fin 128) : shapeCast S4x128x128 w shapeCasts_S1x4x128x128_S4x128x128 (ix3 g r s) = w (ix4 0 g r s) := by
  pointwise

/-- The host's transpose of the shifts, entry by entry. -/
theorem bs_at (b : FVec Ideal S1x4x128 .f32) (r : Fin 128) (g : Fin 4) : transpose S128x4 [1, 0] (shapeCast S4x128 b shapeCasts_S1x4x128_S4x128) transposes_S4x128_S128x4_1_0 (ix2 r g) = b (ix3 0 g r) := by
  pointwise

/-- The blocks a point reads. -/
theorem b0 (c : Dev nD) (t : Fin cfg0.N) (r : Fin 2048) (k : Fin 1024) : iblk m c 0 t (ix2 r k)
    = m ((c : Thread nD τ).loc main_arg0) (ix2 ⟨2048 * t.val + r.val, by have := lt_of_lt_of_eq t.isLt N_0; have := r.isLt; omega⟩ k) := by
  blk_point [iblk, V_main_arg0 m c, idx t]

theorem b1 (c : Dev nD) (t : Fin cfg0.N) (g : Fin 4) (r s : Fin 128) : iblk m c 1 t (ix3 g r s) = m ((c : Thread nD τ).loc main_arg1) (ix4 0 g r s) := by
  have h : iblk m c 1 t (ix3 g r s) = V m c main_v0 (ix3 g r s) := by blk_point [iblk, idx t]
  rw [h, wsV]
  exact ws_at _ g r s

theorem b2 (c : Dev nD) (t : Fin cfg0.N) (r : Fin 128) (g : Fin 4) : iblk m c 2 t (ix2 r g) = m ((c : Thread nD τ).loc main_arg2) (ix3 0 g r) := by
  have h : iblk m c 2 t (ix2 r g) = V m c main_v2 (ix2 r g) := by blk_point [iblk, idx t]
  rw [h, bsV]
  exact bs_at _ r g

theorem b3 (c : Dev nD) (t : Fin cfg0.N) (k : Fin 512) : iblk m c 3 t (ix2 0 k) = m ((c : Thread nD τ).loc main_arg3) (ix1 k) := by
  have h : iblk m c 3 t (ix2 0 k) = V m c main_v6 (ix2 0 k) := by blk_point [iblk, idx t]
  rw [h, lnV]
  pointwise

theorem b4 (c : Dev nD) (t : Fin cfg0.N) (k : Fin 512) : iblk m c 3 t (ix2 1 k) = m ((c : Thread nD τ).loc main_arg4) (ix1 k) := by
  have h : iblk m c 3 t (ix2 1 k) = V m c main_v6 (ix2 1 k) := by blk_point [iblk, idx t]
  rw [h, lnV]
  pointwise

theorem b5 (c : Dev nD) (t : Fin cfg0.N) (r : Fin 2048) (k : Fin 512) : iblk m c 4 t (ix2 r k)
    = m ((c : Thread nD τ).loc main_arg5) (ix2 ⟨2048 * t.val + r.val, by have := lt_of_lt_of_eq t.isLt N_0; have := r.isLt; omega⟩ k) := by
  blk_point [iblk, V_main_arg5 m c, idx t]

/-- The block's gradient is the array's there. -/
theorem blk_arr (t : ℕ) (ht : t < 4) (x0 : Vec Ideal S2048x1024 .f32) (x1 : Vec Ideal S4x128x128 .f32) (x2 : Vec Ideal S128x4 .f32) (x3 : Vec Ideal S8x512 .f32) (x4 : Vec Ideal S2048x512 .f32)
    (z : FVec Ideal S8192x1024 .f32) (w : FVec Ideal S1x4x128x128 .f32) (b : FVec Ideal S1x4x128 .f32) (a e : FVec Ideal S512 .f32) (d : FVec Ideal S8192x512 .f32)
    (hz : ∀ (r : Fin 2048) k, x0 (ix2 r k) = z (ix2 ⟨2048 * t + r.val, by omega⟩ k)) (hw : ∀ (g : Fin 4) (r s : Fin 128), x1 (ix3 g r s) = w (ix4 0 g r s))
    (hb : ∀ (r : Fin 128) (g : Fin 4), x2 (ix2 r g) = b (ix3 0 g r)) (ha : ∀ k : Fin 512, x3 (ix2 0 k) = a (ix1 k)) (he : ∀ k : Fin 512, x3 (ix2 1 k) = e (ix1 k))
    (hd : ∀ (r : Fin 2048) k, x4 (ix2 r k) = d (ix2 ⟨2048 * t + r.val, by omega⟩ k))
    (y : S2048x1024.Idx) (i : S8192x1024.Idx) (h0 : (i 0).val = 2048 * t + (y 0).val) (h1 : (i 1).val = (y 1).val) :
    blk x0 x1 x2 x3 x4 y = arr z w b a e d i := by
  have e1 : i 1 = y 1 := Fin.ext h1
  have e2 : (⟨(i 0).val % 128, Nat.mod_lt _ (by decide)⟩ : Fin 128) = ⟨(y 0).val % 128, Nat.mod_lt _ (by decide)⟩ := Fin.ext (by show (i 0).val % 128 = (y 0).val % 128; omega)
  have e3 : ∀ s : Fin 128, (⟨2048 * t + ((y 0).val / 128 * 128 + s.val), by have := (y 0).isLt; have := s.isLt; simp at *; omega⟩ : Fin 8192)
      = ⟨(i 0).val / 128 * 128 + s.val, by have := (i 0).isLt; have := s.isLt; simp at *; omega⟩ :=
    fun s => Fin.ext (by show 2048 * t + ((y 0).val / 128 * 128 + s.val) = (i 0).val / 128 * 128 + s.val; omega)
  unfold blk arr
  rw [e2, e1]
  simp only [hz, hw, hb, ha, he, hd, e3]

/-- The result array after the run. -/
theorem final (c : Dev nD) : (dats m 0 c).arrAt 5 (cfgs 0).N = arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t _ y => ?_
  blk_simp
  rw [after0_5, out]
  refine blk_arr t.val (lt_of_lt_of_eq t.isLt N_0) _ _ _ _ _ _ _ _ _ _ _ (b0 m c t) (b1 m c t) (b2 m c t) (b3 m c t) (b4 m c t) (b5 m c t) y _ ?_ ?_
  · refine (ValueKit.view_emb_slice_whole_unit_val main_v7_0 _ _ _ y 0).trans ?_
    show win0_5.index t 0 * 2048 + (y 0).val = _
    rw [(idx t).2.2.2.2.2, mul_comm]
    rfl
  · refine (ValueKit.view_emb_slice_whole_unit_val main_v7_0 _ _ _ y 1).trans ?_
    show win0_5.index t 1 * 1024 + (y 1).val = _
    rw [(idx t).2.2.2.2.2]
    exact (congrArg (· + (y 1).val) (Nat.zero_mul 1024)).trans (Nat.zero_add _)

/-- The run: the gradient's array, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v7_0) = arr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c)))⟩)
    (run_main m ρ)

end Cert.SguBwd
-- ==== Proof.SguBwdRef.lean ====
/-
  The reference of `sgu_bwd`: the derivative of the spatial gating unit as the chain rule gives it, over all rows at once, entry by
  entry; and that it is the kernel's gradient where the arguments are real numbers.
-/
module

public import proofs.«01_k».proof.Proof.SguBwd
public import proofs.«01_k».proof.Proof.Gen.Pre_finite1

@[expose] public section

set_option maxRecDepth 16384

noncomputable section

namespace Cert.SguBwd.Reference

open Cert.Reference1Ideal Cert.Reference1Ideal.Gen Idealize.ShloMosaic Idealize.ShloMosaic.TcCoe Idealize.SL.Sem

/-- The rows, sequence by sequence. -/
def rZ (z : FVec Ideal S8192x1024 .f32) : FVec Ideal S4x2048x1024 .f32 := shapeCast _ z shapeCasts_S8192x1024_S4x2048x1024

theorem rZ_at (z : FVec Ideal S8192x1024 .f32) (y : S4x2048x1024.Idx) : rZ z y = z (ix2 ⟨(y 0).val * 2048 + (y 1).val, by have := (y 0).isLt; have := (y 1).isLt; simp at *; omega⟩ (y 2)) := by
  pointwise [rZ]

/-- The hyperbolic tangent inside the gate. -/
def rT (x : FVec Ideal S4x2048x1024 .f32) : FVec Ideal S4x2048x1024 .f32 :=
  Host.tanh (mulf (broadcastInDim S4x2048x1024 ![] bcast_S_S4x2048x1024 (constant S_ .f32 0x3F4C422A#32)) (addf x (Host.divf (mulf (broadcastInDim S4x2048x1024 ![] bcast_S_S4x2048x1024 (constant S_ .f32 0x472EAB00#32)) (mulf (mulf x x) x)) (broadcastInDim S4x2048x1024 ![] bcast_S_S4x2048x1024 (constant S_ .f32 0x49742400#32)))))

theorem rT_at (x : FVec Ideal S4x2048x1024 .f32) (y : S4x2048x1024.Idx) : rT x y = Sgu.tanQ (x y) := by
  pointwise [rT, Sgu.tanQ]

/-- Half of one more than that. -/
def rH (x : FVec Ideal S4x2048x1024 .f32) : FVec Ideal S4x2048x1024 .f32 :=
  mulf (broadcastInDim S4x2048x1024 ![] bcast_S_S4x2048x1024 (constant S_ .f32 0x3F000000#32)) (addf (broadcastInDim S4x2048x1024 ![] bcast_S_S4x2048x1024 (constant S_ .f32 0x3F800000#32)) (rT x))

theorem rH_at (x : FVec Ideal S4x2048x1024 .f32) (y : S4x2048x1024.Idx) : rH x y = Ideal.ofBits .f32 0x3F000000#32 * (1 + Sgu.tanQ (x y)) := by
  pointwise [rH, rT_at]

/-- The gated rows. -/
def rG (x : FVec Ideal S4x2048x1024 .f32) : FVec Ideal S4x2048x1024 .f32 := mulf x (rH x)

theorem rG_at (x : FVec Ideal S4x2048x1024 .f32) (y : S4x2048x1024.Idx) : rG x y = Sgu.geluQ (x y) := by
  pointwise [rG, rH_at, Sgu.geluQ]

/-- The gated rows' two halves. -/
def rL (x : FVec Ideal S4x2048x1024 .f32) : FVec Ideal S4x2048x512 .f32 := extractStridedSlice S4x2048x512 ![0, 0, 0] (rG x) slices_S4x2048x1024_S4x2048x512_0_0_0

theorem rL_at (x : FVec Ideal S4x2048x1024 .f32) (y : S4x2048x512.Idx) : rL x y = Sgu.geluQ (x (ix3 (y 0) (y 1) ⟨(y 2).val, lt_of_lt_of_le (y 2).isLt (by decide)⟩)) := by
  pointwise [rL, rG_at]

def rV (x : FVec Ideal S4x2048x1024 .f32) : FVec Ideal S4x2048x512 .f32 := extractStridedSlice S4x2048x512 ![0, 0, 512] (rG x) slices_S4x2048x1024_S4x2048x512_0_0_512

theorem rV_at (x : FVec Ideal S4x2048x1024 .f32) (y : S4x2048x512.Idx) : rV x y = Sgu.geluQ (x (ix3 (y 0) (y 1) ⟨512 + (y 2).val, Nat.add_lt_add_left (y 2).isLt 512⟩)) := by
  pointwise [rV, rG_at]

/-- A mean over the last axis, kept. -/
def rM (x : FVec Ideal S4x2048x512 .f32) : FVec Ideal S4x2048x1 .f32 :=
  Host.divf (broadcastInDim S4x2048x1 ![0, 1] bcast_S4x2048_S4x2048x1_0_1 (Host.reduceAdd x (constant S_ .f32 0x00000000#32) reducesTo_S4x2048x512_S4x2048_d2 h_S_)) (broadcastInDim S4x2048x1 ![] bcast_S_S4x2048x1 (constant S_ .f32 0x44000000#32))

theorem rM_at (x : FVec Ideal S4x2048x512 .f32) (y : S4x2048x1.Idx) : rM x y = Sgu.mean fun k => x (ix3 (y 0) (y 1) k) := by
  pointwise [rM, Sgu.mean]

/-- Less the mean. -/
def rC (v : FVec Ideal S4x2048x512 .f32) : FVec Ideal S4x2048x512 .f32 := subf v (broadcastInDim S4x2048x512 ![0, 1, 2] bcast_S4x2048x1_S4x2048x512_0_1_2 (rM v))

theorem rC_at (v : FVec Ideal S4x2048x512 .f32) (y : S4x2048x512.Idx) : rC v y = v y - Sgu.mean fun k => v (ix3 (y 0) (y 1) k) := by
  pointwise [rC, rM_at]

/-- The variance and the small constant. -/
def rQ (v : FVec Ideal S4x2048x512 .f32) : FVec Ideal S4x2048x1 .f32 := addf (rM (mulf (rC v) (rC v))) (broadcastInDim S4x2048x1 ![] bcast_S_S4x2048x1 (constant S_ .f32 0x3727C5AC#32))

/-- The same for a row. -/
abbrev quad (f : Fin 512 → EReal) : EReal := Sgu.mean (fun k => (f k - Sgu.mean f) * (f k - Sgu.mean f)) + Ideal.ofBits .f32 0x3727C5AC#32

theorem rQ_at (v : FVec Ideal S4x2048x512 .f32) (y : S4x2048x1.Idx) : rQ v y = quad fun k => v (ix3 (y 0) (y 1) k) := by
  pointwise [rQ, rM_at, rC_at]

def rR (v : FVec Ideal S4x2048x512 .f32) : FVec Ideal S4x2048x1 .f32 := Host.rsqrt (rQ v)

theorem rR_at (v : FVec Ideal S4x2048x512 .f32) (y : S4x2048x1.Idx) : rR v y = Ideal.rsqrt (quad fun k => v (ix3 (y 0) (y 1) k)) := by
  pointwise [rR, rQ_at]

/-- The layer norm. -/
def rN (v : FVec Ideal S4x2048x512 .f32) (a e : FVec Ideal S512 .f32) : FVec Ideal S4x2048x512 .f32 :=
  addf (mulf (mulf (rC v) (broadcastInDim S4x2048x512 ![0, 1, 2] bcast_S4x2048x1_S4x2048x512_0_1_2 (rR v))) (broadcastInDim S4x2048x512 ![0, 1, 2] bcast_S1x1x512_S4x2048x512_0_1_2 (broadcastInDim S1x1x512 ![2] bcast_S512_S1x1x512_2 a))) (broadcastInDim S4x2048x512 ![0, 1, 2] bcast_S1x1x512_S4x2048x512_0_1_2 (broadcastInDim S1x1x512 ![2] bcast_S512_S1x1x512_2 e))

theorem rN_at (v : FVec Ideal S4x2048x512 .f32) (a e : FVec Ideal S512 .f32) (y : S4x2048x512.Idx) :
    rN v a e y = (v y - Sgu.mean fun k => v (ix3 (y 0) (y 1) k)) * Sgu.rstd (fun k => v (ix3 (y 0) (y 1) k)) * a (ix1 (y 2)) + e (ix1 (y 2)) := by
  pointwise [rN, rC_at, rR_at, Sgu.rstd]

/-- The masked weights. -/
def rW (w : FVec Ideal S1x4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ w shapeCasts_S1x4x128x128_S4x128x128) (broadcastInDim S4x128x128 ![] bcast_S_S4x128x128 (constant S_ .f32 0x00000000#32))

theorem rW_at (w : FVec Ideal S1x4x128x128 .f32) (y : S4x128x128.Idx) : rW w y = Sgu.upTo (y 1) (y 2) (w (ix4 0 (y 0) (y 1) (y 2))) := by
  pointwise [rW]
  have h : ∀ t s : Fin 128, Scalar.select (IntOp.cmpi .sge (IntOp.addi (BitVec.ofNat 32 t.val) 0#32) (BitVec.ofNat 32 s.val)) 1#1 0#1
      = IntOp.cmpi .sle (BitVec.ofNat 32 s.val) (BitVec.ofNat 32 t.val) := by decide +kernel
  exact congrArg (fun p => Scalar.select p _ _) (h (y 1) (y 2))

/-- The mixing. -/
def rX (v : FVec Ideal S4x2048x512 .f32) (w : FVec Ideal S4x128x128 .f32) (b : FVec Ideal S1x4x128 .f32) : FVec Ideal S4x2048x512 .f32 :=
  shapeCast _ (addf (transpose S4x16x128x4x128 [1, 2, 4, 0, 3] (Host.dotGeneral dot_S4x16x128x4x128_S4x128x128_S4x4x16x128x128_2_2_014_1_3_0 none (shapeCast S4x16x128x4x128 v shapeCasts_S4x2048x512_S4x16x128x4x128) w) transposes_S4x4x16x128x128_S4x16x128x4x128_1_2_4_0_3)
    (broadcastInDim S4x16x128x4x128 ![0, 1, 2, 3, 4] bcast_S1x1x128x4x1_S4x16x128x4x128_0_1_2_3_4 (broadcastInDim S1x1x128x4x1 ![2, 3] bcast_S128x4_S1x1x128x4x1_2_3 (transpose S128x4 [1, 0] (shapeCast _ b shapeCasts_S1x4x128_S4x128) transposes_S4x128_S128x4_1_0)))) shapeCasts_S4x16x128x4x128_S4x2048x512

theorem rX_at (v : FVec Ideal S4x2048x512 .f32) (w : FVec Ideal S4x128x128 .f32) (b : FVec Ideal S1x4x128 .f32) (y : S4x2048x512.Idx) : rX v w b y
    = (∑ s : Fin 128, v (ix3 (y 0) ⟨(y 1).val / 128 * 128 + s.val, by have := (y 1).isLt; have := s.isLt; simp at *; omega⟩ (y 2)) * w (ix3 ⟨(y 2).val / 128, by have := (y 2).isLt; simp at *; omega⟩ ⟨(y 1).val % 128, Nat.mod_lt _ (by decide)⟩ s))
      + b (ix3 0 ⟨(y 2).val / 128, by have := (y 2).isLt; simp at *; omega⟩ ⟨(y 1).val % 128, Nat.mod_lt _ (by decide)⟩) := by
  pointwise [rX]

/-- A masked weight times a row. -/
theorem mul_upTo (t s : Fin 128) (x y : EReal) : x * Sgu.upTo t s y = Sgu.upTo t s (y * x) := by
  unfold Sgu.upTo Scalar.select
  split
  · exact mul_comm _ _
  · exact mul_zero _

/-- The result's gradient, sequence by sequence. -/
def rD (d : FVec Ideal S8192x512 .f32) : FVec Ideal S4x2048x512 .f32 := shapeCast _ d shapeCasts_S8192x512_S4x2048x512

theorem rD_at (d : FVec Ideal S8192x512 .f32) (y : S4x2048x512.Idx) : rD d y = d (ix2 ⟨(y 0).val * 2048 + (y 1).val, by have := (y 0).isLt; have := (y 1).isLt; simp at *; omega⟩ (y 2)) := by
  pointwise [rD]

/-- What reaches the normalised rows, scaled. -/
def rS (x : FVec Ideal S4x2048x512 .f32) (w : FVec Ideal S4x128x128 .f32) (a : FVec Ideal S512 .f32) : FVec Ideal S4x2048x512 .f32 :=
  mulf (shapeCast _ (transpose S4x16x128x4x128 [1, 2, 4, 0, 3] (Host.dotGeneral dot_S4x4x16x128x128_S4x128x128_S4x4x16x128x128_4_1_123_2_0_0 none (transpose S4x4x16x128x128 [3, 0, 1, 4, 2] (shapeCast _ x shapeCasts_S4x2048x512_S4x16x128x4x128) transposes_S4x16x128x4x128_S4x4x16x128x128_3_0_1_4_2) w) transposes_S4x4x16x128x128_S4x16x128x4x128_1_2_4_0_3) shapeCasts_S4x16x128x4x128_S4x2048x512) (broadcastInDim S4x2048x512 ![0, 1, 2] bcast_S1x1x512_S4x2048x512_0_1_2 (broadcastInDim S1x1x512 ![2] bcast_S512_S1x1x512_2 a))

theorem rS_at (x : FVec Ideal S4x2048x512 .f32) (w : FVec Ideal S4x128x128 .f32) (a : FVec Ideal S512 .f32) (y : S4x2048x512.Idx) : rS x w a y
    = (∑ s : Fin 128, x (ix3 (y 0) ⟨(y 1).val / 128 * 128 + s.val, by have := (y 1).isLt; have := s.isLt; simp at *; omega⟩ (y 2)) * w (ix3 ⟨(y 2).val / 128, by have := (y 2).isLt; simp at *; omega⟩ s ⟨(y 1).val % 128, Nat.mod_lt _ (by decide)⟩))
      * a (ix1 (y 2)) := by
  pointwise [rS]

/-- The part of the norm's derivative that passes the row. -/
def rA (v g : FVec Ideal S4x2048x512 .f32) : FVec Ideal S4x2048x512 .f32 := mulf g (broadcastInDim S4x2048x512 ![0, 1, 2] bcast_S4x2048x1_S4x2048x512_0_1_2 (rR v))

theorem rA_at (v g : FVec Ideal S4x2048x512 .f32) (y : S4x2048x512.Idx) : rA v g y = g y * Ideal.rsqrt (quad fun k => v (ix3 (y 0) (y 1) k)) := by
  pointwise [rA, rR_at]

/-- The part through the variance. -/
def rE (v g : FVec Ideal S4x2048x512 .f32) : FVec Ideal S4x2048x512 .f32 :=
  mulf (broadcastInDim S4x2048x512 ![0, 1] bcast_S4x2048_S4x2048x512_0_1 (Host.reduceAdd (Host.divf (mulf (shapeCast _ (Host.reduceAdd (mulf (rC v) g) (constant S_ .f32 0x00000000#32) reducesTo_S4x2048x512_S4x2048_d2 h_S_) shapeCasts_S4x2048_S4x2048x1) (mulf (broadcastInDim S4x2048x1 ![] bcast_S_S4x2048x1 (constant S_ .f32 0xBF000000#32)) (Host.divf (rR v) (rQ v)))) (broadcastInDim S4x2048x1 ![] bcast_S_S4x2048x1 (constant S_ .f32 0x44000000#32))) (constant S_ .f32 0x00000000#32) reducesTo_S4x2048x1_S4x2048_d2 h_S_)) (mulf (broadcastInDim S4x2048x512 ![] bcast_S_S4x2048x512 (constant S_ .f32 0x40000000#32)) (rC v))

theorem rE_at (v g : FVec Ideal S4x2048x512 .f32) (y : S4x2048x512.Idx) : rE v g y
    = Ideal.div ((∑ k, (v (ix3 (y 0) (y 1) k) - Sgu.mean fun k => v (ix3 (y 0) (y 1) k)) * g (ix3 (y 0) (y 1) k)) * (Ideal.ofBits .f32 0xBF000000#32 * Ideal.div (Ideal.rsqrt (quad fun k => v (ix3 (y 0) (y 1) k))) (quad fun k => v (ix3 (y 0) (y 1) k)))) (Ideal.ofBits .f32 0x44000000#32)
      * (Ideal.ofBits .f32 0x40000000#32 * (v y - Sgu.mean fun k => v (ix3 (y 0) (y 1) k))) := by
  pointwise [rE, rC_at, rR_at, rQ_at]
  exact congrArg (fun v : EReal => v * _) (Fin.sum_univ_one fun _ => _)

/-- The norm's derivative: the two parts and the one through the mean. -/
def rB (v g : FVec Ideal S4x2048x512 .f32) : FVec Ideal S4x2048x512 .f32 :=
  addf (addf (rA v g) (rE v g)) (broadcastInDim S4x2048x512 ![0, 1] bcast_S4x2048_S4x2048x512_0_1 (Host.reduceAdd (Host.divf (addf (shapeCast _ (Host.reduceAdd (Host.negf (rA v g)) (constant S_ .f32 0x00000000#32) reducesTo_S4x2048x512_S4x2048_d2 h_S_) shapeCasts_S4x2048_S4x2048x1) (shapeCast _ (Host.reduceAdd (Host.negf (rE v g)) (constant S_ .f32 0x00000000#32) reducesTo_S4x2048x512_S4x2048_d2 h_S_) shapeCasts_S4x2048_S4x2048x1)) (broadcastInDim S4x2048x1 ![] bcast_S_S4x2048x1 (constant S_ .f32 0x44000000#32))) (constant S_ .f32 0x00000000#32) reducesTo_S4x2048x1_S4x2048_d2 h_S_))

theorem rB_at (v g : FVec Ideal S4x2048x512 .f32) (y : S4x2048x512.Idx) :
    rB v g y = Sgu.chain (fun k => v (ix3 (y 0) (y 1) k)) (fun k => g (ix3 (y 0) (y 1) k)) (quad fun k => v (ix3 (y 0) (y 1) k)) (y 2) := by
  pointwise [rB, rA_at, rE_at, Sgu.chain]
  exact congrArg (fun v : EReal => _ + v) (Fin.sum_univ_one fun _ => _)

/-- The gradient at the gated rows. -/
def rJ (x g : FVec Ideal S4x2048x512 .f32) : FVec Ideal S4x2048x1024 .f32 := concatenate S4x2048x1024 2 [⟨S4x2048x512, x⟩, ⟨S4x2048x512, g⟩] concatenates_S4x2048x512_S4x2048x512_S4x2048x1024_d2

theorem rJ_at (x g : FVec Ideal S4x2048x512 .f32) (y : S4x2048x1024.Idx) : rJ x g y
    = if h : (y 2).val < 512 then x (ix3 (y 0) (y 1) ⟨(y 2).val, h⟩) else g (ix3 (y 0) (y 1) ⟨(y 2).val - 512, by have := (y 2).isLt; simp at *; omega⟩) := by
  pointwise [rJ]

/-- The gate's derivative through the tangent. -/
def rP (x g : FVec Ideal S4x2048x1024 .f32) : FVec Ideal S4x2048x1024 .f32 :=
  mulf (broadcastInDim S4x2048x1024 ![] bcast_S_S4x2048x1024 (constant S_ .f32 0x3F4C422A#32)) (mulf (mulf (broadcastInDim S4x2048x1024 ![] bcast_S_S4x2048x1024 (constant S_ .f32 0x3F000000#32)) (mulf x g)) (mulf (addf (broadcastInDim S4x2048x1024 ![] bcast_S_S4x2048x1024 (constant S_ .f32 0x3F800000#32)) (rT x)) (subf (broadcastInDim S4x2048x1024 ![] bcast_S_S4x2048x1024 (constant S_ .f32 0x3F800000#32)) (rT x))))

theorem rP_at (x g : FVec Ideal S4x2048x1024 .f32) (y : S4x2048x1024.Idx) : rP x g y
    = Ideal.ofBits .f32 0x3F4C422A#32 * (Ideal.ofBits .f32 0x3F000000#32 * (x y * g y) * ((1 + Sgu.tanQ (x y)) * (1 - Sgu.tanQ (x y)))) := by
  pointwise [rP, rT_at]

/-- The gradient at the rows. -/
def rF (x g : FVec Ideal S4x2048x1024 .f32) : FVec Ideal S8192x1024 .bf16 :=
  truncf .bf16 (shapeCast _ (addf (addf (mulf g (rH x)) (rP x g)) (mulf (mulf (broadcastInDim S4x2048x1024 ![] bcast_S_S4x2048x1024 (constant S_ .f32 0x472EAB00#32)) (Host.divf (rP x g) (broadcastInDim S4x2048x1024 ![] bcast_S_S4x2048x1024 (constant S_ .f32 0x49742400#32)))) (mulf (broadcastInDim S4x2048x1024 ![] bcast_S_S4x2048x1024 (constant S_ .f32 0x40400000#32)) (mulf x x)))) shapeCasts_S4x2048x1024_S8192x1024) bitsLt_bf16_f32

theorem rF_at (x g : FVec Ideal S4x2048x1024 .f32) (y : S8192x1024.Idx) : rF x g y
    = Sgu.gateChain (x (ix3 ⟨(y 0).val / 2048, by have := (y 0).isLt; simp at *; omega⟩ ⟨(y 0).val % 2048, Nat.mod_lt _ (by decide)⟩ (y 1)))
      (g (ix3 ⟨(y 0).val / 2048, by have := (y 0).isLt; simp at *; omega⟩ ⟨(y 0).val % 2048, Nat.mod_lt _ (by decide)⟩ (y 1))) := by
  pointwise [rF, rH_at, rP_at, Sgu.gateChain]

/-- The gradient at the gated rows, from the arguments. -/
def rK (z : FVec Ideal S8192x1024 .f32) (w : FVec Ideal S1x4x128x128 .f32) (b : FVec Ideal S1x4x128 .f32) (a e : FVec Ideal S512 .f32) (d : FVec Ideal S8192x512 .f32) : FVec Ideal S4x2048x1024 .f32 :=
  rJ (mulf (rD d) (rX (rN (rV (rZ z)) a e) (rW w) b)) (rB (rV (rZ z)) (rS (mulf (rL (rZ z)) (rD d)) (rW w) a))

theorem ref_eq (m : (ℓ : Loc nD τ sig) → Buf (Elt Ideal) ℓ) (c : Dev nD) : (truncf .bf16 (shapeCast _ (addf (addf (mulf (Value.res_main_v105 (StableHlo.launchContents m c)) (Value.res_main_v24 (StableHlo.launchContents m c))) (Value.res_main_v112 (StableHlo.launchContents m c))) (mulf (mulf (broadcastInDim S4x2048x1024 ![] bcast_S_S4x2048x1024 (constant S_ .f32 0x472EAB00#32)) (Host.divf (Value.res_main_v112 (StableHlo.launchContents m c)) (broadcastInDim S4x2048x1024 ![] bcast_S_S4x2048x1024 (constant S_ .f32 0x49742400#32)))) (mulf (broadcastInDim S4x2048x1024 ![] bcast_S_S4x2048x1024 (constant S_ .f32 0x40400000#32)) (mulf (Value.res_main_v0 (StableHlo.launchContents m c)) (Value.res_main_v0 (StableHlo.launchContents m c)))))) shapeCasts_S4x2048x1024_S8192x1024) bitsLt_bf16_f32 : FVec Ideal S8192x1024 .bf16)
    = rF (rZ (m ((c.tc : Thread nD τ).loc main_arg0))) (rK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := rfl

section
variable (Z : S8192x1024.Idx → ℝ) (W : S1x4x128x128.Idx → ℝ) (B : S1x4x128.Idx → ℝ) (A E : S512.Idx → ℝ) (D : S8192x512.Idx → ℝ) (i : S8192x1024.Idx)

/-- The chunk of rows that holds a row. -/
def rowsZ (s : Fin 128) (k : Fin 1024) : ℝ := Z (ix2 ⟨(i 0).val / 128 * 128 + s.val, by have := (i 0).isLt; have := s.isLt; simp at *; omega⟩ k)

def rowsD (s : Fin 128) (k : Fin 512) : ℝ := D (ix2 ⟨(i 0).val / 128 * 128 + s.val, by have := (i 0).isLt; have := s.isLt; simp at *; omega⟩ k)

/-- The place of a row of the chunk. -/
abbrev seq : Fin 4 := ⟨(i 0).val / 2048, by have := (i 0).isLt; simp at *; omega⟩
abbrev pos (s : Fin 128) : Fin 2048 := ⟨(i 0).val % 2048 / 128 * 128 + s.val, by have := s.isLt; omega⟩
abbrev own : Fin 128 := ⟨(i 0).val % 128, Nat.mod_lt _ (by decide)⟩
abbrev here : Fin 2048 := ⟨(i 0).val % 2048, Nat.mod_lt _ (by decide)⟩

theorem here_eq : here i = pos i (own i) := Fin.ext (by show (i 0).val % 2048 = (i 0).val % 2048 / 128 * 128 + (i 0).val % 128; omega)

theorem hZ (s : Fin 128) (k : Fin 1024) : rZ (fun i => (Z i : EReal)) (ix3 (seq i) (pos i s) k) = (rowsZ Z i s k : EReal) :=
  (rZ_at _ _).trans (congrArg (fun r => (Z (ix2 r k) : EReal)) (Fin.ext (by show (i 0).val / 2048 * 2048 + ((i 0).val % 2048 / 128 * 128 + s.val) = (i 0).val / 128 * 128 + s.val; omega)))

theorem hD (s : Fin 128) (k : Fin 512) : rD (fun i => (D i : EReal)) (ix3 (seq i) (pos i s) k) = (rowsD D i s k : EReal) :=
  (rD_at _ _).trans (congrArg (fun r => (D (ix2 r k) : EReal)) (Fin.ext (by show (i 0).val / 2048 * 2048 + ((i 0).val % 2048 / 128 * 128 + s.val) = (i 0).val / 128 * 128 + s.val; omega)))

theorem hV (s : Fin 128) : (fun k => rV (rZ (fun i => (Z i : EReal))) (ix3 (seq i) (pos i s) k)) = Sgu.right Sgu.c1 (fun k => (rowsZ Z i s k : EReal)) :=
  funext fun k => (rV_at _ _).trans ((congrArg Sgu.geluQ (hZ Z i s ⟨512 + k.val, Nat.add_lt_add_left k.isLt 512⟩)).trans (Sgu.geluQ_eq _))

theorem hL (s : Fin 128) (k : Fin 512) : rL (rZ (fun i => (Z i : EReal))) (ix3 (seq i) (pos i s) k) = Sgu.gelu Sgu.c1 (rowsZ Z i s ⟨k.val, lt_of_lt_of_le k.isLt (by decide)⟩ : EReal) :=
  (rL_at _ _).trans ((congrArg Sgu.geluQ (hZ Z i s ⟨k.val, lt_of_lt_of_le k.isLt (by decide)⟩)).trans (Sgu.geluQ_eq _))

/-- The arguments' entries, as the gradient takes them. -/
abbrev wts (g : Fin 4) (t s : Fin 128) : EReal := (W (ix4 0 g t s) : EReal)
abbrev sft (g : Fin 4) (t : Fin 128) : EReal := (B (ix3 0 g t) : EReal)
abbrev ent (A : S512.Idx → ℝ) (k : Fin 512) : EReal := (A (ix1 k) : EReal)

/-- The normalised rows. -/
theorem hN (s : Fin 128) (k : Fin 512) : rN (rV (rZ (fun i => (Z i : EReal)))) (fun i => (A i : EReal)) (fun i => (E i : EReal)) (ix3 (seq i) (pos i s) k)
    = Sgu.vn Sgu.c1 (fun k => (rowsZ Z i s k : EReal)) (ent A) (ent E) k := by
  refine (rN_at _ _ _ _).trans ?_
  have h := hV Z i s
  unfold Sgu.vn
  rw [← h]
  rfl

/-- The mixed rows. -/
theorem hX (k : Fin 512) : rX (rN (rV (rZ (fun i => (Z i : EReal)))) (fun i => (A i : EReal)) (fun i => (E i : EReal))) (rW (fun i => (W i : EReal))) (fun i => (B i : EReal)) (ix3 (seq i) (here i) k)
    = Sgu.mixed Sgu.c1 (fun t k => (rowsZ Z i t k : EReal)) (wts W ⟨k.val / 128, by omega⟩) (sft B ⟨k.val / 128, by omega⟩) (ent A) (ent E) (own i) k := by
  have e : (⟨(i 0).val % 2048 % 128, Nat.mod_lt _ (by decide)⟩ : Fin 128) = own i := Fin.ext (by show (i 0).val % 2048 % 128 = (i 0).val % 128; omega)
  refine (rX_at _ _ _ _).trans ?_
  unfold Sgu.mixed
  refine congrArg₂ (fun x y : EReal => x + y) (Finset.sum_congr rfl fun s _ => ?_) ?_
  · refine (congrArg₂ (fun x y : EReal => x * y) (hN Z A E i s k) (rW_at _ _)).trans ((mul_upTo _ _ _ _).trans ?_)
    exact congrArg (fun t => Sgu.upTo t s (wts W ⟨k.val / 128, by omega⟩ t s * Sgu.vn Sgu.c1 (fun k => (rowsZ Z i s k : EReal)) (ent A) (ent E) k)) e
  · exact congrArg (fun t => sft B ⟨k.val / 128, by omega⟩ t) e

/-- What reaches the normalised rows. -/
theorem hS (k : Fin 512) : rS (mulf (rL (rZ (fun i => (Z i : EReal)))) (rD (fun i => (D i : EReal)))) (rW (fun i => (W i : EReal))) (fun i => (A i : EReal)) (ix3 (seq i) (here i) k)
    = Sgu.scaled Sgu.c1 (fun t k => (rowsZ Z i t k : EReal)) (wts W) (ent A) (fun t k => (rowsD D i t k : EReal)) (own i) k := by
  have e : (⟨(i 0).val % 2048 % 128, Nat.mod_lt _ (by decide)⟩ : Fin 128) = own i := Fin.ext (by show (i 0).val % 2048 % 128 = (i 0).val % 128; omega)
  refine (rS_at _ _ _ _).trans ?_
  unfold Sgu.scaled
  refine congrArg (fun x : EReal => x * ent A k) (Finset.sum_congr rfl fun s _ => ?_)
  refine (congrArg₂ (fun x y : EReal => x * y) (congrArg₂ (fun x y : EReal => x * y) (hL Z i s k) (hD D i s k)) (rW_at _ _)).trans ((mul_upTo _ _ _ _).trans ?_)
  refine (congrArg (fun t => Sgu.upTo s t (wts W ⟨k.val / 128, by omega⟩ s t * (Sgu.gelu Sgu.c1 (rowsZ Z i s ⟨k.val, lt_of_lt_of_le k.isLt (by decide)⟩ : EReal) * (rowsD D i s k : EReal)))) e).trans ?_
  exact congrArg (fun x : EReal => Sgu.upTo s (own i) (wts W ⟨k.val / 128, by omega⟩ s (own i) * x)) (mul_comm _ _)

/-- The gradient at the gated rows. -/
theorem hK (k : Fin 1024) : rK (fun i => (Z i : EReal)) (fun i => (W i : EReal)) (fun i => (B i : EReal)) (fun i => (A i : EReal)) (fun i => (E i : EReal)) (fun i => (D i : EReal)) (ix3 (seq i) (here i) k)
    = Sgu.gated Sgu.c1 (fun t k => (rowsZ Z i t k : EReal)) (wts W) (sft B) (ent A) (ent E) (fun t k => (rowsD D i t k : EReal)) (own i) k := by
  unfold rK Sgu.gated
  refine (rJ_at _ _ _).trans ?_
  by_cases h : k.val < 512
  · refine (dif_pos h).trans (Eq.symm ((dif_pos h).trans (Eq.symm ?_)))
    refine congrArg₂ (fun x y : EReal => x * y) ?_ (hX Z W B A E i ⟨k.val, h⟩)
    exact (congrArg (fun r => rD (fun i => (D i : EReal)) (ix3 (seq i) r ⟨k.val, h⟩)) (here_eq i)).trans (hD D i (own i) ⟨k.val, h⟩)
  · refine (dif_neg h).trans (Eq.symm ((dif_neg h).trans (Eq.symm ?_)))
    refine (rB_at _ _ _).trans ?_
    obtain ⟨f, hf⟩ := Sgu.right_coe (8943 / 200000) (rowsZ Z i (own i))
    obtain ⟨g, hg⟩ := Sgu.scaled_coe (8943 / 200000) (rowsZ Z i) (fun g t s => W (ix4 0 g t s)) (fun k => A (ix1 k)) (rowsD D i) (own i)
    have h1 : (fun k => rV (rZ (fun i => (Z i : EReal))) (ix3 (seq i) (here i) k)) = fun k => (f k : EReal) := by
      rw [here_eq]
      exact (hV Z i (own i)).trans hf
    have h2 : (fun k => rS (mulf (rL (rZ (fun i => (Z i : EReal)))) (rD (fun i => (D i : EReal)))) (rW (fun i => (W i : EReal))) (fun i => (A i : EReal)) (ix3 (seq i) (here i) k)) = fun k => (g k : EReal) :=
      (funext fun k => hS Z W A D i k).trans hg
    have h3 : Sgu.right Sgu.c1 (fun k => (rowsZ Z i (own i) k : EReal)) = fun k => (f k : EReal) := hf
    have h4 : Sgu.scaled Sgu.c1 (fun t k => (rowsZ Z i t k : EReal)) (wts W) (ent A) (fun t k => (rowsD D i t k : EReal)) (own i) = fun k => (g k : EReal) := hg
    rw [h3, h4]
    refine Eq.trans ?_ (Sgu.chain_eq f g ⟨k.val - 512, by omega⟩)
    show Sgu.chain (fun k => rV (rZ (fun i => (Z i : EReal))) (ix3 (seq i) (here i) k)) (fun k => rS (mulf (rL (rZ (fun i => (Z i : EReal)))) (rD (fun i => (D i : EReal)))) (rW (fun i => (W i : EReal))) (fun i => (A i : EReal)) (ix3 (seq i) (here i) k))
      (quad fun k => rV (rZ (fun i => (Z i : EReal))) (ix3 (seq i) (here i) k)) ⟨k.val - 512, by omega⟩ = _
    rw [h1, h2]

end

/-- On real arguments the reference's result is the kernel's. -/
theorem eq (Z : S8192x1024.Idx → ℝ) (W : S1x4x128x128.Idx → ℝ) (B : S1x4x128.Idx → ℝ) (A E : S512.Idx → ℝ) (D : S8192x512.Idx → ℝ) :
    rF (rZ fun i => (Z i : EReal)) (rK (fun i => (Z i : EReal)) (fun i => (W i : EReal)) (fun i => (B i : EReal)) (fun i => (A i : EReal)) (fun i => (E i : EReal)) (fun i => (D i : EReal)))
      = arr (fun i => (Z i : EReal)) (fun i => (W i : EReal)) (fun i => (B i : EReal)) (fun i => (A i : EReal)) (fun i => (E i : EReal)) (fun i => (D i : EReal)) := by
  funext i
  obtain ⟨q, hq⟩ := Sgu.gated_coe (8943 / 200000) (rowsZ Z i) (fun g t s => W (ix4 0 g t s)) (fun g t => B (ix3 0 g t)) (fun k => A (ix1 k)) (fun k => E (ix1 k)) (rowsD D i) (own i) (i 1)
  have hz : rZ (fun i => (Z i : EReal)) (ix3 (seq i) (here i) (i 1)) = (rowsZ Z i (own i) (i 1) : EReal) :=
    (congrArg (fun r => rZ (fun i => (Z i : EReal)) (ix3 (seq i) r (i 1))) (here_eq i)).trans (hZ Z i (own i) (i 1))
  refine (rF_at _ _ _).trans ((congrArg₂ Sgu.gateChain hz ((hK Z W B A E D i (i 1)).trans hq)).trans ((Sgu.gateChain_eq _ _).trans ?_))
  rw [← hq]
  rfl

/-- The precondition makes every argument an array of reals. -/
theorem reals (z : FVec Ideal S8192x1024 .f32) (w : FVec Ideal S1x4x128x128 .f32) (b : FVec Ideal S1x4x128 .f32) (a e : FVec Ideal S512 .f32) (d : FVec Ideal S8192x512 .f32)
    (h : Cert.Pre_finite1.fn (F := Ideal) z w b a e d = fun _ => 1#1) :
    (∃ Z : S8192x1024.Idx → ℝ, z = fun i => (Z i : EReal)) ∧ (∃ W : S1x4x128x128.Idx → ℝ, w = fun i => (W i : EReal)) ∧ (∃ B : S1x4x128.Idx → ℝ, b = fun i => (B i : EReal))
      ∧ (∃ A : S512.Idx → ℝ, a = fun i => (A i : EReal)) ∧ (∃ E : S512.Idx → ℝ, e = fun i => (E i : EReal)) ∧ (∃ D : S8192x512.Idx → ℝ, d = fun i => (D i : EReal)) := by
  have h0 := congrFun h ix0
  dsimp only [Cert.Pre_finite1.fn, Cert.Pre_finite1.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton (Cert.Pre_finite1.S_).Idx := ⟨fun a b => funext fun i => i.elim0⟩
  exact ⟨Reals.reals_of_all _ fun i => Host.reduce_andi_all _ _ _ _ _ h1 i, Reals.reals_of_all _ fun i => Host.reduce_andi_all _ _ _ _ _ h2 i,
    Reals.reals_of_all _ fun i => Host.reduce_andi_all _ _ _ _ _ h3 i, Reals.reals_of_all _ fun i => Host.reduce_andi_all _ _ _ _ _ h4 i,
    Reals.reals_of_all _ fun i => Host.reduce_andi_all _ _ _ _ _ h5 i, Reals.reals_of_all _ fun i => Host.reduce_andi_all _ _ _ _ _ h6 i⟩

end Cert.SguBwd.Reference

end
-- ==== Proof.AdamIn.lean ====
/-
  `adamw` on the attention layer's input weight, which the call is handed with its last two axes exchanged: the weight's change and the
  two new moments, element by element, turned back afterwards.
-/
module

public import proofs.«01_k».proof.Proof.Gen.Kernel20Ideal.Frame
public import proofs.«01_k».proof.Proof.Gen.Reference20Ideal
public import Idealize.ShloMosaic.Lib.Pipeline.FrameSuffix
public import Idealize.ShloMosaic.Lib.StableHlo.Run
public import Idealize.ShloMosaic.Lib.Pipeline.ValueKit
public import Idealize.ShloMosaic.Lib.Pointwise

@[expose] public section

set_option maxRecDepth 16384

noncomputable section

namespace Cert.AdamIn

open Cert.Kernel20Ideal Cert.Kernel20Ideal.Gen Idealize.ShloMosaic Idealize.ShloMosaic.TcCoe Idealize.SL.Sem

/-- The new first moment from the gradient and the old one: 0.9 and 0.1 of them. -/
def mean (g a : Ideal .f32) : Ideal .f32 :=
  FloatOps.addf (FloatOps.mulf (Scalar.ofBits .f32 0x3F666666#32) a) (FloatOps.mulf (Scalar.ofBits .f32 0x3DCCCCCD#32) g)

/-- The new second moment from the gradient and the old one: 0.999 and 0.001 of the old one and of the gradient's square. -/
def second (g b : Ideal .f32) : Ideal .f32 :=
  FloatOps.addf (FloatOps.mulf (Scalar.ofBits .f32 0x3F7FBE77#32) b) (FloatOps.mulf (Scalar.ofBits .f32 0x3A83126F#32) (FloatOps.mulf g g))

/-- The weight's change: the first moment over the root of the second, each corrected for its start at zero, and the decay. -/
def change (g a b w : Ideal .f32) : Ideal .f32 :=
  FloatOps.mulf (Scalar.ofBits .f32 0xBA83126F#32) (FloatOps.addf
    (FloatOps.divf (FloatOps.divf (mean g a) (Scalar.ofBits .f32 0x3F26BD02#32))
      (FloatOps.addf (FloatOps.sqrt (FloatOps.divf (second g b) (Scalar.ofBits .f32 0x3C231ACC#32))) (Scalar.ofBits .f32 0x322BCC77#32)))
    (FloatOps.mulf (Scalar.ofBits .f32 0x3C23D70A#32) w))

/-- The place of the gradient that belongs to a place of the weight: the gradient is kept with its last two axes exchanged. -/
def turn (j : S1x1024x448.Idx) : S1x448x1024.Idx := ix3 0 (j 2) (j 1)

/-- The first axis has one place. -/
theorem back (j : S1x1024x448.Idx) : (ix3 0 (j 1) (j 2) : S1x1024x448.Idx) = j := by
  funext k
  match k with
  | ⟨0, _⟩ => exact (Subsingleton.elim (α := Fin 1) _ _)
  | ⟨1, _⟩ => rfl
  | ⟨2, _⟩ => rfl

/-- The three arrays the call leaves, from the weight, the gradient and the moments. -/
def arrD (w : FVec Ideal S1x1024x448 .f32) (g : FVec Ideal S1x448x1024 .f32) (a b : FVec Ideal S1x1024x448 .f32) : FVec Ideal S1x1024x448 .f32 :=
  fun j => change (g (turn j)) (a j) (b j) (w j)
@[inherit_doc arrD]
def arrM (g : FVec Ideal S1x448x1024 .f32) (a : FVec Ideal S1x1024x448 .f32) : FVec Ideal S1x1024x448 .f32 := fun j => mean (g (turn j)) (a j)
@[inherit_doc arrD]
def arrV (g : FVec Ideal S1x448x1024 .f32) (b : FVec Ideal S1x1024x448 .f32) : FVec Ideal S1x1024x448 .f32 := fun j => second (g (turn j)) (b j)

/-- What the body stores, at a place. -/
theorem d_at (g a b w : FVec Ideal S1x224x1024 .f32) (j : S1x224x1024.Idx) : k0_pay3 (F := Ideal) g a b w j = change (g j) (a j) (b j) (w j) := by
  open_payloads
  unfold change mean second
  pointwise
theorem m_at (g a : FVec Ideal S1x224x1024 .f32) (j : S1x224x1024.Idx) : k0_pay1 (F := Ideal) g a j = mean (g j) (a j) := by
  open_payloads
  unfold mean
  pointwise
theorem v_at (g b : FVec Ideal S1x224x1024 .f32) (j : S1x224x1024.Idx) : k0_pay2 (F := Ideal) g b j = second (g j) (b j) := by
  open_payloads
  unfold second
  pointwise

variable (m : (ℓ : Loc nD τ sig) → Buf (Elt Ideal) ℓ)

/-- The windows' places. -/
theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] :=
  (by decide +kernel : ∀ t : Fin grid0.N, _)

/-- An array with its last two axes exchanged, as the call is handed it. -/
abbrev flip (x : FVec Ideal S1x1024x448 .f32) : FVec Ideal S1x448x1024 .f32 := transpose S1x448x1024 [0, 2, 1] x transposes_S1x1024x448_S1x448x1024_0_2_1

theorem in0 (c : Dev nD) : V m c main_v0 = flip (m ((c : Thread nD τ).loc main_arg0)) := by
  change StableHlo.after hostOps0 _ _ = _
  dsimp only [hostOps0]
  after_results

theorem in1 (c : Dev nD) : V m c main_v1 = flip (m ((c : Thread nD τ).loc main_arg2)) := by
  change StableHlo.after hostOps0 _ _ = _
  dsimp only [hostOps0]
  after_results

theorem in2 (c : Dev nD) : V m c main_v2 = flip (m ((c : Thread nD τ).loc main_arg3)) := by
  change StableHlo.after hostOps0 _ _ = _
  dsimp only [hostOps0]
  after_results

/-- The result array after the run. -/
theorem final4 (c : Dev nD) : (dats m 0 c).arrAt 4 (cfgs 0).N = fun i : S1x448x1024.Idx => change ((m ((c : Thread nD τ).loc main_arg1) : FVec Ideal S1x448x1024 .f32) i) (flip (m ((c : Thread nD τ).loc main_arg2)) i) (flip (m ((c : Thread nD τ).loc main_arg3)) i) (flip (m ((c : Thread nD τ).loc main_arg0)) i) := by
  rw [← in0, ← in1, ← in2, ← V_main_arg1 m c]
  refine (dats m 0 c).arrAt_eq_of_covers 4 _ (by decide +kernel) fun t _ y => ?_
  blk_simp
  rw [after0_4]
  unfold out0_4
  frame_out
  refine (d_at _ _ _ _ _).trans ?_
  blk_point [iblk, idx t]

/-- The result array after the run. -/
theorem final5 (c : Dev nD) : (dats m 0 c).arrAt 5 (cfgs 0).N = fun i : S1x448x1024.Idx => mean ((m ((c : Thread nD τ).loc main_arg1) : FVec Ideal S1x448x1024 .f32) i) (flip (m ((c : Thread nD τ).loc main_arg2)) i) := by
  rw [← in1, ← V_main_arg1 m c]
  refine (dats m 0 c).arrAt_eq_of_covers 5 _ (by decide +kernel) fun t _ y => ?_
  blk_simp
  rw [after0_5]
  unfold out0_5
  frame_out
  refine (m_at _ _ _).trans ?_
  blk_point [iblk, idx t]

/-- The result array after the run. -/
theorem final6 (c : Dev nD) : (dats m 0 c).arrAt 6 (cfgs 0).N = fun i : S1x448x1024.Idx => second ((m ((c : Thread nD τ).loc main_arg1) : FVec Ideal S1x448x1024 .f32) i) (flip (m ((c : Thread nD τ).loc main_arg3)) i) := by
  rw [← in2, ← V_main_arg1 m c]
  refine (dats m 0 c).arrAt_eq_of_covers 6 _ (by decide +kernel) fun t _ y => ?_
  blk_simp
  rw [after0_6]
  unfold out0_6
  frame_out
  refine (v_at _ _ _).trans ?_
  blk_point [iblk, idx t]

/-- The result as the line after the region leaves it. -/
theorem tail4 (c : Dev nD) : Pipeline.afterTail₀ cfgs (dats m) 0 (V0 m) [hostOps1] c main_v4 = arrD (m ((c : Thread nD τ).loc main_arg0)) (m ((c : Thread nD τ).loc main_arg1)) (m ((c : Thread nD τ).loc main_arg2)) (m ((c : Thread nD τ).loc main_arg3)) := by
  have e := Pipeline.withArrays_arr (τ := τ) spec0 launch0.win.arr_inj c (V0 m c) (fun w => (dats m 0 c).arrAt w (cfgs 0).N) 4
  change StableHlo.after hostOps1 (Pipeline.withArrays (cfgs 0).spec c (V0 m c) fun w => (dats m 0 c).arrAt w (cfgs 0).N) (Proc.tc.devRef main_v4) = _
  dsimp only [hostOps1]
  after_results
  refine (congrArg (fun v : FVec Ideal S1x448x1024 .f32 => transpose S1x1024x448 [0, 2, 1] v transposes_S1x448x1024_S1x1024x448_0_2_1) (e.trans (final4 m c))).trans ?_
  funext j
  unfold arrD turn
  pointwise
  rw [back j]

/-- The result as the line after the region leaves it. -/
theorem tail5 (c : Dev nD) : Pipeline.afterTail₀ cfgs (dats m) 0 (V0 m) [hostOps1] c main_v5 = arrM (m ((c : Thread nD τ).loc main_arg1)) (m ((c : Thread nD τ).loc main_arg2)) := by
  have e := Pipeline.withArrays_arr (τ := τ) spec0 launch0.win.arr_inj c (V0 m c) (fun w => (dats m 0 c).arrAt w (cfgs 0).N) 5
  change StableHlo.after hostOps1 (Pipeline.withArrays (cfgs 0).spec c (V0 m c) fun w => (dats m 0 c).arrAt w (cfgs 0).N) (Proc.tc.devRef main_v5) = _
  dsimp only [hostOps1]
  after_results
  refine (congrArg (fun v : FVec Ideal S1x448x1024 .f32 => transpose S1x1024x448 [0, 2, 1] v transposes_S1x448x1024_S1x1024x448_0_2_1) (e.trans (final5 m c))).trans ?_
  funext j
  unfold arrM turn
  pointwise
  rw [back j]

/-- The result as the line after the region leaves it. -/
theorem tail6 (c : Dev nD) : Pipeline.afterTail₀ cfgs (dats m) 0 (V0 m) [hostOps1] c main_v6 = arrV (m ((c : Thread nD τ).loc main_arg1)) (m ((c : Thread nD τ).loc main_arg3)) := by
  have e := Pipeline.withArrays_arr (τ := τ) spec0 launch0.win.arr_inj c (V0 m c) (fun w => (dats m 0 c).arrAt w (cfgs 0).N) 6
  change StableHlo.after hostOps1 (Pipeline.withArrays (cfgs 0).spec c (V0 m c) fun w => (dats m 0 c).arrAt w (cfgs 0).N) (Proc.tc.devRef main_v6) = _
  dsimp only [hostOps1]
  after_results
  refine (congrArg (fun v : FVec Ideal S1x448x1024 .f32 => transpose S1x1024x448 [0, 2, 1] v transposes_S1x448x1024_S1x1024x448_0_2_1) (e.trans (final6 m c))).trans ?_
  funext j
  unfold arrV turn
  pointwise
  rw [back j]

/-- The run: the three results and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v4) = arrD (m ((c : Thread nD τ).loc main_arg0)) (m ((c : Thread nD τ).loc main_arg1)) (m ((c : Thread nD τ).loc main_arg2)) (m ((c : Thread nD τ).loc main_arg3))
      ∧ r.2.mem ((c.tc : Thread nD τ).loc main_v5) = arrM (m ((c : Thread nD τ).loc main_arg1)) (m ((c : Thread nD τ).loc main_arg2))
      ∧ r.2.mem ((c.tc : Thread nD τ).loc main_v6) = arrV (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).2 main_v4 (Pipeline.mem_restRefs_of _ rfl (by decide +kernel))).trans (tail4 m c),
    ((h c).2 main_v5 (Pipeline.mem_restRefs_of _ rfl (by decide +kernel))).trans (tail5 m c),
    ((h c).2 main_v6 (Pipeline.mem_restRefs_of _ rfl (by decide +kernel))).trans (tail6 m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.AdamIn

namespace Cert.AdamIn.Reference

open Cert.Reference20Ideal Cert.Reference20Ideal.Gen Idealize.ShloMosaic Idealize.SL.Sem

/-- The reference's arrays: the optimiser's lines with the gradient's last two axes exchanged. -/
abbrev full (b : BitVec 32) : FVec Ideal S1x1024x448 .f32 := broadcastInDim S1x1024x448 ![] bcast_S_S1x1024x448 (constant S_ .f32 b)

/-- The gradient as the reference takes it. -/
abbrev turned (g : FVec Ideal S1x448x1024 .f32) : FVec Ideal S1x1024x448 .f32 := transpose S1x1024x448 [0, 2, 1] g transposes_S1x448x1024_S1x1024x448_0_2_1

def refM (g : FVec Ideal S1x448x1024 .f32) (a : FVec Ideal S1x1024x448 .f32) : FVec Ideal S1x1024x448 .f32 :=
  addf (mulf (full 0x3F666666#32) a) (mulf (full 0x3DCCCCCD#32) (turned g))

def refV (g : FVec Ideal S1x448x1024 .f32) (b : FVec Ideal S1x1024x448 .f32) : FVec Ideal S1x1024x448 .f32 :=
  addf (mulf (full 0x3F7FBE77#32) b) (mulf (full 0x3A83126F#32) (mulf (turned g) (turned g)))

def refD (w : FVec Ideal S1x1024x448 .f32) (g : FVec Ideal S1x448x1024 .f32) (a b : FVec Ideal S1x1024x448 .f32) : FVec Ideal S1x1024x448 .f32 :=
  mulf (full 0xBA83126F#32) (addf (Host.divf (Host.divf (refM g a) (full 0x3F26BD02#32))
    (addf (Host.sqrt (Host.divf (refV g b) (full 0x3C231ACC#32))) (full 0x322BCC77#32))) (mulf (full 0x3C23D70A#32) w))

theorem eqM (g : FVec Ideal S1x448x1024 .f32) (a : FVec Ideal S1x1024x448 .f32) : refM g a = arrM g a := by
  funext j
  have e : turned g j = g (turn j) := by unfold turn; pointwise
  show _ = mean (g (turn j)) (a j)
  rw [← e]
  rfl

theorem eqV (g : FVec Ideal S1x448x1024 .f32) (b : FVec Ideal S1x1024x448 .f32) : refV g b = arrV g b := by
  funext j
  have e : turned g j = g (turn j) := by unfold turn; pointwise
  show _ = second (g (turn j)) (b j)
  rw [← e]
  rfl

theorem eqD (w : FVec Ideal S1x1024x448 .f32) (g : FVec Ideal S1x448x1024 .f32) (a b : FVec Ideal S1x1024x448 .f32) : refD w g a b = arrD w g a b := by
  funext j
  have e : turned g j = g (turn j) := by unfold turn; pointwise
  show _ = change (g (turn j)) (a j) (b j) (w j)
  rw [← e]
  rfl

end Cert.AdamIn.Reference

end
-- ==== Proof.AdamGate.lean ====
/-
  `adamw` on the two layers' gate weights (and, the same program, on the up weights), which the call is handed with the last two axes
  exchanged: the weights' change and the two new moments, element by element, turned back afterwards.
-/
module

public import proofs.«01_k».proof.Proof.Gen.Kernel23Ideal.Frame
public import proofs.«01_k».proof.Proof.Gen.Reference23Ideal
public import Idealize.ShloMosaic.Lib.Pipeline.FrameSuffix
public import Idealize.ShloMosaic.Lib.StableHlo.Run
public import Idealize.ShloMosaic.Lib.Pipeline.ValueKit
public import Idealize.ShloMosaic.Lib.Pointwise

@[expose] public section

set_option maxRecDepth 16384

noncomputable section

namespace Cert.AdamGate

open Cert.Kernel23Ideal Cert.Kernel23Ideal.Gen Idealize.ShloMosaic Idealize.ShloMosaic.TcCoe Idealize.SL.Sem

/-- The new first moment from the gradient and the old one: 0.9 and 0.1 of them. -/
def mean (g a : Ideal .f32) : Ideal .f32 :=
  FloatOps.addf (FloatOps.mulf (Scalar.ofBits .f32 0x3F666666#32) a) (FloatOps.mulf (Scalar.ofBits .f32 0x3DCCCCCD#32) g)

/-- The new second moment from the gradient and the old one: 0.999 and 0.001 of the old one and of the gradient's square. -/
def second (g b : Ideal .f32) : Ideal .f32 :=
  FloatOps.addf (FloatOps.mulf (Scalar.ofBits .f32 0x3F7FBE77#32) b) (FloatOps.mulf (Scalar.ofBits .f32 0x3A83126F#32) (FloatOps.mulf g g))

/-- The weight's change: the first moment over the root of the second, each corrected for its start at zero, and the decay. -/
def change (g a b w : Ideal .f32) : Ideal .f32 :=
  FloatOps.mulf (Scalar.ofBits .f32 0xBA83126F#32) (FloatOps.addf
    (FloatOps.divf (FloatOps.divf (mean g a) (Scalar.ofBits .f32 0x3F26BD02#32))
      (FloatOps.addf (FloatOps.sqrt (FloatOps.divf (second g b) (Scalar.ofBits .f32 0x3C231ACC#32))) (Scalar.ofBits .f32 0x322BCC77#32)))
    (FloatOps.mulf (Scalar.ofBits .f32 0x3C23D70A#32) w))

/-- The place of the gradient that belongs to a place of the weight: the gradient is kept with its last two axes exchanged. -/
def turn (j : S2x1024x704.Idx) : S2x704x1024.Idx := ix3 (j 0) (j 2) (j 1)

/-- The three arrays the call leaves, from the weight, the gradient and the moments. -/
def arrD (w : FVec Ideal S2x1024x704 .f32) (g : FVec Ideal S2x704x1024 .f32) (a b : FVec Ideal S2x1024x704 .f32) : FVec Ideal S2x1024x704 .f32 :=
  fun j => change (g (turn j)) (a j) (b j) (w j)
@[inherit_doc arrD]
def arrM (g : FVec Ideal S2x704x1024 .f32) (a : FVec Ideal S2x1024x704 .f32) : FVec Ideal S2x1024x704 .f32 := fun j => mean (g (turn j)) (a j)
@[inherit_doc arrD]
def arrV (g : FVec Ideal S2x704x1024 .f32) (b : FVec Ideal S2x1024x704 .f32) : FVec Ideal S2x1024x704 .f32 := fun j => second (g (turn j)) (b j)

/-- What the body stores, at a place. -/
theorem d_at (g a b w : FVec Ideal S1x352x1024 .f32) (j : S1x352x1024.Idx) : k0_pay3 (F := Ideal) g a b w j = change (g j) (a j) (b j) (w j) := by
  open_payloads
  unfold change mean second
  pointwise
theorem m_at (g a : FVec Ideal S1x352x1024 .f32) (j : S1x352x1024.Idx) : k0_pay1 (F := Ideal) g a j = mean (g j) (a j) := by
  open_payloads
  unfold mean
  pointwise
theorem v_at (g b : FVec Ideal S1x352x1024 .f32) (j : S1x352x1024.Idx) : k0_pay2 (F := Ideal) g b j = second (g j) (b j) := by
  open_payloads
  unfold second
  pointwise

variable (m : (ℓ : Loc nD τ sig) → Buf (Elt Ideal) ℓ)

/-- The windows' places. -/
theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] :=
  (by decide +kernel : ∀ t : Fin grid0.N, _)

/-- An array with its last two axes exchanged, as the call is handed it. -/
abbrev flip (x : FVec Ideal S2x1024x704 .f32) : FVec Ideal S2x704x1024 .f32 := transpose S2x704x1024 [0, 2, 1] x transposes_S2x1024x704_S2x704x1024_0_2_1

theorem in0 (c : Dev nD) : V m c main_v0 = flip (m ((c : Thread nD τ).loc main_arg0)) := by
  change StableHlo.after hostOps0 _ _ = _
  dsimp only [hostOps0]
  after_results

theorem in1 (c : Dev nD) : V m c main_v1 = flip (m ((c : Thread nD τ).loc main_arg2)) := by
  change StableHlo.after hostOps0 _ _ = _
  dsimp only [hostOps0]
  after_results

theorem in2 (c : Dev nD) : V m c main_v2 = flip (m ((c : Thread nD τ).loc main_arg3)) := by
  change StableHlo.after hostOps0 _ _ = _
  dsimp only [hostOps0]
  after_results

/-- The result array after the run. -/
theorem final4 (c : Dev nD) : (dats m 0 c).arrAt 4 (cfgs 0).N = fun i : S2x704x1024.Idx => change ((m ((c : Thread nD τ).loc main_arg1) : FVec Ideal S2x704x1024 .f32) i) (flip (m ((c : Thread nD τ).loc main_arg2)) i) (flip (m ((c : Thread nD τ).loc main_arg3)) i) (flip (m ((c : Thread nD τ).loc main_arg0)) i) := by
  rw [← in0, ← in1, ← in2, ← V_main_arg1 m c]
  refine (dats m 0 c).arrAt_eq_of_covers 4 _ (by decide +kernel) fun t _ y => ?_
  blk_simp
  rw [after0_4]
  unfold out0_4
  frame_out
  refine (d_at _ _ _ _ _).trans ?_
  blk_point [iblk, idx t]

/-- The result array after the run. -/
theorem final5 (c : Dev nD) : (dats m 0 c).arrAt 5 (cfgs 0).N = fun i : S2x704x1024.Idx => mean ((m ((c : Thread nD τ).loc main_arg1) : FVec Ideal S2x704x1024 .f32) i) (flip (m ((c : Thread nD τ).loc main_arg2)) i) := by
  rw [← in1, ← V_main_arg1 m c]
  refine (dats m 0 c).arrAt_eq_of_covers 5 _ (by decide +kernel) fun t _ y => ?_
  blk_simp
  rw [after0_5]
  unfold out0_5
  frame_out
  refine (m_at _ _ _).trans ?_
  blk_point [iblk, idx t]

/-- The result array after the run. -/
theorem final6 (c : Dev nD) : (dats m 0 c).arrAt 6 (cfgs 0).N = fun i : S2x704x1024.Idx => second ((m ((c : Thread nD τ).loc main_arg1) : FVec Ideal S2x704x1024 .f32) i) (flip (m ((c : Thread nD τ).loc main_arg3)) i) := by
  rw [← in2, ← V_main_arg1 m c]
  refine (dats m 0 c).arrAt_eq_of_covers 6 _ (by decide +kernel) fun t _ y => ?_
  blk_simp
  rw [after0_6]
  unfold out0_6
  frame_out
  refine (v_at _ _ _).trans ?_
  blk_point [iblk, idx t]

/-- The result as the line after the region leaves it. -/
theorem tail4 (c : Dev nD) : Pipeline.afterTail₀ cfgs (dats m) 0 (V0 m) [hostOps1] c main_v4 = arrD (m ((c : Thread nD τ).loc main_arg0)) (m ((c : Thread nD τ).loc main_arg1)) (m ((c : Thread nD τ).loc main_arg2)) (m ((c : Thread nD τ).loc main_arg3)) := by
  have e := Pipeline.withArrays_arr (τ := τ) spec0 launch0.win.arr_inj c (V0 m c) (fun w => (dats m 0 c).arrAt w (cfgs 0).N) 4
  change StableHlo.after hostOps1 (Pipeline.withArrays (cfgs 0).spec c (V0 m c) fun w => (dats m 0 c).arrAt w (cfgs 0).N) (Proc.tc.devRef main_v4) = _
  dsimp only [hostOps1]
  after_results
  refine (congrArg (fun v : FVec Ideal S2x704x1024 .f32 => transpose S2x1024x704 [0, 2, 1] v transposes_S2x704x1024_S2x1024x704_0_2_1) (e.trans (final4 m c))).trans ?_
  funext j
  unfold arrD turn
  pointwise

/-- The result as the line after the region leaves it. -/
theorem tail5 (c : Dev nD) : Pipeline.afterTail₀ cfgs (dats m) 0 (V0 m) [hostOps1] c main_v5 = arrM (m ((c : Thread nD τ).loc main_arg1)) (m ((c : Thread nD τ).loc main_arg2)) := by
  have e := Pipeline.withArrays_arr (τ := τ) spec0 launch0.win.arr_inj c (V0 m c) (fun w => (dats m 0 c).arrAt w (cfgs 0).N) 5
  change StableHlo.after hostOps1 (Pipeline.withArrays (cfgs 0).spec c (V0 m c) fun w => (dats m 0 c).arrAt w (cfgs 0).N) (Proc.tc.devRef main_v5) = _
  dsimp only [hostOps1]
  after_results
  refine (congrArg (fun v : FVec Ideal S2x704x1024 .f32 => transpose S2x1024x704 [0, 2, 1] v transposes_S2x704x1024_S2x1024x704_0_2_1) (e.trans (final5 m c))).trans ?_
  funext j
  unfold arrM turn
  pointwise

/-- The result as the line after the region leaves it. -/
theorem tail6 (c : Dev nD) : Pipeline.afterTail₀ cfgs (dats m) 0 (V0 m) [hostOps1] c main_v6 = arrV (m ((c : Thread nD τ).loc main_arg1)) (m ((c : Thread nD τ).loc main_arg3)) := by
  have e := Pipeline.withArrays_arr (τ := τ) spec0 launch0.win.arr_inj c (V0 m c) (fun w => (dats m 0 c).arrAt w (cfgs 0).N) 6
  change StableHlo.after hostOps1 (Pipeline.withArrays (cfgs 0).spec c (V0 m c) fun w => (dats m 0 c).arrAt w (cfgs 0).N) (Proc.tc.devRef main_v6) = _
  dsimp only [hostOps1]
  after_results
  refine (congrArg (fun v : FVec Ideal S2x704x1024 .f32 => transpose S2x1024x704 [0, 2, 1] v transposes_S2x704x1024_S2x1024x704_0_2_1) (e.trans (final6 m c))).trans ?_
  funext j
  unfold arrV turn
  pointwise

/-- The run: the three results and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v4) = arrD (m ((c : Thread nD τ).loc main_arg0)) (m ((c : Thread nD τ).loc main_arg1)) (m ((c : Thread nD τ).loc main_arg2)) (m ((c : Thread nD τ).loc main_arg3))
      ∧ r.2.mem ((c.tc : Thread nD τ).loc main_v5) = arrM (m ((c : Thread nD τ).loc main_arg1)) (m ((c : Thread nD τ).loc main_arg2))
      ∧ r.2.mem ((c.tc : Thread nD τ).loc main_v6) = arrV (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).2 main_v4 (Pipeline.mem_restRefs_of _ rfl (by decide +kernel))).trans (tail4 m c),
    ((h c).2 main_v5 (Pipeline.mem_restRefs_of _ rfl (by decide +kernel))).trans (tail5 m c),
    ((h c).2 main_v6 (Pipeline.mem_restRefs_of _ rfl (by decide +kernel))).trans (tail6 m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.AdamGate

namespace Cert.AdamGate.Reference

open Cert.Reference23Ideal Cert.Reference23Ideal.Gen Idealize.ShloMosaic Idealize.SL.Sem

/-- The reference's arrays: the optimiser's lines with the gradient's last two axes exchanged. -/
abbrev full (b : BitVec 32) : FVec Ideal S2x1024x704 .f32 := broadcastInDim S2x1024x704 ![] bcast_S_S2x1024x704 (constant S_ .f32 b)

/-- The gradient as the reference takes it. -/
abbrev turned (g : FVec Ideal S2x704x1024 .f32) : FVec Ideal S2x1024x704 .f32 := transpose S2x1024x704 [0, 2, 1] g transposes_S2x704x1024_S2x1024x704_0_2_1

def refM (g : FVec Ideal S2x704x1024 .f32) (a : FVec Ideal S2x1024x704 .f32) : FVec Ideal S2x1024x704 .f32 :=
  addf (mulf (full 0x3F666666#32) a) (mulf (full 0x3DCCCCCD#32) (turned g))

def refV (g : FVec Ideal S2x704x1024 .f32) (b : FVec Ideal S2x1024x704 .f32) : FVec Ideal S2x1024x704 .f32 :=
  addf (mulf (full 0x3F7FBE77#32) b) (mulf (full 0x3A83126F#32) (mulf (turned g) (turned g)))

def refD (w : FVec Ideal S2x1024x704 .f32) (g : FVec Ideal S2x704x1024 .f32) (a b : FVec Ideal S2x1024x704 .f32) : FVec Ideal S2x1024x704 .f32 :=
  mulf (full 0xBA83126F#32) (addf (Host.divf (Host.divf (refM g a) (full 0x3F26BD02#32))
    (addf (Host.sqrt (Host.divf (refV g b) (full 0x3C231ACC#32))) (full 0x322BCC77#32))) (mulf (full 0x3C23D70A#32) w))

theorem eqM (g : FVec Ideal S2x704x1024 .f32) (a : FVec Ideal S2x1024x704 .f32) : refM g a = arrM g a := by
  funext j
  have e : turned g j = g (turn j) := by unfold turn; pointwise
  show _ = mean (g (turn j)) (a j)
  rw [← e]
  rfl

theorem eqV (g : FVec Ideal S2x704x1024 .f32) (b : FVec Ideal S2x1024x704 .f32) : refV g b = arrV g b := by
  funext j
  have e : turned g j = g (turn j) := by unfold turn; pointwise
  show _ = second (g (turn j)) (b j)
  rw [← e]
  rfl

theorem eqD (w : FVec Ideal S2x1024x704 .f32) (g : FVec Ideal S2x704x1024 .f32) (a b : FVec Ideal S2x1024x704 .f32) : refD w g a b = arrD w g a b := by
  funext j
  have e : turned g j = g (turn j) := by unfold turn; pointwise
  show _ = change (g (turn j)) (a j) (b j) (w j)
  rw [← e]
  rfl

end Cert.AdamGate.Reference

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Kernel2Ideal.Value
public import proofs.«01_k».proof.Proof.Gen.Reference2Ideal.Run
public import proofs.«01_k».proof.Proof.FfnBwd
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.InProjBwd
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.DwDown
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.DwGate
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.GateUp
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.FfnDown
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.OutProjBwd1
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.OutProjBwd0
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.OutProj
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.InProj
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.DwOut
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.DwInSgu
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.DwInPool
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.DwInQ
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.DwInKv
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.FfnUpBwd
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.SguFwd
public import proofs.«01_k».proof.Proof.Gen.Kernel1
public import proofs.«01_k».proof.Proof.Gen.Kernel1.Skeleton
public import proofs.«01_k».proof.Proof.Gen.Kernel1.Launch
public import proofs.«01_k».proof.Proof.Gen.Kernel1.Points
public import proofs.«01_k».proof.Proof.Gen.Kernel1Ideal
public import proofs.«01_k».proof.Proof.Gen.Kernel1Ideal.Skeleton
public import proofs.«01_k».proof.Proof.Gen.Kernel1Ideal.Launch
public import proofs.«01_k».proof.Proof.Gen.Kernel1Ideal.Points
public import proofs.«01_k».proof.Proof.Gen.Reference1Ideal
public import proofs.«01_k».proof.Proof.Gen.Pre_finite1
public import proofs.«01_k».proof.Proof.Gen.Reference1Ideal.Run
public import proofs.«01_k».proof.Proof.SguBwdFrame
public import proofs.«01_k».proof.Proof.SguBwdPFrame
public import proofs.«01_k».proof.Proof.SguBwd
public import proofs.«01_k».proof.Proof.SguBwdRef
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.AdamIn
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.AdamGate
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import Idealize.ShloMosaic.Lib.Quiescent
public import Idealize.ShloMosaic.Adequacy
public import Idealize.ShloMosaic.Init

@[expose] public section

noncomputable section

namespace Cert.Proof

open Idealize.ShloMosaic Idealize.SL.Sem

/-- The gated down projection's backward pass: the reference ends with its arguments unchanged and no counter raised. -/
theorem frame_reference2 : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- The gated down projection's backward pass: both programs end with the same three arrays. -/
theorem ffn_down_bwd : Cert.algebraic_Kernel2Ideal_Reference2Ideal_pre_finite2 := by
  intro m g m' g' hpre hagree
  have hreal := fun c => Cert.FfnBwd.reals _ _ _ _ (hpre c)
  refine ⟨fun c => Cert.FfnBwd.arr4 (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)),
    fun c => Cert.FfnBwd.arr5 (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg3)),
    fun c => Cert.FfnBwd.arr6 (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)), ?_, ?_⟩
  · refine (θ_run _ _ _).mono (fun r h c => ?_) (Cert.Kernel2Ideal.Value.run_blocks (F := Ideal) m g)
    obtain ⟨h4, h5, h6, ha⟩ := h c
    exact ⟨h4.trans (Cert.FfnBwd.final4 m c), h5.trans (Cert.FfnBwd.final5 m c), h6.trans (Cert.FfnBwd.final6 m c), ha⟩
  · refine (θ_run _ _ _).mono (fun r h c => ?_) (Cert.Reference2Ideal.Value.run (F := Ideal) m' g')
    obtain ⟨h4, h5, h6, ha⟩ := h c
    obtain ⟨a0, a1, a2, a3⟩ := hagree c
    obtain ⟨⟨D, hD⟩, ⟨G, hG⟩, ⟨U, hU⟩, ⟨W, hW⟩⟩ := hreal c
    rw [a0, a1, a2, a3] at h4
    rw [a0, a1, a3] at h5
    rw [a1, a2] at h6
    refine ⟨h4.trans ?_, h5.trans ?_, h6.trans ?_, ha⟩ <;> beta_reduce
    · rw [hD, hG, hU, hW]; exact Cert.FfnBwd.eq4 _ _ D G U W
    · rw [hD, hG, hW]; exact Cert.FfnBwd.eq5 _ _ D G W
    · rw [hG, hU]; exact Cert.FfnBwd.eq6 _ _ G U

/-- The attention layer's input projections' backward pass: the reference ends with its arguments unchanged and no counter raised. -/
theorem frame_reference3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The attention layer's input projections' backward pass: both programs end with the same two arrays. -/
theorem in_proj_bwd : Cert.algebraic_Kernel3Ideal_Reference3Ideal := by
  intro m g m' g' _ hagree
  refine ⟨fun c => Cert.InProjBwd.arrX (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8)),
    fun c => Cert.InProjBwd.arrG (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)), ?_, ?_⟩
  · exact Cert.InProjBwd.run m g
  · refine (θ_run _ _ _).mono (fun r h c => ?_) (Cert.Reference3Ideal.Value.run (F := Ideal) m' g')
    obtain ⟨h0, h1, ha⟩ := h c
    obtain ⟨a0, a1, a2, a3, a4, a5, a6, a7, a8⟩ := hagree c
    unfold Cert.Reference3Ideal.Value.res_main_v54 at h0
    rw [a0, a1, a2, a3, a4, a5, a6, a7, a8] at h0
    rw [a0, a1, a2, a3, a4, a5, a6] at h1
    exact ⟨h0.trans (Cert.InProjBwd.Reference.eq0 _ _ _ _ _ _ _ _ _), h1.trans (Cert.InProjBwd.Reference.eq1 _ _ _ _ _ _ _), ha⟩

/-- The down projection's weight gradient: the reference ends with its arguments unchanged and no counter raised. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The down projection's weight gradient: both programs end with the same arrays. -/
theorem dw_down : Cert.algebraic_Kernel4Ideal_Reference4Ideal := by
  intro m g m' g' _ hagree
  refine ⟨fun c => Cert.DwDown.arr (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)), ?_, ?_⟩
  · refine (θ_run _ _ _).mono (fun r h c => ?_) (Cert.Kernel4Ideal.Value.run_blocks (F := Ideal) m g)
    obtain ⟨h0, ha⟩ := h c
    exact ⟨h0.trans (Cert.DwDown.final m c), ha⟩
  · refine (θ_run _ _ _).mono (fun r h c => ?_) (Cert.Reference4Ideal.Value.run (F := Ideal) m' g')
    obtain ⟨h0, ha⟩ := h c
    obtain ⟨a0, a1⟩ := hagree c
    rw [a0, a1] at h0
    exact ⟨h0.trans (Cert.DwDown.eq _ _), ha⟩

/-- The gate projection's weight gradient: the reference ends with its arguments unchanged and no counter raised. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The gate projection's weight gradient: both programs end with the same arrays. -/
theorem dw_gate : Cert.algebraic_Kernel5Ideal_Reference5Ideal := by
  intro m g m' g' _ hagree
  refine ⟨fun c => Cert.DwGate.arr (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)), ?_, ?_⟩
  · refine (θ_run _ _ _).mono (fun r h c => ?_) (Cert.Kernel5Ideal.Value.run_blocks (F := Ideal) m g)
    obtain ⟨h0, ha⟩ := h c
    exact ⟨h0.trans (Cert.DwGate.final m c), ha⟩
  · refine (θ_run _ _ _).mono (fun r h c => ?_) (Cert.Reference5Ideal.Value.run (F := Ideal) m' g')
    obtain ⟨h0, ha⟩ := h c
    obtain ⟨a0, a1⟩ := hagree c
    rw [a0, a1] at h0
    exact ⟨h0.trans (Cert.DwGate.eq _ _), ha⟩

/-- The normed rows with their two projections: the reference ends with its arguments unchanged and no counter raised. -/
theorem frame_reference6 : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

/-- The normed rows with their two projections: both programs end with the same arrays. -/
theorem ffn_gate_up : Cert.algebraic_Kernel6Ideal_Reference6Ideal := by
  intro m g m' g' _ hagree
  refine ⟨fun c => Cert.GateUp.arrH (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    fun c => Cert.GateUp.arrP (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)),
    fun c => Cert.GateUp.arrP (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg3)), ?_, ?_⟩
  · refine (θ_run _ _ _).mono (fun r h c => ?_) (Cert.Kernel6Ideal.Value.run_blocks (F := Ideal) m g)
    obtain ⟨h0, h1, h2, ha⟩ := h c
    exact ⟨h0.trans (Cert.GateUp.final4 m c), h1.trans (Cert.GateUp.final5 m c), h2.trans (Cert.GateUp.final6 m c), ha⟩
  · refine (θ_run _ _ _).mono (fun r h c => ?_) (Cert.Reference6Ideal.Value.run (F := Ideal) m' g')
    obtain ⟨h0, h1, h2, ha⟩ := h c
    obtain ⟨a0, a1, a2, a3⟩ := hagree c
    rw [a0, a1] at h0
    rw [a0, a1, a2] at h1
    rw [a0, a1, a3] at h2
    exact ⟨h0.trans (Cert.GateUp.Reference.eqH _ _), h1.trans (Cert.GateUp.Reference.eqP _ _ _), h2.trans (Cert.GateUp.Reference.eqP _ _ _), ha⟩

/-- The gated down projection: the reference ends with its arguments unchanged and no counter raised. -/
theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The gated down projection: both programs end with the same arrays. -/
theorem ffn_down : Cert.algebraic_Kernel7Ideal_Reference7Ideal := by
  intro m g m' g' _ hagree
  refine ⟨fun c => Cert.FfnDown.arr (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3)), ?_, ?_⟩
  · refine (θ_run _ _ _).mono (fun r h c => ?_) (Cert.Kernel7Ideal.Value.run_blocks (F := Ideal) m g)
    obtain ⟨h0, ha⟩ := h c
    exact ⟨h0.trans (Cert.FfnDown.final m c), ha⟩
  · refine (θ_run _ _ _).mono (fun r h c => ?_) (Cert.Reference7Ideal.Value.run (F := Ideal) m' g')
    obtain ⟨h0, ha⟩ := h c
    obtain ⟨a0, a1, a2, a3⟩ := hagree c
    rw [a0, a1, a2, a3] at h0
    exact ⟨h0.trans (Cert.FfnDown.Reference.eq _ _ _ _), ha⟩

/-- The pooling layer's output projection's backward pass: the reference ends with its arguments unchanged and no counter raised. -/
theorem frame_reference8 : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

/-- The pooling layer's output projection's backward pass: both programs end with the same arrays. -/
theorem out_proj_bwd1 : Cert.algebraic_Kernel8Ideal_Reference8Ideal := by
  intro m g m' g' _ hagree
  refine ⟨fun c => Cert.OutProjBwd1.arrA (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)),
    fun c => Cert.OutProjBwd1.arrB (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)), ?_, ?_⟩
  · refine (θ_run _ _ _).mono (fun r h c => ?_) (Cert.Kernel8Ideal.Value.run_blocks (F := Ideal) m g)
    obtain ⟨h0, h1, ha⟩ := h c
    exact ⟨h0.trans (Cert.OutProjBwd1.final2 m c), h1.trans (Cert.OutProjBwd1.final3 m c), ha⟩
  · refine (θ_run _ _ _).mono (fun r h c => ?_) (Cert.Reference8Ideal.Value.run (F := Ideal) m' g')
    obtain ⟨h0, h1, ha⟩ := h c
    obtain ⟨a0, a1⟩ := hagree c
    rw [a0, a1] at h0
    rw [a0, a1] at h1
    exact ⟨h0.trans (Cert.OutProjBwd1.Reference.eqA _ _), h1.trans (Cert.OutProjBwd1.Reference.eqB _ _), ha⟩

/-- The attention layer's output projection's backward pass: the reference ends with its arguments unchanged and no counter raised. -/
theorem frame_reference9 : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

/-- The attention layer's output projection's backward pass: both programs end with the same arrays. -/
theorem out_proj_bwd0 : Cert.algebraic_Kernel9Ideal_Reference9Ideal := by
  intro m g m' g' _ hagree
  refine ⟨fun c => Cert.OutProjBwd0.arrA (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)),
    fun c => Cert.OutProjBwd0.arrB (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)), ?_, ?_⟩
  · refine (θ_run _ _ _).mono (fun r h c => ?_) (Cert.Kernel9Ideal.Value.run_blocks (F := Ideal) m g)
    obtain ⟨h0, h1, ha⟩ := h c
    exact ⟨h0.trans (Cert.OutProjBwd0.final2 m c), h1.trans (Cert.OutProjBwd0.final3 m c), ha⟩
  · refine (θ_run _ _ _).mono (fun r h c => ?_) (Cert.Reference9Ideal.Value.run (F := Ideal) m' g')
    obtain ⟨h0, h1, ha⟩ := h c
    obtain ⟨a0, a1⟩ := hagree c
    rw [a0, a1] at h0
    rw [a0, a1] at h1
    exact ⟨h0.trans (Cert.OutProjBwd0.Reference.eqA _ _), h1.trans (Cert.OutProjBwd0.Reference.eqB _ _), ha⟩

/-- The output projection: the reference ends with its arguments unchanged and no counter raised. -/
theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The output projection: both programs end with the same arrays. -/
theorem out_proj : Cert.algebraic_Kernel10Ideal_Reference10Ideal := by
  intro m g m' g' _ hagree
  refine ⟨fun c => Cert.OutProj.arr (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3)), ?_, ?_⟩
  · refine (θ_run _ _ _).mono (fun r h c => ?_) (Cert.Kernel10Ideal.Value.run_blocks (F := Ideal) m g)
    obtain ⟨h0, ha⟩ := h c
    exact ⟨h0.trans (Cert.OutProj.final m c), ha⟩
  · refine (θ_run _ _ _).mono (fun r h c => ?_) (Cert.Reference10Ideal.Value.run (F := Ideal) m' g')
    obtain ⟨h0, ha⟩ := h c
    obtain ⟨a0, a1, a2, a3⟩ := hagree c
    rw [a0, a1, a2, a3] at h0
    exact ⟨h0.trans (Cert.OutProj.Reference.eq _ _ _ _), ha⟩

/-- The normed rows with the two mixers' input projections: the reference ends with its arguments unchanged and no counter raised. -/
theorem frame_reference11 : Cert.quiescent_Reference11Ideal := fun m ρ _ =>
  (θ_run Cert.Reference11Ideal.defs _ _).mono
    (fun r h => ⟨fun c => (h c).2.2.2, Idealize.ShloMosaic.sem_eq_zero_of_no_sems (by decide) r.2⟩)
    (Cert.Reference11Ideal.Value.run (F := Ideal) m ρ)

/-- The normed rows with the two mixers' input projections: both programs end with the same arrays. -/
theorem in_proj : Cert.algebraic_Kernel11Ideal_Reference11Ideal := by
  intro m g m' g' _ hagree
  refine ⟨fun c => Cert.InProj.arrH (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1)),
    fun c => Cert.InProj.arrP (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)),
    fun c => Cert.InProj.arrS (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)), ?_, ?_⟩
  · refine (θ_run _ _ _).mono (fun r h c => ?_) (Cert.Kernel11Ideal.Value.run_blocks (F := Ideal) m g)
    obtain ⟨h0, h1, h2, ha⟩ := h c
    exact ⟨h0.trans (Cert.InProj.final4 m c), h1.trans (Cert.InProj.final5 m c), h2.trans (Cert.InProj.final6 m c), ha⟩
  · refine (θ_run _ _ _).mono (fun r h c => ?_) (Cert.Reference11Ideal.Value.run (F := Ideal) m' g')
    obtain ⟨h0, h1, h2, ha⟩ := h c
    obtain ⟨a0, a1, a2⟩ := hagree c
    rw [a0, a1] at h0
    rw [a0, a1, a2] at h1
    rw [a0, a1, a2] at h2
    exact ⟨h0.trans (Cert.InProj.Reference.eqH _ _), h1.trans (Cert.InProj.Reference.eqP _ _ _), h2.trans (Cert.InProj.Reference.eqS _ _ _), ha⟩

/-- The output projection's weight gradient: the reference ends with its arguments unchanged and no counter raised. -/
theorem frame_reference12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The output projection's weight gradient: both programs end with the same arrays. -/
theorem dw_out : Cert.algebraic_Kernel12Ideal_Reference12Ideal := by
  intro m g m' g' _ hagree
  refine ⟨fun c => Cert.DwOut.arr (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1)), ?_, ?_⟩
  · refine (θ_run _ _ _).mono (fun r h c => ?_) (Cert.Kernel12Ideal.Value.run_blocks (F := Ideal) m g)
    obtain ⟨h0, ha⟩ := h c
    exact ⟨h0.trans (Cert.DwOut.final m c), ha⟩
  · refine (θ_run _ _ _).mono (fun r h c => ?_) (Cert.Reference12Ideal.Value.run (F := Ideal) m' g')
    obtain ⟨h0, ha⟩ := h c
    obtain ⟨a0, a1⟩ := hagree c
    rw [a0, a1] at h0
    exact ⟨h0.trans (Cert.DwOut.eq _ _), ha⟩

/-- The gating mixer's input weight gradient: the reference ends with its arguments unchanged and no counter raised. -/
theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- The gating mixer's input weight gradient: both programs end with the same arrays. -/
theorem dw_in_sgu : Cert.algebraic_Kernel13Ideal_Reference13Ideal := by
  intro m g m' g' _ hagree
  refine ⟨fun c => Cert.DwInSgu.arr (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1)), ?_, ?_⟩
  · refine (θ_run _ _ _).mono (fun r h c => ?_) (Cert.Kernel13Ideal.Value.run_blocks (F := Ideal) m g)
    obtain ⟨h0, ha⟩ := h c
    exact ⟨h0.trans (Cert.DwInSgu.final m c), ha⟩
  · refine (θ_run _ _ _).mono (fun r h c => ?_) (Cert.Reference13Ideal.Value.run (F := Ideal) m' g')
    obtain ⟨h0, ha⟩ := h c
    obtain ⟨a0, a1⟩ := hagree c
    rw [a0, a1] at h0
    exact ⟨h0.trans (Cert.DwInSgu.eq _ _), ha⟩

/-- The pooling mixer's input weight gradient: the reference ends with its arguments unchanged and no counter raised. -/
theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- The pooling mixer's input weight gradient: both programs end with the same arrays. -/
theorem dw_in_pool : Cert.algebraic_Kernel14Ideal_Reference14Ideal := by
  intro m g m' g' _ hagree
  refine ⟨fun c => Cert.DwInPool.arr (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1)), ?_, ?_⟩
  · refine (θ_run _ _ _).mono (fun r h c => ?_) (Cert.Kernel14Ideal.Value.run_blocks (F := Ideal) m g)
    obtain ⟨h0, ha⟩ := h c
    exact ⟨h0.trans (Cert.DwInPool.final m c), ha⟩
  · refine (θ_run _ _ _).mono (fun r h c => ?_) (Cert.Reference14Ideal.Value.run (F := Ideal) m' g')
    obtain ⟨h0, ha⟩ := h c
    obtain ⟨a0, a1⟩ := hagree c
    rw [a0, a1] at h0
    exact ⟨h0.trans (Cert.DwInPool.eq _ _), ha⟩

/-- The queries' projection's gradients: the reference ends with its arguments unchanged and no counter raised. -/
theorem frame_reference15 : Cert.quiescent_Reference15Ideal := fun m ρ _ =>
  (θ_run Cert.Reference15Ideal.defs _ _).mono
    (fun r h => ⟨fun c => (h c).2.2, Idealize.ShloMosaic.sem_eq_zero_of_no_sems (by decide) r.2⟩)
    (Cert.Reference15Ideal.Value.run (F := Ideal) m ρ)

/-- The queries' projection's gradients: both programs end with the same arrays. -/
theorem dw_in_q : Cert.algebraic_Kernel15Ideal_Reference15Ideal := by
  intro m g m' g' _ hagree
  refine ⟨fun c => Cert.DwInQ.arr (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1)),
    fun c => Cert.DwInQ.arrB (m ((c.tc : Thread Cert.Kernel15Ideal.nD Cert.Kernel15Ideal.τ).loc Cert.Kernel15Ideal.main_arg0)), ?_, ?_⟩
  · exact Cert.DwInQ.run m g
  · refine (θ_run _ _ _).mono (fun r h c => ?_) (Cert.Reference15Ideal.Value.run (F := Ideal) m' g')
    obtain ⟨h0, h1, ha⟩ := h c
    obtain ⟨a0, a1⟩ := hagree c
    rw [a0, a1] at h0
    rw [a0] at h1
    exact ⟨h0.trans (Cert.DwInQ.Reference.eq _ _), h1.trans (Cert.DwInQ.Reference.eqB _), ha⟩

/-- The keys' and values' projection's gradients: the reference ends with its arguments unchanged and no counter raised. -/
theorem frame_reference16 : Cert.quiescent_Reference16Ideal := fun m ρ _ =>
  (θ_run Cert.Reference16Ideal.defs _ _).mono
    (fun r h => ⟨fun c => (h c).2.2, Idealize.ShloMosaic.sem_eq_zero_of_no_sems (by decide) r.2⟩)
    (Cert.Reference16Ideal.Value.run (F := Ideal) m ρ)

/-- The keys' and values' projection's gradients: both programs end with the same arrays. -/
theorem dw_in_kv : Cert.algebraic_Kernel16Ideal_Reference16Ideal := by
  intro m g m' g' _ hagree
  refine ⟨fun c => Cert.DwInKv.arr (m ((c.tc : Thread Cert.Kernel16Ideal.nD Cert.Kernel16Ideal.τ).loc Cert.Kernel16Ideal.main_arg0))
      (m ((c.tc : Thread Cert.Kernel16Ideal.nD Cert.Kernel16Ideal.τ).loc Cert.Kernel16Ideal.main_arg1)),
    fun c => Cert.DwInKv.arrB (m ((c.tc : Thread Cert.Kernel16Ideal.nD Cert.Kernel16Ideal.τ).loc Cert.Kernel16Ideal.main_arg0)), ?_, ?_⟩
  · exact Cert.DwInKv.run m g
  · refine (θ_run _ _ _).mono (fun r h c => ?_) (Cert.Reference16Ideal.Value.run (F := Ideal) m' g')
    obtain ⟨h0, h1, ha⟩ := h c
    obtain ⟨a0, a1⟩ := hagree c
    rw [a0, a1] at h0
    rw [a0] at h1
    exact ⟨h0.trans (Cert.DwInKv.Reference.eq _ _), h1.trans (Cert.DwInKv.Reference.eqB _), ha⟩

/-- The gate and up projections' backward pass: the reference ends with its arguments unchanged and no counter raised. -/
theorem frame_reference19 : Cert.quiescent_Reference19Ideal := fun m ρ _ =>
  (θ_run Cert.Reference19Ideal.defs _ _).mono
    (fun r h => ⟨fun c => (h c).2.2, Idealize.ShloMosaic.sem_eq_zero_of_no_sems (by decide) r.2⟩)
    (Cert.Reference19Ideal.Value.run (F := Ideal) m ρ)

/-- The gate and up projections' backward pass: both programs end with the same arrays. -/
theorem ffn_up_bwd : Cert.algebraic_Kernel19Ideal_Reference19Ideal := by
  intro m g m' g' _ hagree
  refine ⟨fun c => Cert.FfnUpBwd.arrX (m ((c.tc : Thread Cert.Kernel19Ideal.nD Cert.Kernel19Ideal.τ).loc Cert.Kernel19Ideal.main_arg0))
      (m ((c.tc : Thread Cert.Kernel19Ideal.nD Cert.Kernel19Ideal.τ).loc Cert.Kernel19Ideal.main_arg1))
      (m ((c.tc : Thread Cert.Kernel19Ideal.nD Cert.Kernel19Ideal.τ).loc Cert.Kernel19Ideal.main_arg2))
      (m ((c.tc : Thread Cert.Kernel19Ideal.nD Cert.Kernel19Ideal.τ).loc Cert.Kernel19Ideal.main_arg3))
      (m ((c.tc : Thread Cert.Kernel19Ideal.nD Cert.Kernel19Ideal.τ).loc Cert.Kernel19Ideal.main_arg4))
      (m ((c.tc : Thread Cert.Kernel19Ideal.nD Cert.Kernel19Ideal.τ).loc Cert.Kernel19Ideal.main_arg5))
      (m ((c.tc : Thread Cert.Kernel19Ideal.nD Cert.Kernel19Ideal.τ).loc Cert.Kernel19Ideal.main_arg6)),
    fun c => Cert.FfnUpBwd.arrG (m ((c.tc : Thread Cert.Kernel19Ideal.nD Cert.Kernel19Ideal.τ).loc Cert.Kernel19Ideal.main_arg0))
      (m ((c.tc : Thread Cert.Kernel19Ideal.nD Cert.Kernel19Ideal.τ).loc Cert.Kernel19Ideal.main_arg1))
      (m ((c.tc : Thread Cert.Kernel19Ideal.nD Cert.Kernel19Ideal.τ).loc Cert.Kernel19Ideal.main_arg2))
      (m ((c.tc : Thread Cert.Kernel19Ideal.nD Cert.Kernel19Ideal.τ).loc Cert.Kernel19Ideal.main_arg3))
      (m ((c.tc : Thread Cert.Kernel19Ideal.nD Cert.Kernel19Ideal.τ).loc Cert.Kernel19Ideal.main_arg4)), ?_, ?_⟩
  · exact Cert.FfnUpBwd.run m g
  · refine (θ_run _ _ _).mono (fun r h c => ?_) (Cert.Reference19Ideal.Value.run (F := Ideal) m' g')
    obtain ⟨h0, h1, ha⟩ := h c
    obtain ⟨a0, a1, a2, a3, a4, a5, a6⟩ := hagree c
    unfold Cert.Reference19Ideal.Value.res_main_v46 at h0
    rw [a0, a1, a2, a3, a4, a5, a6] at h0
    rw [a0, a1, a2, a3, a4] at h1
    exact ⟨h0.trans (Cert.FfnUpBwd.Reference.eq0 _ _ _ _ _ _ _), h1.trans (Cert.FfnUpBwd.Reference.eq1 _ _ _ _ _), ha⟩

/-- The gating mixer: the reference ends with its arguments unchanged and no counter raised. -/
theorem frame_reference17 : Cert.quiescent_Reference17Ideal := fun m ρ _ =>
  (θ_run Cert.Reference17Ideal.defs _ _).mono
    (fun r h => ⟨fun c => (h c).2, Idealize.ShloMosaic.sem_eq_zero_of_no_sems (by decide) r.2⟩)
    (Cert.Reference17Ideal.Value.run (F := Ideal) m ρ)

/-- The gating mixer: both programs end with the same arrays. -/
theorem sgu_fwd : Cert.algebraic_Kernel17Ideal_Reference17Ideal := by
  intro m g m' g' _ hagree
  refine ⟨fun c => Cert.SguFwd.arr (m ((c.tc : Thread Cert.Kernel17Ideal.nD Cert.Kernel17Ideal.τ).loc Cert.Kernel17Ideal.main_arg0))
      (m ((c.tc : Thread Cert.Kernel17Ideal.nD Cert.Kernel17Ideal.τ).loc Cert.Kernel17Ideal.main_arg1))
      (m ((c.tc : Thread Cert.Kernel17Ideal.nD Cert.Kernel17Ideal.τ).loc Cert.Kernel17Ideal.main_arg2))
      (m ((c.tc : Thread Cert.Kernel17Ideal.nD Cert.Kernel17Ideal.τ).loc Cert.Kernel17Ideal.main_arg3))
      (m ((c.tc : Thread Cert.Kernel17Ideal.nD Cert.Kernel17Ideal.τ).loc Cert.Kernel17Ideal.main_arg4)), ?_, ?_⟩
  · refine (θ_run _ _ _).mono (fun r h c => ?_) (Cert.Kernel17Ideal.Value.run_blocks (F := Ideal) m g)
    obtain ⟨h0, ha⟩ := h c
    exact ⟨h0.trans (Cert.SguFwd.final m c), ha⟩
  · refine (θ_run _ _ _).mono (fun r h c => ?_) (Cert.Reference17Ideal.Value.run (F := Ideal) m' g')
    obtain ⟨h0, ha⟩ := h c
    obtain ⟨a0, a1, a2, a3, a4⟩ := hagree c
    replace h0 := h0.trans (Cert.SguFwd.Reference.ref_eq m' c)
    rw [a0, a1, a2, a3, a4] at h0
    exact ⟨h0.trans (Cert.SguFwd.Reference.eq _ _ _ _ _), ha⟩

/-- The gating mixer's backward pass: the reference ends with its arguments unchanged and no counter raised. -/
theorem frame_reference1 : Cert.quiescent_Reference1Ideal := fun m ρ _ =>
  (θ_run Cert.Reference1Ideal.defs _ _).mono
    (fun r h => ⟨fun c => (h c).2, Idealize.ShloMosaic.sem_eq_zero_of_no_sems (by decide) r.2⟩)
    (Cert.Reference1Ideal.Value.run (F := Ideal) m ρ)

/-- The gating mixer's backward pass: both programs end with the same gradient. -/
theorem sgu_bwd : Cert.algebraic_Kernel1Ideal_Reference1Ideal_pre_finite1 := by
  intro m g m' g' hpre hagree
  have hreal := fun c => Cert.SguBwd.Reference.reals _ _ _ _ _ _ (hpre c)
  refine ⟨fun c => Cert.SguBwd.arr (m ((c.tc : Thread Cert.Kernel1Ideal.nD Cert.Kernel1Ideal.τ).loc Cert.Kernel1Ideal.main_arg0))
      (m ((c.tc : Thread Cert.Kernel1Ideal.nD Cert.Kernel1Ideal.τ).loc Cert.Kernel1Ideal.main_arg1))
      (m ((c.tc : Thread Cert.Kernel1Ideal.nD Cert.Kernel1Ideal.τ).loc Cert.Kernel1Ideal.main_arg2))
      (m ((c.tc : Thread Cert.Kernel1Ideal.nD Cert.Kernel1Ideal.τ).loc Cert.Kernel1Ideal.main_arg3))
      (m ((c.tc : Thread Cert.Kernel1Ideal.nD Cert.Kernel1Ideal.τ).loc Cert.Kernel1Ideal.main_arg4))
      (m ((c.tc : Thread Cert.Kernel1Ideal.nD Cert.Kernel1Ideal.τ).loc Cert.Kernel1Ideal.main_arg5)), Cert.SguBwd.run m g, ?_⟩
  refine (θ_run _ _ _).mono (fun r h c => ?_) (Cert.Reference1Ideal.Value.run (F := Ideal) m' g')
  obtain ⟨h0, ha⟩ := h c
  obtain ⟨a0, a1, a2, a3, a4, a5⟩ := hagree c
  obtain ⟨⟨Z, hZ⟩, ⟨W, hW⟩, ⟨B, hB⟩, ⟨A, hA⟩, ⟨E, hE⟩, ⟨D, hD⟩⟩ := hreal c
  replace h0 := h0.trans (Cert.SguBwd.Reference.ref_eq m' c)
  rw [a0, a1, a2, a3, a4, a5] at h0
  refine ⟨h0.trans ?_, ha⟩
  beta_reduce
  rw [hZ, hW, hB, hA, hE, hD]
  exact Cert.SguBwd.Reference.eq Z W B A E D

/-- `adamw` on the attention layer's input weight: the reference ends with its arguments unchanged and no counter raised. -/
theorem frame_reference20 : Cert.quiescent_Reference20Ideal := fun m ρ _ =>
  (θ_run Cert.Reference20Ideal.defs _ _).mono
    (fun r h => ⟨fun c => (h c).2.2.2, Idealize.ShloMosaic.sem_eq_zero_of_no_sems (by decide) r.2⟩)
    (Cert.Reference20Ideal.Value.run (F := Ideal) m ρ)

/-- `adamw` on the attention layer's input weight: both programs end with the same three arrays. -/
theorem adamw_a_in : Cert.algebraic_Kernel20Ideal_Reference20Ideal := by
  intro m g m' g' _ hagree
  refine ⟨_, _, _, Cert.AdamIn.run m g, ?_⟩
  refine (θ_run _ _ _).mono (fun r h c => ?_) (Cert.Reference20Ideal.Value.run (F := Ideal) m' g')
  obtain ⟨h0, h1, h2, ha⟩ := h c
  obtain ⟨a0, a1, a2, a3⟩ := hagree c
  rw [a0, a1, a2, a3] at h0
  rw [a1, a2] at h1
  rw [a1, a3] at h2
  exact ⟨h0.trans (Cert.AdamIn.Reference.eqD _ _ _ _), h1.trans (Cert.AdamIn.Reference.eqM _ _), h2.trans (Cert.AdamIn.Reference.eqV _ _), ha⟩

/-- `adamw` on an output weight: the reference ends with its arguments unchanged and no counter raised. -/
theorem frame_reference21 : Cert.quiescent_Reference21Ideal := fun m ρ _ =>
  (θ_run Cert.Reference21Ideal.defs _ _).mono
    (fun r h => ⟨fun c => (h c).2.2.2, Idealize.ShloMosaic.sem_eq_zero_of_no_sems (by decide) r.2⟩)
    (Cert.Reference21Ideal.Value.run (F := Ideal) m ρ)

/-- `adamw` on an output weight: both programs end with the same three arrays. -/
theorem adamw_out : Cert.algebraic_Kernel21Ideal_Reference21Ideal := by
  intro m g m' g' _ hagree
  refine ⟨_, _, _, Cert.Kernel21Ideal.Value.run (F := Ideal) m g, ?_⟩
  refine (θ_run _ _ _).mono (fun r h c => ?_) (Cert.Reference21Ideal.Value.run (F := Ideal) m' g')
  obtain ⟨h0, h1, h2, ha⟩ := h c
  obtain ⟨a0, a1, a2, a3⟩ := hagree c
  rw [a0, a1, a2, a3] at h0
  rw [a1, a2] at h1
  rw [a1, a3] at h2
  exact ⟨h0.trans rfl, h1.trans rfl, h2.trans rfl, ha⟩

/-- `adamw` on the spatial layer's input weight: the reference ends with its arguments unchanged and no counter raised. -/
theorem frame_reference22 : Cert.quiescent_Reference22Ideal := fun m ρ _ =>
  (θ_run Cert.Reference22Ideal.defs _ _).mono
    (fun r h => ⟨fun c => (h c).2.2.2, Idealize.ShloMosaic.sem_eq_zero_of_no_sems (by decide) r.2⟩)
    (Cert.Reference22Ideal.Value.run (F := Ideal) m ρ)

/-- `adamw` on the spatial layer's input weight: both programs end with the same three arrays. -/
theorem adamw_c_in : Cert.algebraic_Kernel22Ideal_Reference22Ideal := by
  intro m g m' g' _ hagree
  refine ⟨_, _, _, Cert.Kernel22Ideal.Value.run (F := Ideal) m g, ?_⟩
  refine (θ_run _ _ _).mono (fun r h c => ?_) (Cert.Reference22Ideal.Value.run (F := Ideal) m' g')
  obtain ⟨h0, h1, h2, ha⟩ := h c
  obtain ⟨a0, a1, a2, a3⟩ := hagree c
  rw [a0, a1, a2, a3] at h0
  rw [a1, a2] at h1
  rw [a1, a3] at h2
  exact ⟨h0.trans rfl, h1.trans rfl, h2.trans rfl, ha⟩

/-- `adamw` on the gate and up weights: the reference ends with its arguments unchanged and no counter raised. -/
theorem frame_reference23 : Cert.quiescent_Reference23Ideal := fun m ρ _ =>
  (θ_run Cert.Reference23Ideal.defs _ _).mono
    (fun r h => ⟨fun c => (h c).2.2.2, Idealize.ShloMosaic.sem_eq_zero_of_no_sems (by decide) r.2⟩)
    (Cert.Reference23Ideal.Value.run (F := Ideal) m ρ)

/-- `adamw` on the gate and up weights: both programs end with the same three arrays. -/
theorem adamw_gate : Cert.algebraic_Kernel23Ideal_Reference23Ideal := by
  intro m g m' g' _ hagree
  refine ⟨_, _, _, Cert.AdamGate.run m g, ?_⟩
  refine (θ_run _ _ _).mono (fun r h c => ?_) (Cert.Reference23Ideal.Value.run (F := Ideal) m' g')
  obtain ⟨h0, h1, h2, ha⟩ := h c
  obtain ⟨a0, a1, a2, a3⟩ := hagree c
  rw [a0, a1, a2, a3] at h0
  rw [a1, a2] at h1
  rw [a1, a3] at h2
  exact ⟨h0.trans (Cert.AdamGate.Reference.eqD _ _ _ _), h1.trans (Cert.AdamGate.Reference.eqM _ _), h2.trans (Cert.AdamGate.Reference.eqV _ _), ha⟩

/-- `adamw` on the down weights: the reference ends with its arguments unchanged and no counter raised. -/
theorem frame_reference24 : Cert.quiescent_Reference24Ideal := fun m ρ _ =>
  (θ_run Cert.Reference24Ideal.defs _ _).mono
    (fun r h => ⟨fun c => (h c).2.2.2, Idealize.ShloMosaic.sem_eq_zero_of_no_sems (by decide) r.2⟩)
    (Cert.Reference24Ideal.Value.run (F := Ideal) m ρ)

/-- `adamw` on the down weights: both programs end with the same three arrays. -/
theorem adamw_down : Cert.algebraic_Kernel24Ideal_Reference24Ideal := by
  intro m g m' g' _ hagree
  refine ⟨_, _, _, Cert.Kernel24Ideal.Value.run (F := Ideal) m g, ?_⟩
  refine (θ_run _ _ _).mono (fun r h c => ?_) (Cert.Reference24Ideal.Value.run (F := Ideal) m' g')
  obtain ⟨h0, h1, h2, ha⟩ := h c
  obtain ⟨a0, a1, a2, a3⟩ := hagree c
  rw [a0, a1, a2, a3] at h0
  rw [a1, a2] at h1
  rw [a1, a3] at h2
  exact ⟨h0.trans rfl, h1.trans rfl, h2.trans rfl, ha⟩

theorem claim : Cert.Claim := ⟨Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel19.Gen.facts,
  Cert.Kernel19Ideal.Gen.facts,
  Cert.Reference19Ideal.Gen.facts,
  Cert.Kernel17.Gen.facts,
  Cert.Kernel17Ideal.Gen.facts,
  Cert.Reference17Ideal.Gen.facts,
  Cert.Kernel1.Gen.facts,
  Cert.Kernel1Ideal.Gen.facts,
  Cert.Reference1Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Pre_finite2.Gen.facts,
  Cert.Pre_finite1.Gen.facts,
  fun m ρ _ => Cert.Kernel2.Gen.frame m ρ,
  fun m ρ _ => Cert.Kernel2Ideal.Gen.frame m ρ,
  fun m ρ _ => Cert.Kernel2Ideal.Gen.frame m ρ,
  Cert.Proof.frame_reference2,
  fun m ρ _ => Cert.Proof.frame_reference2 m ρ trivial,
  fun m ρ _ => Cert.Kernel3.Gen.frame m ρ,
  fun m ρ _ => Cert.Kernel3Ideal.Gen.frame m ρ,
  Cert.Proof.frame_reference3,
  fun m ρ _ => Cert.Kernel4.Gen.frame m ρ,
  fun m ρ _ => Cert.Kernel4Ideal.Gen.frame m ρ,
  Cert.Proof.frame_reference4,
  fun m ρ _ => Cert.Kernel5.Gen.frame m ρ,
  fun m ρ _ => Cert.Kernel5Ideal.Gen.frame m ρ,
  Cert.Proof.frame_reference5,
  fun m ρ _ => Cert.Kernel6.Gen.frame m ρ,
  fun m ρ _ => Cert.Kernel6Ideal.Gen.frame m ρ,
  Cert.Proof.frame_reference6,
  fun m ρ _ => Cert.Kernel7.Gen.frame m ρ,
  fun m ρ _ => Cert.Kernel7Ideal.Gen.frame m ρ,
  Cert.Proof.frame_reference7,
  fun m ρ _ => Cert.Kernel8.Gen.frame m ρ,
  fun m ρ _ => Cert.Kernel8Ideal.Gen.frame m ρ,
  Cert.Proof.frame_reference8,
  fun m ρ _ => Cert.Kernel9.Gen.frame m ρ,
  fun m ρ _ => Cert.Kernel9Ideal.Gen.frame m ρ,
  Cert.Proof.frame_reference9,
  fun m ρ _ => Cert.Kernel10.Gen.frame m ρ,
  fun m ρ _ => Cert.Kernel10Ideal.Gen.frame m ρ,
  Cert.Proof.frame_reference10,
  fun m ρ _ => Cert.Kernel11.Gen.frame m ρ,
  fun m ρ _ => Cert.Kernel11Ideal.Gen.frame m ρ,
  Cert.Proof.frame_reference11,
  fun m ρ _ => Cert.Kernel12.Gen.frame m ρ,
  fun m ρ _ => Cert.Kernel12Ideal.Gen.frame m ρ,
  Cert.Proof.frame_reference12,
  fun m ρ _ => Cert.Kernel13.Gen.frame m ρ,
  fun m ρ _ => Cert.Kernel13Ideal.Gen.frame m ρ,
  Cert.Proof.frame_reference13,
  fun m ρ _ => Cert.Kernel14.Gen.frame m ρ,
  fun m ρ _ => Cert.Kernel14Ideal.Gen.frame m ρ,
  Cert.Proof.frame_reference14,
  fun m ρ _ => Cert.Kernel15.Gen.frame m ρ,
  fun m ρ _ => Cert.Kernel15Ideal.Gen.frame m ρ,
  Cert.Proof.frame_reference15,
  fun m ρ _ => Cert.Kernel16.Gen.frame m ρ,
  fun m ρ _ => Cert.Kernel16Ideal.Gen.frame m ρ,
  Cert.Proof.frame_reference16,
  fun m ρ _ => Cert.Kernel19.Gen.frame m ρ,
  fun m ρ _ => Cert.Kernel19Ideal.Gen.frame m ρ,
  Cert.Proof.frame_reference19,
  fun m ρ _ => Cert.Kernel17.Gen.frame m ρ,
  fun m ρ _ => Cert.Kernel17Ideal.Gen.frame m ρ,
  Cert.Proof.frame_reference17,
  fun m ρ _ => Cert.SguBwdP.frame m ρ,
  fun m ρ _ => Cert.SguBwd.frame m ρ,
  fun m ρ _ => Cert.SguBwd.frame m ρ,
  Cert.Proof.frame_reference1,
  fun m ρ _ => Cert.Proof.frame_reference1 m ρ trivial,
  fun m ρ _ => Cert.Kernel20.Gen.frame m ρ,
  fun m ρ _ => Cert.Kernel20Ideal.Gen.frame m ρ,
  Cert.Proof.frame_reference20,
  fun m ρ _ => Cert.Kernel21.Gen.frame m ρ,
  fun m ρ _ => Cert.Kernel21Ideal.Gen.frame m ρ,
  Cert.Proof.frame_reference21,
  fun m ρ _ => Cert.Kernel22.Gen.frame m ρ,
  fun m ρ _ => Cert.Kernel22Ideal.Gen.frame m ρ,
  Cert.Proof.frame_reference22,
  fun m ρ _ => Cert.Kernel23.Gen.frame m ρ,
  fun m ρ _ => Cert.Kernel23Ideal.Gen.frame m ρ,
  Cert.Proof.frame_reference23,
  fun m ρ _ => Cert.Kernel24.Gen.frame m ρ,
  fun m ρ _ => Cert.Kernel24Ideal.Gen.frame m ρ,
  Cert.Proof.frame_reference24,
  trivial,
  Cert.Proof.ffn_down_bwd,
  trivial,
  Cert.Proof.in_proj_bwd,
  trivial,
  Cert.Proof.dw_down,
  trivial,
  Cert.Proof.dw_gate,
  trivial,
  Cert.Proof.ffn_gate_up,
  trivial,
  Cert.Proof.ffn_down,
  trivial,
  Cert.Proof.out_proj_bwd1,
  trivial,
  Cert.Proof.out_proj_bwd0,
  trivial,
  Cert.Proof.out_proj,
  trivial,
  Cert.Proof.in_proj,
  trivial,
  Cert.Proof.dw_out,
  trivial,
  Cert.Proof.dw_in_sgu,
  trivial,
  Cert.Proof.dw_in_pool,
  trivial,
  Cert.Proof.dw_in_q,
  trivial,
  Cert.Proof.dw_in_kv,
  trivial,
  Cert.Proof.ffn_up_bwd,
  trivial,
  Cert.Proof.sgu_fwd,
  ⟨IdealRules.named_const.statement _ _ _ _ _ rfl, IdealRules.named_const.statement _ _ _ _ _ rfl⟩,
  Cert.Proof.sgu_bwd,
  trivial,
  Cert.Proof.adamw_a_in,
  trivial,
  Cert.Proof.adamw_out,
  trivial,
  Cert.Proof.adamw_c_in,
  trivial,
  Cert.Proof.adamw_gate,
  trivial,
  Cert.Proof.adamw_down⟩

end Cert.Proof

end
